-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries_and_keys [hPre_finite_queries_and_keys : Cert.Pre_finite_queries_and_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries_and_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_queries_and_keys [hPre_finite_queries_and_keys : Cert.Pre_finite_queries_and_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_queries_and_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_queries_and_keys [hAttnIdeal : Cert.AttnIdeal.Facts] [hPre_finite_queries_and_keys : Cert.Pre_finite_queries_and_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries_and_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_queries_and_keys [hAttnRefIdeal : Cert.AttnRefIdeal.Facts] [hPre_finite_queries_and_keys : Cert.Pre_finite_queries_and_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_queries_and_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8))
      ∧ r.2.sem = fun _ => 0)

def preserves_Attn_AttnIdeal : Prop :=
  True

def algebraic_AttnIdeal_AttnRefIdeal_pre_finite_queries_and_keys [hAttnIdeal : Cert.AttnIdeal.Facts] [hAttnRefIdeal : Cert.AttnRefIdeal.Facts] [hPre_finite_queries_and_keys : Cert.Pre_finite_queries_and_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_queries_and_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v22) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v47) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_InProj_InProjIdeal : Prop :=
  IdealRules.named_const.Statement Cert.InProjIdeal.κ "q_scale" .f32 0x3E0293EE#32 (((Real.sqrt 128)⁻¹ * (Real.log 2)⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)) →
    ∃ (v0 : (c : Dev Cert.InProjIdeal.nD) → Buf (Elt Ideal) ((c.tc : Thread Cert.InProjIdeal.nD Cert.InProjIdeal.τ).loc Cert.InProjIdeal.main_v106_0)) (v1 : (c : Dev Cert.InProjIdeal.nD) → Buf (Elt Ideal) ((c.tc : Thread Cert.InProjIdeal.nD Cert.InProjIdeal.τ).loc Cert.InProjIdeal.main_v106_1)) (v2 : (c : Dev Cert.InProjIdeal.nD) → Buf (Elt Ideal) ((c.tc : Thread Cert.InProjIdeal.nD Cert.InProjIdeal.τ).loc Cert.InProjIdeal.main_v106_2)) (v3 : (c : Dev Cert.InProjIdeal.nD) → Buf (Elt Ideal) ((c.tc : Thread Cert.InProjIdeal.nD Cert.InProjIdeal.τ).loc Cert.InProjIdeal.main_v106_3)) (v4 : (c : Dev Cert.InProjIdeal.nD) → Buf (Elt Ideal) ((c.tc : Thread Cert.InProjIdeal.nD Cert.InProjIdeal.τ).loc Cert.InProjIdeal.main_v106_4)) (v5 : (c : Dev Cert.InProjIdeal.nD) → Buf (Elt Ideal) ((c.tc : Thread Cert.InProjIdeal.nD Cert.InProjIdeal.τ).loc Cert.InProjIdeal.main_v106_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v106_0) = v0 c
          ∧ r.2.mem ((c.tc : Thread Cert.InProjIdeal.nD Cert.InProjIdeal.τ).loc Cert.InProjIdeal.main_v106_1) = v1 c
          ∧ r.2.mem ((c.tc : Thread Cert.InProjIdeal.nD Cert.InProjIdeal.τ).loc Cert.InProjIdeal.main_v106_2) = v2 c
          ∧ r.2.mem ((c.tc : Thread Cert.InProjIdeal.nD Cert.InProjIdeal.τ).loc Cert.InProjIdeal.main_v106_3) = v3 c
          ∧ r.2.mem ((c.tc : Thread Cert.InProjIdeal.nD Cert.InProjIdeal.τ).loc Cert.InProjIdeal.main_v106_4) = v4 c
          ∧ r.2.mem ((c.tc : Thread Cert.InProjIdeal.nD Cert.InProjIdeal.τ).loc Cert.InProjIdeal.main_v106_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v184) = v0 c
          ∧ r.2.mem ((c.tc : Thread Cert.InProjRefIdeal.nD Cert.InProjRefIdeal.τ).loc Cert.InProjRefIdeal.main_v185) = v1 c
          ∧ r.2.mem ((c.tc : Thread Cert.InProjRefIdeal.nD Cert.InProjRefIdeal.τ).loc Cert.InProjRefIdeal.main_v187) = v2 c
          ∧ r.2.mem ((c.tc : Thread Cert.InProjRefIdeal.nD Cert.InProjRefIdeal.τ).loc Cert.InProjRefIdeal.main_v189) = v3 c
          ∧ r.2.mem ((c.tc : Thread Cert.InProjRefIdeal.nD Cert.InProjRefIdeal.τ).loc Cert.InProjRefIdeal.main_v191) = v4 c
          ∧ r.2.mem ((c.tc : Thread Cert.InProjRefIdeal.nD Cert.InProjRefIdeal.τ).loc Cert.InProjRefIdeal.main_v193) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)) →
    ∃ (v0 : (c : Dev Cert.SampleIdeal.nD) → Buf (Elt Ideal) ((c.tc : Thread Cert.SampleIdeal.nD Cert.SampleIdeal.τ).loc Cert.SampleIdeal.main_v9)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v9) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v47) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hSample : Cert.Sample.Facts) (hSampleIdeal : Cert.SampleIdeal.Facts) (hSampleRefIdeal : Cert.SampleRefIdeal.Facts) (hPre_finite_queries_and_keys : Cert.Pre_finite_queries_and_keys.Facts),
    quiescent_Attn (hAttn := hAttn)
    ∧ quiescent_AttnIdeal (hAttnIdeal := hAttnIdeal)
    ∧ quiescent_AttnIdeal_pre_finite_queries_and_keys (hAttnIdeal := hAttnIdeal) (hPre_finite_queries_and_keys := hPre_finite_queries_and_keys)
    ∧ quiescent_AttnRefIdeal (hAttnRefIdeal := hAttnRefIdeal)
    ∧ quiescent_AttnRefIdeal_pre_finite_queries_and_keys (hAttnRefIdeal := hAttnRefIdeal) (hPre_finite_queries_and_keys := hPre_finite_queries_and_keys)
    ∧ quiescent_Mlp (hMlp := hMlp)
    ∧ quiescent_MlpIdeal (hMlpIdeal := hMlpIdeal)
    ∧ quiescent_MlpRefIdeal (hMlpRefIdeal := hMlpRefIdeal)
    ∧ quiescent_InProj (hInProj := hInProj)
    ∧ quiescent_InProjIdeal (hInProjIdeal := hInProjIdeal)
    ∧ quiescent_InProjRefIdeal (hInProjRefIdeal := hInProjRefIdeal)
    ∧ quiescent_Sample (hSample := hSample)
    ∧ quiescent_SampleIdeal (hSampleIdeal := hSampleIdeal)
    ∧ quiescent_SampleRefIdeal (hSampleRefIdeal := hSampleRefIdeal)
    ∧ preserves_Attn_AttnIdeal
    ∧ algebraic_AttnIdeal_AttnRefIdeal_pre_finite_queries_and_keys (hAttnIdeal := hAttnIdeal) (hAttnRefIdeal := hAttnRefIdeal) (hPre_finite_queries_and_keys := hPre_finite_queries_and_keys)
    ∧ preserves_Mlp_MlpIdeal
    ∧ algebraic_MlpIdeal_MlpRefIdeal (hMlpIdeal := hMlpIdeal) (hMlpRefIdeal := hMlpRefIdeal)
    ∧ preserves_InProj_InProjIdeal
    ∧ algebraic_InProjIdeal_InProjRefIdeal (hInProjIdeal := hInProjIdeal) (hInProjRefIdeal := hInProjRefIdeal)
    ∧ preserves_Sample_SampleIdeal
    ∧ algebraic_SampleIdeal_SampleRefIdeal (hSampleIdeal := hSampleIdeal) (hSampleRefIdeal := hSampleRefIdeal)
-- ==== Pre_finite_queries_and_keys.lean ====
abbrev S8x8192x512 : Shape := ⟨3, ![8, 8192, 512]⟩
abbrev S8x8192x256 : Shape := ⟨3, ![8, 8192, 256]⟩
abbrev S256x65536 : Shape := ⟨2, ![256, 65536]⟩
abbrev S8x8192x768 : Shape := ⟨3, ![8, 8192, 768]⟩
abbrev S_ : Shape := ⟨0, ![]⟩

class Facts : Prop where
  concatenates_S8x8192x512_S8x8192x256_S8x8192x768_d2 : Shape.Concatenates [S8x8192x512, S8x8192x256] S8x8192x768 2
  bcast_S_S8x8192x768 : S_.BroadcastsInDim S8x8192x768 (![] : Fin 0 → Fin S8x8192x768.rank)

variable [Facts]

def fn {F : FTy → Type} [FloatOps F] (main_arg0 : FVec F S8x8192x512 .bf16) (main_arg1 : FVec F S8x8192x256 .bf16) (main_arg2 : FVec F S256x65536 .bf16) : IVec S8x8192x768 1 :=
  let main_v0 : FVec F S8x8192x768 .bf16 := (fun a b => concatenate S8x8192x768 2 [⟨S8x8192x512, a⟩, ⟨S8x8192x256, b⟩] concatenates_S8x8192x512_S8x8192x256_S8x8192x768_d2) main_arg0 main_arg1
  let main_v1 : FVec F S8x8192x768 .bf16 := Host.absf main_v0
  let main_cst : FVec F S_ .bf16 := constant S_ .bf16 0x7F80#16
  let main_v2 : FVec F S8x8192x768 .bf16 := broadcastInDim S8x8192x768 ![] bcast_S_S8x8192x768 main_cst
  let main_v3 : IVec S8x8192x768 1 := cmpf .olt main_v1 main_v2
  main_v3
-- ==== Attn.lean ====
abbrev S8x8192x512 : Shape := ⟨3, ![8, 8192, 512]⟩
abbrev S8x8192x256 : Shape := ⟨3, ![8, 8192, 256]⟩
abbrev S256x65536 : Shape := ⟨2, ![256, 65536]⟩
abbrev S1x1024x256 : Shape := ⟨3, ![1, 1024, 256]⟩
abbrev S1x8192x128 : Shape := ⟨3, ![1, 8192, 128]⟩
abbrev S128x8192 : Shape := ⟨2, ![128, 8192]⟩
abbrev S1x2048 : Shape := ⟨2, ![1, 2048]⟩
abbrev S144x2048 : Shape := ⟨2, ![144, 2048]⟩
abbrev S1024x2048 : Shape := ⟨2, ![1024, 2048]⟩
abbrev S1x1024x128 : Shape := ⟨3, ![1, 1024, 128]⟩
abbrev S1024x128 : Shape := ⟨2, ![1024, 128]⟩
abbrev S2048x128 : Shape := ⟨2, ![2048, 128]⟩
abbrev S16x1024 : Shape := ⟨2, ![16, 1024]⟩
abbrev S2048 : Shape := ⟨1, ![2048]⟩
abbrev S128x1024 : Shape := ⟨2, ![128, 1024]⟩
abbrev S144x1024 : Shape := ⟨2, ![144, 1024]⟩
abbrev S128x2048 : Shape := ⟨2, ![128, 2048]⟩

abbrev nBuf : Space → Nat
  | .hbm => 4
  | .vmem => 12
  | .smem => 0
  | _ => 0

abbrev bufTy : (tb : Table) → Fin (tcTables nBuf tb) → BufTy
  | .hbm, ⟨0, _⟩ => ⟨S8x8192x512, .bf16⟩
  | .hbm, ⟨1, _⟩ => ⟨S8x8192x256, .bf16⟩
  | .hbm, ⟨2, _⟩ => ⟨S256x65536, .bf16⟩
  | .hbm, ⟨3, _⟩ => ⟨S8x8192x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x8192x128, .bf16⟩
  | .local _ .vmem, ⟨3, _⟩ => ⟨S1x8192x128, .bf16⟩
  | .local _ .vmem, ⟨4, _⟩ => ⟨S128x8192, .bf16⟩
  | .local _ .vmem, ⟨5, _⟩ => ⟨S128x8192, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x2048, .f32⟩
  | .local _ .vmem, ⟨9, _⟩ => ⟨S144x2048, .f32⟩
  | .local _ .vmem, ⟨10, _⟩ => ⟨S1024x2048, .f32⟩
  | .local _ .vmem, ⟨11, _⟩ => ⟨S1024x2048, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

@[reducible] def k0_t1_loop : Scf.Loop 32 :=
  let c0_i32 : BitVec 32 := 0#32
  let c3_i32 : BitVec 32 := 3#32
  let v20 : BitVec 32 := Scalar.addi c0_i32 c3_i32
  let c1_i32 : BitVec 32 := 1#32
  ⟨c0_i32, v20, c1_i32⟩
def k0_mult1 (k0_t1 : Fin k0_t1_loop.trips) : BitVec 32 :=
  let c2_i32 : BitVec 32 := 2#32
  let c0_i32 : BitVec 32 := 0#32
  let c1_i32 : BitVec 32 := 1#32
  let arg11 : BitVec 32 := Scf.iv c0_i32 c1_i32 k0_t1
  let v93 : BitVec 32 := Scalar.muli c2_i32 arg11
  let c1_i32_61 : BitVec 32 := 1#32
  let v94 : BitVec 32 := Scalar.addi v93 c1_i32_61
  let c1024_i32 : BitVec 32 := 1024#32
  let v95 : BitVec 32 := Scalar.muli v94 c1024_i32
  v95
def k0_off1 (k0_t1 : Fin k0_t1_loop.trips) (c1_i32_61 : BitVec 32) : Fin 3 → Nat :=
  let c0_62 : Index := 0#32
  let c2_i32 : BitVec 32 := 2#32
  let c0_i32 : BitVec 32 := 0#32
  let c1_i32 : BitVec 32 := 1#32
  let arg11 : BitVec 32 := Scf.iv c0_i32 c1_i32 k0_t1
  let v93 : BitVec 32 := Scalar.muli c2_i32 arg11
  let v94 : BitVec 32 := Scalar.addi v93 c1_i32_61
  let c1024_i32 : BitVec 32 := 1024#32
  let v95 : BitVec 32 := Scalar.muli v94 c1024_i32
  let v96 : BitVec 32 := v95
  let v97 : Index := Scalar.indexCast v96
  let c0_63 : Index := 0#32
  ![0, v97.toNat, 0]
def k0_mult2 (k0_t1 : Fin k0_t1_loop.trips) : BitVec 32 :=
  let c2_i32_67 : BitVec 32 := 2#32
  let c0_i32 : BitVec 32 := 0#32
  let c1_i32 : BitVec 32 := 1#32
  let arg11 : BitVec 32 := Scf.iv c0_i32 c1_i32 k0_t1
  let v104 : BitVec 32 := Scalar.muli c2_i32_67 arg11
  let c1024_i32_68 : BitVec 32 := 1024#32
  let v105 : BitVec 32 := Scalar.muli v104 c1024_i32_68
  v105
def k0_off2 (k0_t1 : Fin k0_t1_loop.trips) : Fin 2 → Nat :=
  let c0_76 : Index := 0#32
  let c2_i32_67 : BitVec 32 := 2#32
  let c0_i32 : BitVec 32 := 0#32
  let c1_i32 : BitVec 32 := 1#32
  let arg11 : BitVec 32 := Scf.iv c0_i32 c1_i32 k0_t1
  let v104 : BitVec 32 := Scalar.muli c2_i32_67 arg11
  let c1024_i32_68 : BitVec 32 := 1024#32
  let v105 : BitVec 32 := Scalar.muli v104 c1024_i32_68
  let v106 : BitVec 32 := v105
  let v119 : Index := Scalar.indexCast v106
  ![0, v119.toNat]
def k0_mult3 (k0_t1 : Fin k0_t1_loop.trips) : BitVec 32 :=
  let c2_i32_84 : BitVec 32 := 2#32
  let c0_i32 : BitVec 32 := 0#32
  let c1_i32 : BitVec 32 := 1#32
  let arg11 : BitVec 32 := Scf.iv c0_i32 c1_i32 k0_t1
  let v133 : BitVec 32 := Scalar.muli c2_i32_84 arg11
  let c2_i32_85 : BitVec 32 := 2#32
  let v134 : BitVec 32 := Scalar.addi v133 c2_i32_85
  let c1024_i32_86 : BitVec 32 := 1024#32
  let v135 : BitVec 32 := Scalar.muli v134 c1024_i32_86
  v135
def k0_mult4 (k0_t1 : Fin k0_t1_loop.trips) : BitVec 32 :=
  let c2_i32_92 : BitVec 32 := 2#32
  let c0_i32 : BitVec 32 := 0#32
  let c1_i32 : BitVec 32 := 1#32
  let arg11 : BitVec 32 := Scf.iv c0_i32 c1_i32 k0_t1
  let v144 : BitVec 32 := Scalar.muli c2_i32_92 arg11
  let c1_i32_93 : BitVec 32 := 1#32
  let v145 : BitVec 32 := Scalar.addi v144 c1_i32_93
  let c1024_i32_94 : BitVec 32 := 1024#32
  let v146 : BitVec 32 := Scalar.muli v145 c1024_i32_94
  v146
def k0_off3 (k0_t1 : Fin k0_t1_loop.trips) : Fin 2 → Nat :=
  let c0_102 : Index := 0#32
  let c2_i32_92 : BitVec 32 := 2#32
  let c0_i32 : BitVec 32 := 0#32
  let c1_i32 : BitVec 32 := 1#32
  let arg11 : BitVec 32 := Scf.iv c0_i32 c1_i32 k0_t1
  let v144 : BitVec 32 := Scalar.muli c2_i32_92 arg11
  let c1_i32_93 : BitVec 32 := 1#32
  let v145 : BitVec 32 := Scalar.addi v144 c1_i32_93
  let c1024_i32_94 : BitVec 32 := 1024#32
  let v146 : BitVec 32 := Scalar.muli v145 c1024_i32_94
  let v147 : BitVec 32 := v146
  let v160 : Index := Scalar.indexCast v147
  ![0, v160.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S8x8192x512 : Shape := ⟨3, ![8, 8192, 512]⟩
abbrev S8x8192x256 : Shape := ⟨3, ![8, 8192, 256]⟩
abbrev S256x65536 : Shape := ⟨2, ![256, 65536]⟩
abbrev S8x8192x2x2x128 : Shape := ⟨5, ![8, 8192, 2, 2, 128]⟩
abbrev S8x8192x2x128 : Shape := ⟨4, ![8, 8192, 2, 128]⟩
abbrev S65536x256 : Shape := ⟨2, ![65536, 256]⟩
abbrev S8x2x8192x8192x2 : Shape := ⟨5, ![8, 2, 8192, 8192, 2]⟩
abbrev S8x2x2x8192x8192 : Shape := ⟨5, ![8, 2, 2, 8192, 8192]⟩
abbrev S_ : Shape := ⟨0, ![]⟩
abbrev S8x2x2x8192 : Shape := ⟨4, ![8, 2, 2, 8192]⟩
abbrev S8x2x2x8192x1 : Shape := ⟨5, ![8, 2, 2, 8192, 1]⟩
abbrev S8x2x128x2x8192 : Shape := ⟨5, ![8, 2, 128, 2, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x8192x256, .bf16⟩
  | .hbm, ⟨2, _⟩ => ⟨S256x65536, .bf16⟩
  | .hbm, ⟨3, _⟩ => ⟨S8x8192x2x2x128, .bf16⟩
  | .hbm, ⟨4, _⟩ => ⟨S8x8192x2x128, .bf16⟩
  | .hbm, ⟨5, _⟩ => ⟨S65536x256, .bf16⟩
  | .hbm, ⟨6, _⟩ => ⟨S8x8192x2x128, .bf16⟩
  | .hbm, ⟨7, _⟩ => ⟨S8x2x8192x8192x2, .f32⟩
  | .hbm, ⟨8, _⟩ => ⟨S8x2x2x8192x8192, .f32⟩
  | .hbm, ⟨9, _⟩ => ⟨S8x2x2x8192x8192, .bf16⟩
  | .hbm, ⟨10, _⟩ => ⟨S8x2x2x8192x8192, .f32⟩
  | .hbm, ⟨11, _⟩ => ⟨S_, .f32⟩
  | .hbm, ⟨12, _⟩ => ⟨S8x2x2x8192, .f32⟩
  | .hbm, ⟨13, _⟩ => ⟨S8x2x2x8192x1, .f32⟩
  | .hbm, ⟨14, _⟩ => ⟨S8x2x2x8192x8192, .f32⟩
  | .hbm, ⟨15, _⟩ => ⟨S8x2x2x8192x8192, .f32⟩
  | .hbm, ⟨16, _⟩ => ⟨S_, .f32⟩
  | .hbm, ⟨17, _⟩ => ⟨S8x2x2x8192x8192, .f32⟩
  | .hbm, ⟨18, _⟩ => ⟨S8x2x2x8192x8192, .f32⟩
  | .hbm, ⟨19, _⟩ => ⟨S_, .f32⟩
  | .hbm, ⟨20, _⟩ => ⟨S8x2x2x8192, .f32⟩
  | .hbm, ⟨21, _⟩ => ⟨S8x2x2x8192x1, .f32⟩
  | .hbm, ⟨22, _⟩ => ⟨S8x2x2x8192x8192, .f32⟩
  | .hbm, ⟨23, _⟩ => ⟨S8x2x2x8192x8192, .f32⟩
  | .hbm, ⟨24, _⟩ => ⟨S8x2x2x8192x8192, .bf16⟩
  | .hbm, ⟨25, _⟩ => ⟨S8x2x128x2x8192, .f32⟩
  | .hbm, ⟨26, _⟩ => ⟨S8x8192x2x2x128, .f32⟩
  | .hbm, ⟨27, _⟩ => ⟨S8x8192x2x2x128, .bf16⟩
  | .hbm, ⟨28, _⟩ => ⟨S8x8192x512, .bf16⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Mlp.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1x1024, .f32⟩
  | .hbm, ⟨14, _⟩ => ⟨S1x1024, .f32⟩
  | .hbm, ⟨15, _⟩ => ⟨S1024x4096, .bf16⟩
  | .hbm, ⟨16, _⟩ => ⟨S4096x1024, .bf16⟩
  | .hbm, ⟨17, _⟩ => ⟨S1x1024, .f32⟩
  | .hbm, ⟨18, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpIdeal.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1x1024, .f32⟩
  | .hbm, ⟨14, _⟩ => ⟨S1x1024, .f32⟩
  | .hbm, ⟨15, _⟩ => ⟨S1024x4096, .bf16⟩
  | .hbm, ⟨16, _⟩ => ⟨S4096x1024, .bf16⟩
  | .hbm, ⟨17, _⟩ => ⟨S1x1024, .f32⟩
  | .hbm, ⟨18, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpRefIdeal.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 68
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S65536x1024, .bf16⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1, .f32⟩
  | .hbm, ⟨40, _⟩ => ⟨S65536x1024, .f32⟩
  | .hbm, ⟨41, _⟩ => ⟨S65536x1024, .f32⟩
  | .hbm, ⟨42, _⟩ => ⟨S1x1024, .f32⟩
  | .hbm, ⟨43, _⟩ => ⟨S65536x1024, .f32⟩
  | .hbm, ⟨44, _⟩ => ⟨S65536x1024, .f32⟩
  | .hbm, ⟨45, _⟩ => ⟨S65536x4096, .f32⟩
  | .hbm, ⟨46, _⟩ => ⟨S_, .f32⟩
  | .hbm, ⟨47, _⟩ => ⟨S65536x4096, .f32⟩
  | .hbm, ⟨48, _⟩ => ⟨S65536x4096, .f32⟩
  | .hbm, ⟨49, _⟩ => ⟨S65536x4096, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S65536x1, .f32⟩
  | .hbm, ⟨62, _⟩ => ⟨S65536x1024, .f32⟩
  | .hbm, ⟨63, _⟩ => ⟨S65536x1024, .f32⟩
  | .hbm, ⟨64, _⟩ => ⟨S1x1024, .f32⟩
  | .hbm, ⟨65, _⟩ => ⟨S65536x1024, .f32⟩
  | .hbm, ⟨66, _⟩ => ⟨S65536x1024, .f32⟩
  | .hbm, ⟨67, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== InProj.lean ====
abbrev S65536x1024 : Shape := ⟨2, ![65536, 1024]⟩
abbrev S1024 : Shape := ⟨1, ![1024]⟩
abbrev S1024x3088 : Shape := ⟨2, ![1024, 3088]⟩
abbrev S4 : Shape := ⟨1, ![4]⟩
abbrev S128 : Shape := ⟨1, ![128]⟩
abbrev S8192x32 : Shape := ⟨2, ![8192, 32]⟩
abbrev S1024x1536 : Shape := ⟨2, ![1024, 1536]⟩
abbrev S1024x512 : Shape := ⟨2, ![1024, 512]⟩
abbrev S1024x4 : Shape := ⟨2, ![1024, 4]⟩
abbrev S1024x256 : Shape := ⟨2, ![1024, 256]⟩
abbrev S_ : Shape := ⟨0, ![]⟩
abbrev S1024x4x1 : Shape := ⟨3, ![1024, 4, 1]⟩
abbrev S1024x4x8 : Shape := ⟨3, ![1024, 4, 8]⟩
abbrev S1024x32 : Shape := ⟨2, ![1024, 32]⟩
abbrev S32x1024 : Shape := ⟨2, ![32, 1024]⟩
abbrev S4x1 : Shape := ⟨2, ![4, 1]⟩
abbrev S4x8 : Shape := ⟨2, ![4, 8]⟩
abbrev S32x1 : Shape := ⟨2, ![32, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1024x4x128 : Shape := ⟨3, ![1024, 4, 128]⟩
abbrev S128x1 : Shape := ⟨2, ![128, 1]⟩
abbrev S1024x2x128 : Shape := ⟨3, ![1024, 2, 128]⟩
abbrev S256x1024 : Shape := ⟨2, ![256, 1024]⟩
abbrev S8192x128 : Shape := ⟨2, ![8192, 128]⟩
abbrev S1x128 : Shape := ⟨2, ![1, 128]⟩
abbrev S65536x1536 : Shape := ⟨2, ![65536, 1536]⟩
abbrev S65536x512 : Shape := ⟨2, ![65536, 512]⟩
abbrev S32x65536 : Shape := ⟨2, ![32, 65536]⟩
abbrev S65536x256 : Shape := ⟨2, ![65536, 256]⟩
abbrev S256x65536 : Shape := ⟨2, ![256, 65536]⟩
abbrev S1024x1024 : Shape := ⟨2, ![1024, 1024]⟩
abbrev S1024x128 : Shape := ⟨2, ![1024, 128]⟩
abbrev S256x1536 : Shape := ⟨2, ![256, 1536]⟩
abbrev S256x512 : Shape := ⟨2, ![256, 512]⟩
abbrev S32x256 : Shape := ⟨2, ![32, 256]⟩
abbrev S96x256 : Shape := ⟨2, ![96, 256]⟩
abbrev S256x128 : Shape := ⟨2, ![256, 128]⟩

abbrev nBuf : Space → Nat
  | .hbm => 168
  | .vmem => 31
  | .smem => 0
  | _ => 0

abbrev hbmTy0_0 (i : Nat) : BufTy := match i % 128 with
  | 0 => ⟨S65536x1024, .f32⟩
  | 1 => ⟨S1024, .f32⟩
  | 2 => ⟨S1024x3088, .f32⟩
  | 3 => ⟨S4, .f32⟩
  | 4 => ⟨S4, .f32⟩
  | 5 => ⟨S4, .f32⟩
  | 6 => ⟨S4, .f32⟩
  | 7 => ⟨S128, .f32⟩
  | 8 => ⟨S128, .f32⟩
  | 9 => ⟨S8192x32, .f32⟩
  | 10 => ⟨S8192x32, .f32⟩
  | 11 => ⟨S128, .i32⟩
  | 12 => ⟨S128, .i1⟩
  | 13 => ⟨S128, .i1⟩
  | 14 => ⟨S128, .i1⟩
  | 15 => ⟨S128, .i1⟩
  | 16 => ⟨S1024x1536, .f32⟩
  | 17 => ⟨S1024x512, .f32⟩
  | 18 => ⟨S1024x4, .f32⟩
  | 19 => ⟨S1024x4, .f32⟩
  | 20 => ⟨S1024x4, .f32⟩
  | 21 => ⟨S1024x4, .f32⟩
  | 22 => ⟨S1024x512, .f32⟩
  | 23 => ⟨S1024x256, .f32⟩
  | 24 => ⟨S1024x256, .f32⟩
  | 25 => ⟨S_, .f32⟩
  | 26 => ⟨S1024x4, .f32⟩
  | 27 => ⟨S1024x4x1, .f32⟩
  | 28 => ⟨S1024x4x1, .f32⟩
  | 29 => ⟨S1024x4x1, .f32⟩
  | 30 => ⟨S1024x4x1, .f32⟩
  | 31 => ⟨S1024x4x1, .f32⟩
  | 32 => ⟨S1024x4x1, .f32⟩
  | 33 => ⟨S1024x4x1, .f32⟩
  | 34 => ⟨S1024x4x1, .f32⟩
  | 35 => ⟨S1024x4x8, .f32⟩
  | 36 => ⟨S1024x32, .f32⟩
  | 37 => ⟨S32x1024, .f32⟩
  | 38 => ⟨S_, .f32⟩
  | 39 => ⟨S4, .f32⟩
  | 40 => ⟨S4x1, .f32⟩
  | 41 => ⟨S4x1, .f32⟩
  | 42 => ⟨S4x1, .f32⟩
  | 43 => ⟨S4x1, .f32⟩
  | 44 => ⟨S4x1, .f32⟩
  | 45 => ⟨S4x1, .f32⟩
  | 46 => ⟨S4x1, .f32⟩
  | 47 => ⟨S4x1, .f32⟩
  | 48 => ⟨S4x8, .f32⟩
  | 49 => ⟨S32x1, .f32⟩
  | 50 => ⟨S4x1, .f32⟩
  | 51 => ⟨S4x1, .f32⟩
  | 52 => ⟨S4x1, .f32⟩
  | 53 => ⟨S4x1, .f32⟩
  | 54 => ⟨S4x1, .f32⟩
  | 55 => ⟨S4x1, .f32⟩
  | 56 => ⟨S4x1, .f32⟩
  | 57 => ⟨S4x1, .f32⟩
  | 58 => ⟨S4x8, .f32⟩
  | 59 => ⟨S32x1, .f32⟩
  | 60 => ⟨S256, .i32⟩
  | 61 => ⟨S256x1, .i32⟩
  | 62 => ⟨S_, .i32⟩
  | 63 => ⟨S_, .i32⟩
  | 64 => ⟨S256x1, .i32⟩
  | 65 => ⟨S256x1, .i32⟩
  | 66 => ⟨S256x1, .i32⟩
  | 67 => ⟨S_, .i32⟩
  | 68 => ⟨S256x1, .i32⟩
  | 69 => ⟨S256x1, .i1⟩
  | 70 => ⟨S256x1, .i32⟩
  | 71 => ⟨S256x1, .i32⟩
  | 72 => ⟨S_, .i32⟩
  | 73 => ⟨S256x1, .i32⟩
  | 74 => ⟨S256x1, .i1⟩
  | 75 => ⟨S256x1, .i1⟩
  | 76 => ⟨S_, .i32⟩
  | 77 => ⟨S256x1, .i32⟩
  | 78 => ⟨S256x1, .i32⟩
  | 79 => ⟨S256x1, .i32⟩
  | 80 => ⟨S1x256, .i32⟩
  | 81 => ⟨S_, .i32⟩
  | 82 => ⟨S_, .i32⟩
  | 83 => ⟨S1x256, .i32⟩
  | 84 => ⟨S1x256, .i32⟩
  | 85 => ⟨S1x256, .i32⟩
  | 86 => ⟨S_, .i32⟩
  | 87 => ⟨S1x256, .i32⟩
  | 88 => ⟨S1x256, .i1⟩
  | 89 => ⟨S1x256, .i32⟩
  | 90 => ⟨S1x256, .i32⟩
  | 91 => ⟨S_, .i32⟩
  | 92 => ⟨S1x256, .i32⟩
  | 93 => ⟨S1x256, .i1⟩
  | 94 => ⟨S1x256, .i1⟩
  | 95 => ⟨S_, .i32⟩
  | 96 => ⟨S1x256, .i32⟩
  | 97 => ⟨S1x256, .i32⟩
  | 98 => ⟨S1x256, .i32⟩
  | 99 => ⟨S256x256, .i32⟩
  | 100 => ⟨S256x256, .i32⟩
  | 101 => ⟨S256x256, .i1⟩
  | 102 => ⟨S256x1, .i32⟩
  | 103 => ⟨S1x256, .i32⟩
  | 104 => ⟨S256x256, .i32⟩
  | 105 => ⟨S256x256, .i32⟩
  | 106 => ⟨S256x256, .i1⟩
  | 107 => ⟨S256x256, .i1⟩
  | 108 => ⟨S256x1, .i32⟩
  | 109 => ⟨S1x256, .i32⟩
  | 110 => ⟨S256x256, .i32⟩
  | 111 => ⟨S256x256, .i32⟩
  | 112 => ⟨S256x256, .i1⟩
  | 113 => ⟨S256x256, .i1⟩
  | 114 => ⟨S256x256, .bf16⟩
  | 115 => ⟨S256x256, .bf16⟩
  | 116 => ⟨S1x1024, .f32⟩
  | 117 => ⟨S1024x1536, .bf16⟩
  | 118 => ⟨S1024x512, .bf16⟩
  | 119 => ⟨S32x1024, .bf16⟩
  | 120 => ⟨S1024x4x128, .f32⟩
  | 121 => ⟨S_, .i32⟩
  | 122 => ⟨S128, .i32⟩
  | 123 => ⟨S128, .i32⟩
  | 124 => ⟨S128, .i32⟩
  | 125 => ⟨S128x1, .i32⟩
  | 126 => ⟨S1024x4x128, .f32⟩
  | 127 => ⟨S1024x512, .f32⟩
  | _ => ⟨S65536x1024, .f32⟩

abbrev hbmTy0_1 (i : Nat) : BufTy := match i % 128 with
  | 0 => ⟨S1024x512, .bf16⟩
  | 1 => ⟨S1024x2x128, .f32⟩
  | 2 => ⟨S_, .i32⟩
  | 3 => ⟨S128, .i32⟩
  | 4 => ⟨S128, .i32⟩
  | 5 => ⟨S128, .i32⟩
  | 6 => ⟨S128x1, .i32⟩
  | 7 => ⟨S1024x2x128, .f32⟩
  | 8 => ⟨S1024x256, .f32⟩
  | 9 => ⟨S1024x256, .bf16⟩
  | 10 => ⟨S256x1024, .f32⟩
  | 11 => ⟨S256x1024, .bf16⟩
  | 12 => ⟨S8192x32, .f32⟩
  | 13 => ⟨S8192x32, .f32⟩
  | 14 => ⟨S8192x32, .f32⟩
  | 15 => ⟨S8192x32, .f32⟩
  | 16 => ⟨S8192x128, .f32⟩
  | 17 => ⟨S8192x32, .f32⟩
  | 18 => ⟨S8192x32, .f32⟩
  | 19 => ⟨S8192x128, .f32⟩
  | 20 => ⟨S_, .i32⟩
  | 21 => ⟨S128, .i32⟩
  | 22 => ⟨S128, .i32⟩
  | 23 => ⟨S128, .i32⟩
  | 24 => ⟨S128x1, .i32⟩
  | 25 => ⟨S128, .f32⟩
  | 26 => ⟨S1x128, .f32⟩
  | 27 => ⟨S_, .i32⟩
  | 28 => ⟨S128, .i32⟩
  | 29 => ⟨S128, .i32⟩
  | 30 => ⟨S128, .i32⟩
  | 31 => ⟨S128x1, .i32⟩
  | 32 => ⟨S128, .f32⟩
  | 33 => ⟨S1x128, .f32⟩
  | 34 => ⟨S65536x1536, .bf16⟩
  | 35 => ⟨S65536x512, .bf16⟩
  | 36 => ⟨S32x65536, .f32⟩
  | 37 => ⟨S65536x512, .bf16⟩
  | 38 => ⟨S65536x256, .bf16⟩
  | 39 => ⟨S256x65536, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x512, .bf16⟩
  | .local _ .vmem, ⟨5, _⟩ => ⟨S32x1024, .bf16⟩
  | .local _ .vmem, ⟨6, _⟩ => ⟨S1024x512, .bf16⟩
  | .local _ .vmem, ⟨7, _⟩ => ⟨S1024x256, .bf16⟩
  | .local _ .vmem, ⟨8, _⟩ => ⟨S256x1024, .bf16⟩
  | .local _ .vmem, ⟨9, _⟩ => ⟨S32x1, .f32⟩
  | .local _ .vmem, ⟨10, _⟩ => ⟨S32x1, .f32⟩
  | .local _ .vmem, ⟨11, _⟩ => ⟨S256x256, .bf16⟩
  | .local _ .vmem, ⟨12, _⟩ => ⟨S256x256, .bf16⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1x128, .f32⟩
  | .local _ .vmem, ⟨18, _⟩ => ⟨S1x128, .f32⟩
  | .local _ .vmem, ⟨19, _⟩ => ⟨S1024x1536, .bf16⟩
  | .local _ .vmem, ⟨20, _⟩ => ⟨S1024x1536, .bf16⟩
  | .local _ .vmem, ⟨21, _⟩ => ⟨S1024x512, .bf16⟩
  | .local _ .vmem, ⟨22, _⟩ => ⟨S1024x512, .bf16⟩
  | .local _ .vmem, ⟨23, _⟩ => ⟨S32x1024, .f32⟩
  | .local _ .vmem, ⟨24, _⟩ => ⟨S32x1024, .f32⟩
  | .local _ .vmem, ⟨25, _⟩ => ⟨S1024x512, .bf16⟩
  | .local _ .vmem, ⟨26, _⟩ => ⟨S1024x512, .bf16⟩
  | .local _ .vmem, ⟨27, _⟩ => ⟨S1024x256, .bf16⟩
  | .local _ .vmem, ⟨28, _⟩ => ⟨S1024x256, .bf16⟩
  | .local _ .vmem, ⟨29, _⟩ => ⟨S256x1024, .bf16⟩
  | .local _ .vmem, ⟨30, _⟩ => ⟨S256x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_c : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_0 : Ref sig .tc := ⟨.hbm, 76, rfl⟩
abbrev main_call0_v12 : Ref sig .tc := ⟨.hbm, 77, rfl⟩
abbrev main_call0_v13 : Ref sig .tc := ⟨.hbm, 78, rfl⟩
abbrev main_v44 : Ref sig .tc := ⟨.hbm, 79, rfl⟩
abbrev main_v45 : Ref sig .tc := ⟨.hbm, 80, rfl⟩
abbrev main_c_6 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_c : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_0 : Ref sig .tc := ⟨.hbm, 95, rfl⟩
abbrev main_call1_v12 : Ref sig .tc := ⟨.hbm, 96, rfl⟩
abbrev main_call1_v13 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_7 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_c_8 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_c_9 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_c_10 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106_0 : Ref sig .tc := ⟨.hbm, 162, rfl⟩
abbrev main_v106_1 : Ref sig .tc := ⟨.hbm, 163, rfl⟩
abbrev main_v106_2 : Ref sig .tc := ⟨.hbm, 164, rfl⟩
abbrev main_v106_3 : Ref sig .tc := ⟨.hbm, 165, rfl⟩
abbrev main_v106_4 : Ref sig .tc := ⟨.hbm, 166, rfl⟩
abbrev main_v106_5 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== InProjIdeal.lean ====
variable {F : FTy → Type} [FloatOps F] [Named F]
def κ : String → Option EReal := fun
  | "q_scale" => some (((Real.sqrt 128)⁻¹ * (Real.log 2)⁻¹ : ℝ) : EReal)
  | _ => none
-- ==== InProjRefIdeal.lean ====
abbrev S65536x1024 : Shape := ⟨2, ![65536, 1024]⟩
abbrev S1024 : Shape := ⟨1, ![1024]⟩
abbrev S1024x3088 : Shape := ⟨2, ![1024, 3088]⟩
abbrev S4 : Shape := ⟨1, ![4]⟩
abbrev S128 : Shape := ⟨1, ![128]⟩
abbrev S8192x32 : Shape := ⟨2, ![8192, 32]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3088 : Shape := ⟨2, ![65536, 3088]⟩
abbrev S65536x1536 : Shape := ⟨2, ![65536, 1536]⟩
abbrev S65536x512 : Shape := ⟨2, ![65536, 512]⟩
abbrev S65536x4 : Shape := ⟨2, ![65536, 4]⟩
abbrev S65536x256 : Shape := ⟨2, ![65536, 256]⟩
abbrev S1x4 : Shape := ⟨2, ![1, 4]⟩
abbrev S128x1 : Shape := ⟨2, ![128, 1]⟩
abbrev S1x128 : Shape := ⟨2, ![1, 128]⟩
abbrev S128x128 : Shape := ⟨2, ![128, 128]⟩
abbrev S1x128x128x1 : Shape := ⟨4, ![1, 128, 128, 1]⟩
abbrev S512x1x128x4 : Shape := ⟨4, ![512, 1, 128, 4]⟩
abbrev S512x128x128x4 : Shape := ⟨4, ![512, 128, 128, 4]⟩
abbrev S512x128x4 : Shape := ⟨3, ![512, 128, 4]⟩
abbrev S65536x4x1 : Shape := ⟨3, ![65536, 4, 1]⟩
abbrev S65536x4x8 : Shape := ⟨3, ![65536, 4, 8]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩
abbrev S8x8192x4x64 : Shape := ⟨4, ![8, 8192, 4, 64]⟩
abbrev S1x8192x1x32 : Shape := ⟨4, ![1, 8192, 1, 32]⟩
abbrev S8x8192x4x32 : Shape := ⟨4, ![8, 8192, 4, 32]⟩
abbrev S8x8192x2x128 : Shape := ⟨4, ![8, 8192, 2, 128]⟩
abbrev S8x8192x2 : Shape := ⟨3, ![8, 8192, 2]⟩
abbrev S8x8192x2x1 : Shape := ⟨4, ![8, 8192, 2, 1]⟩
abbrev S8x8192x2x64 : Shape := ⟨4, ![8, 8192, 2, 64]⟩
abbrev S8x8192x2x32 : Shape := ⟨4, ![8, 8192, 2, 32]⟩
abbrev S65536x32 : Shape := ⟨2, ![65536, 32]⟩
abbrev S32x65536 : Shape := ⟨2, ![32, 65536]⟩
abbrev S256x65536 : Shape := ⟨2, ![256, 65536]⟩

abbrev nBuf : Space → Nat
  | .hbm => 259
  | .vmem => 0
  | .smem => 0
  | _ => 0

abbrev hbmTy0_0 (i : Nat) : BufTy := match i % 128 with
  | 0 => ⟨S65536x1024, .f32⟩
  | 1 => ⟨S1024, .f32⟩
  | 2 => ⟨S1024x3088, .f32⟩
  | 3 => ⟨S4, .f32⟩
  | 4 => ⟨S4, .f32⟩
  | 5 => ⟨S4, .f32⟩
  | 6 => ⟨S4, .f32⟩
  | 7 => ⟨S128, .f32⟩
  | 8 => ⟨S128, .f32⟩
  | 9 => ⟨S8192x32, .f32⟩
  | 10 => ⟨S8192x32, .f32⟩
  | 11 => ⟨S65536x1024, .f32⟩
  | 12 => ⟨S_, .f32⟩
  | 13 => ⟨S65536, .f32⟩
  | 14 => ⟨S65536x1, .f32⟩
  | 15 => ⟨S_, .f32⟩
  | 16 => ⟨S65536x1, .f32⟩
  | 17 => ⟨S65536x1, .f32⟩
  | 18 => ⟨S_, .f32⟩
  | 19 => ⟨S65536x1, .f32⟩
  | 20 => ⟨S65536x1, .f32⟩
  | 21 => ⟨S65536x1, .f32⟩
  | 22 => ⟨S65536x1024, .f32⟩
  | 23 => ⟨S65536x1024, .f32⟩
  | 24 => ⟨S1x1024, .f32⟩
  | 25 => ⟨S65536x1024, .f32⟩
  | 26 => ⟨S65536x1024, .f32⟩
  | 27 => ⟨S65536x3088, .f32⟩
  | 28 => ⟨S65536x1536, .f32⟩
  | 29 => ⟨S65536x512, .f32⟩
  | 30 => ⟨S65536x4, .f32⟩
  | 31 => ⟨S65536x4, .f32⟩
  | 32 => ⟨S65536x4, .f32⟩
  | 33 => ⟨S65536x4, .f32⟩
  | 34 => ⟨S65536x512, .f32⟩
  | 35 => ⟨S65536x256, .f32⟩
  | 36 => ⟨S65536x256, .f32⟩
  | 37 => ⟨S4, .f32⟩
  | 38 => ⟨S4, .f32⟩
  | 39 => ⟨S1x4, .f32⟩
  | 40 => ⟨S65536x4, .f32⟩
  | 41 => ⟨S65536x4, .f32⟩
  | 42 => ⟨S_, .f32⟩
  | 43 => ⟨S65536x4, .f32⟩
  | 44 => ⟨S65536x4, .f32⟩
  | 45 => ⟨S65536x4, .f32⟩
  | 46 => ⟨S65536x4, .f32⟩
  | 47 => ⟨S65536x4, .i1⟩
  | 48 => ⟨S65536x4, .f32⟩
  | 49 => ⟨S65536x4, .f32⟩
  | 50 => ⟨S65536x4, .f32⟩
  | 51 => ⟨S65536x4, .f32⟩
  | 52 => ⟨S65536x4, .f32⟩
  | 53 => ⟨S65536x4, .f32⟩
  | 54 => ⟨S65536x4, .f32⟩
  | 55 => ⟨S65536x4, .f32⟩
  | 56 => ⟨S1x4, .f32⟩
  | 57 => ⟨S65536x4, .f32⟩
  | 58 => ⟨S65536x4, .f32⟩
  | 59 => ⟨S4, .f32⟩
  | 60 => ⟨S4, .f32⟩
  | 61 => ⟨S1x4, .f32⟩
  | 62 => ⟨S65536x4, .f32⟩
  | 63 => ⟨S65536x4, .f32⟩
  | 64 => ⟨S_, .f32⟩
  | 65 => ⟨S65536x4, .f32⟩
  | 66 => ⟨S65536x4, .f32⟩
  | 67 => ⟨S65536x4, .f32⟩
  | 68 => ⟨S65536x4, .f32⟩
  | 69 => ⟨S65536x4, .i1⟩
  | 70 => ⟨S65536x4, .f32⟩
  | 71 => ⟨S65536x4, .f32⟩
  | 72 => ⟨S65536x4, .f32⟩
  | 73 => ⟨S65536x4, .f32⟩
  | 74 => ⟨S65536x4, .f32⟩
  | 75 => ⟨S65536x4, .f32⟩
  | 76 => ⟨S65536x4, .f32⟩
  | 77 => ⟨S65536x4, .f32⟩
  | 78 => ⟨S1x4, .f32⟩
  | 79 => ⟨S65536x4, .f32⟩
  | 80 => ⟨S65536x4, .f32⟩
  | 81 => ⟨S128, .i32⟩
  | 82 => ⟨S128x1, .i32⟩
  | 83 => ⟨S1x128, .i32⟩
  | 84 => ⟨S128x128, .i32⟩
  | 85 => ⟨S128x128, .i32⟩
  | 86 => ⟨S128x128, .i1⟩
  | 87 => ⟨S1x128x128x1, .i1⟩
  | 88 => ⟨S512x1x128x4, .f32⟩
  | 89 => ⟨S_, .f32⟩
  | 90 => ⟨S_, .f32⟩
  | 91 => ⟨S512x128x128x4, .i1⟩
  | 92 => ⟨S512x128x128x4, .f32⟩
  | 93 => ⟨S512x128x128x4, .f32⟩
  | 94 => ⟨S512x128x128x4, .f32⟩
  | 95 => ⟨S_, .f32⟩
  | 96 => ⟨S512x128x4, .f32⟩
  | 97 => ⟨S128x128, .i1⟩
  | 98 => ⟨S1x128x128x1, .i1⟩
  | 99 => ⟨S512x1x128x4, .f32⟩
  | 100 => ⟨S_, .f32⟩
  | 101 => ⟨S_, .f32⟩
  | 102 => ⟨S512x128x128x4, .i1⟩
  | 103 => ⟨S512x128x128x4, .f32⟩
  | 104 => ⟨S512x128x128x4, .f32⟩
  | 105 => ⟨S512x128x128x4, .f32⟩
  | 106 => ⟨S_, .f32⟩
  | 107 => ⟨S512x128x4, .f32⟩
  | 108 => ⟨S_, .f32⟩
  | 109 => ⟨S65536x4, .f32⟩
  | 110 => ⟨S65536x4, .f32⟩
  | 111 => ⟨S65536x4, .f32⟩
  | 112 => ⟨S_, .f32⟩
  | 113 => ⟨S65536x4, .f32⟩
  | 114 => ⟨S65536x4, .f32⟩
  | 115 => ⟨S_, .f32⟩
  | 116 => ⟨S65536x4, .f32⟩
  | 117 => ⟨S65536x4, .f32⟩
  | 118 => ⟨S65536x4, .f32⟩
  | 119 => ⟨S65536x4, .f32⟩
  | 120 => ⟨S_, .f32⟩
  | 121 => ⟨S65536x4, .f32⟩
  | 122 => ⟨S65536x4, .f32⟩
  | 123 => ⟨S_, .f32⟩
  | 124 => ⟨S65536x4, .f32⟩
  | 125 => ⟨S65536x4, .f32⟩
  | 126 => ⟨S65536x4, .f32⟩
  | 127 => ⟨S65536x4, .f32⟩
  | _ => ⟨S65536x1024, .f32⟩

abbrev hbmTy0_1 (i : Nat) : BufTy := match i % 128 with
  | 0 => ⟨S65536x4x1, .f32⟩
  | 1 => ⟨S65536x4x1, .f32⟩
  | 2 => ⟨S65536x4x1, .f32⟩
  | 3 => ⟨S65536x4x1, .f32⟩
  | 4 => ⟨S65536x4x1, .f32⟩
  | 5 => ⟨S65536x4x1, .f32⟩
  | 6 => ⟨S65536x4x1, .f32⟩
  | 7 => ⟨S65536x4x1, .f32⟩
  | 8 => ⟨S65536x4x8, .f32⟩
  | 9 => ⟨S8x8192x4x128, .f32⟩
  | 10 => ⟨S8x8192x4x128, .f32⟩
  | 11 => ⟨S_, .f32⟩
  | 12 => ⟨S8x8192x4, .f32⟩
  | 13 => ⟨S8x8192x4x1, .f32⟩
  | 14 => ⟨S_, .f32⟩
  | 15 => ⟨S8x8192x4x1, .f32⟩
  | 16 => ⟨S8x8192x4x1, .f32⟩
  | 17 => ⟨S_, .f32⟩
  | 18 => ⟨S8x8192x4x1, .f32⟩
  | 19 => ⟨S8x8192x4x1, .f32⟩
  | 20 => ⟨S8x8192x4x1, .f32⟩
  | 21 => ⟨S8x8192x4x128, .f32⟩
  | 22 => ⟨S8x8192x4x128, .f32⟩
  | 23 => ⟨S1x1x1x128, .f32⟩
  | 24 => ⟨S8x8192x4x128, .f32⟩
  | 25 => ⟨S8x8192x4x128, .f32⟩
  | 26 => ⟨S8x8192x4x64, .f32⟩
  | 27 => ⟨S8192x32, .f32⟩
  | 28 => ⟨S1x8192x1x32, .f32⟩
  | 29 => ⟨S8192x32, .f32⟩
  | 30 => ⟨S1x8192x1x32, .f32⟩
  | 31 => ⟨S8x8192x4x32, .f32⟩
  | 32 => ⟨S8x8192x4x32, .f32⟩
  | 33 => ⟨S8x8192x4x32, .f32⟩
  | 34 => ⟨S8x8192x4x32, .f32⟩
  | 35 => ⟨S8x8192x4x32, .f32⟩
  | 36 => ⟨S8x8192x4x32, .f32⟩
  | 37 => ⟨S8x8192x4x32, .f32⟩
  | 38 => ⟨S8x8192x4x32, .f32⟩
  | 39 => ⟨S8x8192x4x32, .f32⟩
  | 40 => ⟨S8x8192x4x32, .f32⟩
  | 41 => ⟨S8x8192x4x32, .f32⟩
  | 42 => ⟨S8x8192x4x32, .f32⟩
  | 43 => ⟨S8x8192x4x64, .f32⟩
  | 44 => ⟨S8192x32, .f32⟩
  | 45 => ⟨S1x8192x1x32, .f32⟩
  | 46 => ⟨S8192x32, .f32⟩
  | 47 => ⟨S1x8192x1x32, .f32⟩
  | 48 => ⟨S8x8192x4x32, .f32⟩
  | 49 => ⟨S8x8192x4x32, .f32⟩
  | 50 => ⟨S8x8192x4x32, .f32⟩
  | 51 => ⟨S8x8192x4x32, .f32⟩
  | 52 => ⟨S8x8192x4x32, .f32⟩
  | 53 => ⟨S8x8192x4x32, .f32⟩
  | 54 => ⟨S8x8192x4x32, .f32⟩
  | 55 => ⟨S8x8192x4x32, .f32⟩
  | 56 => ⟨S8x8192x4x32, .f32⟩
  | 57 => ⟨S8x8192x4x32, .f32⟩
  | 58 => ⟨S8x8192x4x32, .f32⟩
  | 59 => ⟨S8x8192x4x32, .f32⟩
  | 60 => ⟨S8x8192x4x128, .f32⟩
  | 61 => ⟨S_, .f32⟩
  | 62 => ⟨S_, .f32⟩
  | 63 => ⟨S8x8192x4x128, .f32⟩
  | 64 => ⟨S8x8192x4x128, .f32⟩
  | 65 => ⟨S_, .f32⟩
  | 66 => ⟨S_, .f32⟩
  | 67 => ⟨S8x8192x4x128, .f32⟩
  | 68 => ⟨S8x8192x4x128, .f32⟩
  | 69 => ⟨S8x8192x2x128, .f32⟩
  | 70 => ⟨S8x8192x2x128, .f32⟩
  | 71 => ⟨S_, .f32⟩
  | 72 => ⟨S8x8192x2, .f32⟩
  | 73 => ⟨S8x8192x2x1, .f32⟩
  | 74 => ⟨S_, .f32⟩
  | 75 => ⟨S8x8192x2x1, .f32⟩
  | 76 => ⟨S8x8192x2x1, .f32⟩
  | 77 => ⟨S_, .f32⟩
  | 78 => ⟨S8x8192x2x1, .f32⟩
  | 79 => ⟨S8x8192x2x1, .f32⟩
  | 80 => ⟨S8x8192x2x1, .f32⟩
  | 81 => ⟨S8x8192x2x128, .f32⟩
  | 82 => ⟨S8x8192x2x128, .f32⟩
  | 83 => ⟨S1x1x1x128, .f32⟩
  | 84 => ⟨S8x8192x2x128, .f32⟩
  | 85 => ⟨S8x8192x2x128, .f32⟩
  | 86 => ⟨S8x8192x2x64, .f32⟩
  | 87 => ⟨S8192x32, .f32⟩
  | 88 => ⟨S1x8192x1x32, .f32⟩
  | 89 => ⟨S8192x32, .f32⟩
  | 90 => ⟨S1x8192x1x32, .f32⟩
  | 91 => ⟨S8x8192x2x32, .f32⟩
  | 92 => ⟨S8x8192x2x32, .f32⟩
  | 93 => ⟨S8x8192x2x32, .f32⟩
  | 94 => ⟨S8x8192x2x32, .f32⟩
  | 95 => ⟨S8x8192x2x32, .f32⟩
  | 96 => ⟨S8x8192x2x32, .f32⟩
  | 97 => ⟨S8x8192x2x32, .f32⟩
  | 98 => ⟨S8x8192x2x32, .f32⟩
  | 99 => ⟨S8x8192x2x32, .f32⟩
  | 100 => ⟨S8x8192x2x32, .f32⟩
  | 101 => ⟨S8x8192x2x32, .f32⟩
  | 102 => ⟨S8x8192x2x32, .f32⟩
  | 103 => ⟨S8x8192x2x64, .f32⟩
  | 104 => ⟨S8192x32, .f32⟩
  | 105 => ⟨S1x8192x1x32, .f32⟩
  | 106 => ⟨S8192x32, .f32⟩
  | 107 => ⟨S1x8192x1x32, .f32⟩
  | 108 => ⟨S8x8192x2x32, .f32⟩
  | 109 => ⟨S8x8192x2x32, .f32⟩
  | 110 => ⟨S8x8192x2x32, .f32⟩
  | 111 => ⟨S8x8192x2x32, .f32⟩
  | 112 => ⟨S8x8192x2x32, .f32⟩
  | 113 => ⟨S8x8192x2x32, .f32⟩
  | 114 => ⟨S8x8192x2x32, .f32⟩
  | 115 => ⟨S8x8192x2x32, .f32⟩
  | 116 => ⟨S8x8192x2x32, .f32⟩
  | 117 => ⟨S8x8192x2x32, .f32⟩
  | 118 => ⟨S8x8192x2x32, .f32⟩
  | 119 => ⟨S8x8192x2x32, .f32⟩
  | 120 => ⟨S8x8192x2x128, .f32⟩
  | 121 => ⟨S65536x1536, .bf16⟩
  | 122 => ⟨S65536x512, .bf16⟩
  | 123 => ⟨S65536x32, .f32⟩
  | 124 => ⟨S32x65536, .f32⟩
  | 125 => ⟨S65536x512, .f32⟩
  | 126 => ⟨S65536x512, .bf16⟩
  | 127 => ⟨S65536x256, .f32⟩
  | _ => ⟨S65536x1024, .f32⟩

abbrev hbmTy0_2 (i : Nat) : BufTy := match i % 128 with
  | 0 => ⟨S65536x256, .bf16⟩
  | 1 => ⟨S256x65536, .f32⟩
  | 2 => ⟨S256x65536, .bf16⟩
  | _ => ⟨S65536x1024, .f32⟩

abbrev hbmTy (i : Nat) : BufTy := match i / 128 with
  | 0 => hbmTy0_0 i
  | 1 => hbmTy0_1 i
  | 2 => hbmTy0_2 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_cst_2 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_v49 : Ref sig .tc := ⟨.hbm, 94, rfl⟩
abbrev main_cst_3 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_4 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_v54 : Ref sig .tc := ⟨.hbm, 105, rfl⟩
abbrev main_cst_5 : Ref sig .tc := ⟨.hbm, 106, rfl⟩
abbrev main_v55 : Ref sig .tc := ⟨.hbm, 107, rfl⟩
abbrev main_cst_6 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_7 : Ref sig .tc := ⟨.hbm, 112, rfl⟩
abbrev main_v59 : Ref sig .tc := ⟨.hbm, 113, rfl⟩
abbrev main_v60 : Ref sig .tc := ⟨.hbm, 114, rfl⟩
abbrev main_cst_8 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_cst_9 : Ref sig .tc := ⟨.hbm, 120, rfl⟩
abbrev main_v65 : Ref sig .tc := ⟨.hbm, 121, rfl⟩
abbrev main_v66 : Ref sig .tc := ⟨.hbm, 122, rfl⟩
abbrev main_cst_10 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_11 : Ref sig .tc := ⟨.hbm, 139, rfl⟩
abbrev main_v82 : Ref sig .tc := ⟨.hbm, 140, rfl⟩
abbrev main_v83 : Ref sig .tc := ⟨.hbm, 141, rfl⟩
abbrev main_cst_12 : Ref sig .tc := ⟨.hbm, 142, rfl⟩
abbrev main_v84 : Ref sig .tc := ⟨.hbm, 143, rfl⟩
abbrev main_v85 : Ref sig .tc := ⟨.hbm, 144, rfl⟩
abbrev main_cst_13 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_cst_14 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_15 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_cst_16 : Ref sig .tc := ⟨.hbm, 199, rfl⟩
abbrev main_v137 : Ref sig .tc := ⟨.hbm, 200, rfl⟩
abbrev main_v138 : Ref sig .tc := ⟨.hbm, 201, rfl⟩
abbrev main_cst_17 : Ref sig .tc := ⟨.hbm, 202, rfl⟩
abbrev main_v139 : Ref sig .tc := ⟨.hbm, 203, rfl⟩
abbrev main_v140 : Ref sig .tc := ⟨.hbm, 204, rfl⟩
abbrev main_cst_18 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩

abbrev nD : Nat := 1
abbrev τ : Topo := Topo.v7x

variable {F : FTy → Type} [FloatOps F]
-- ==== Sample.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1x1024, .f32⟩
  | .hbm, ⟨14, _⟩ => ⟨S1x1024, .f32⟩
  | .hbm, ⟨15, _⟩ => ⟨S1024x4096, .bf16⟩
  | .hbm, ⟨16, _⟩ => ⟨S4096x1024, .bf16⟩
  | .hbm, ⟨17, _⟩ => ⟨S1x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== SampleRefIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Proof.AttnRun.lean ====
/- The body of the attention kernel, run once at a generic grid point: the pieces it stores into its output block, as
   functions of whatever its scratch buffers hold when the point begins. -/
module

public import proofs.«01_k».proof.Proof.Gen.AttnIdeal.Frame.Runs

@[expose] public section

set_option maxRecDepth 16384

noncomputable section

namespace Cert.AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One run of the body: the pieces stored into the output block, with the run itself. -/
@[irreducible] def bodyRun (c : Dev nD) (i : grid0.Coords) (arg3 : Memref sig .tc .vmem S1x1024x256 .bf16) (harg3 : arg3.IsWhole) (arg4 : Memref sig .tc .vmem S1x8192x128 .bf16) (harg4 : arg4.IsWhole) (arg5 : Memref sig .tc .vmem S128x8192 .bf16) (harg5 : arg5.IsWhole) (arg6 : Memref sig .tc .vmem S1x1024x256 .bf16) (harg6 : arg6.IsWhole) (arg7 : Memref sig .tc .vmem S1x2048 .f32) (harg7 : arg7.IsWhole) (arg8 : Memref sig .tc .vmem S144x2048 .f32) (harg8 : arg8.IsWhole) (arg9 : Memref sig .tc .vmem S1024x2048 .f32) (harg9 : arg9.IsWhole) (arg10 : Memref sig .tc .vmem S1024x2048 .f32) (harg10 : arg10.IsWhole)
    (x0 : Vec F S1x1024x256 .bf16) (x1 : Vec F S1x8192x128 .bf16) (x2 : Vec F S128x8192 .bf16) :
    { L : BufTy.Contents (Elt F) arg7.view.ty → BufTy.Contents (Elt F) arg8.view.ty → BufTy.Contents (Elt F) arg9.view.ty → BufTy.Contents (Elt F) arg10.view.ty → BufTy.Contents (Elt F) arg6.view.ty → List (View.Piece (Elt F) S1x1024x256 .bf16) //
      ∀ (E : Set ℕ) (K : PUnit → sProp 𝕄) (f3 : BufTy.Contents (Elt F) arg6.view.ty) (fs0 : BufTy.Contents (Elt F) arg7.view.ty) (fs1 : BufTy.Contents (Elt F) arg8.view.ty) (fs2 : BufTy.Contents (Elt F) arg9.view.ty) (fs3 : BufTy.Contents (Elt F) arg10.view.ty),
        iprop(owns (c : Thread nD τ) arg3 fullShare x0 ∗ owns (c : Thread nD τ) arg4 fullShare x1 ∗ owns (c : Thread nD τ) arg5 fullShare x2 ∗ (arg6.view.loc (c : Thread nD τ) ↦[arg6.view.set]{fullShare} f3) ∗ (arg7.view.loc (c : Thread nD τ) ↦[arg7.view.set]{fullShare} fs0) ∗ (arg8.view.loc (c : Thread nD τ) ↦[arg8.view.set]{fullShare} fs1) ∗ (arg9.view.loc (c : Thread nD τ) ↦[arg9.view.set]{fullShare} fs2) ∗ (arg10.view.loc (c : Thread nD τ) ↦[arg10.view.set]{fullShare} fs3)
            ∗ (iprop(owns (c : Thread nD τ) arg3 fullShare x0 ∗ owns (c : Thread nD τ) arg4 fullShare x1 ∗ owns (c : Thread nD τ) arg5 fullShare x2 ∗ (arg6.view.loc (c : Thread nD τ) ↦[arg6.view.set]{fullShare} arg6.view.writes (Elt F) f3 (L fs0 fs1 fs2 fs3 f3)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn i arg3 harg3 arg4 harg4 arg5 harg5 arg6 harg6 arg7 harg7 arg8 harg8 arg9 harg9 arg10 harg10) K } := by
  refine ⟨?_, fun E K f3 fs0 fs1 fs2 fs3 => ?run⟩
  case run =>
    simp only [cc0_attn_eq_skeleton]; unfold cc0_attn_skel
    simp only [k0_part3_eq_skeleton, k0_part4_eq_skeleton]
    unfold owns
    iintro ⟨⟨%f0, %hf0, H0⟩, ⟨%f1, %hf1, H1⟩, ⟨%f2, %hf2, H2⟩, H3, HS0, HS1, HS2, HS3, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.AttnRun

end
-- ==== Proof.AttnState.lean ====
/- What the attention kernel's scratch buffers hold: the running maximum and the running weighted sums after the first
   `n` of a query block's eight chunks of keys, and that one trip of the kernel's loop eats two chunks more. -/
module

public import proofs.«01_k».proof.Proof.Gen.AttnIdeal.Loops
public import Idealize.ShloMosaic.Lib.VecWindow
public import Idealize.ShloMosaic.Lib.Pipeline.Value

@[expose] public section

set_option maxRecDepth 16384

noncomputable section

namespace Cert.AttnState

open Cert.AttnIdeal Cert.AttnIdeal.Gen
open Idealize.ShloMosaic Idealize.ShloMosaic.TcCoe Idealize.ShloMosaic.Tactic
open Idealize.SL Idealize.SL.Sem

variable {F : FTy → Type} [FloatOps F]

/-- Chunk `n` of the keys: rows `1024 n` to `1024 n + 1023`. -/
def kblk (x1 : Vec F S1x8192x128 .bf16) (n : Fin 8) : Vec F S1x1024x128 .bf16 :=
  VecWindow.window x1 ![0, 1024 * n.val, 0] S1x1024x128.size (by
    intro a; have := n.isLt; fin_cases a <;> simp [S1x1024x128, S1x8192x128]; omega)

/-- Chunk `n` of the transposed values: columns `1024 n` to `1024 n + 1023`. -/
def vblk (x2 : Vec F S128x8192 .bf16) (n : Fin 8) : Vec F S128x1024 .bf16 :=
  VecWindow.window x2 ![0, 1024 * n.val] S128x1024.size (by
    intro a; have := n.isLt; fin_cases a <;> simp [S128x1024, S128x8192]; omega)

/-- One chunk's scores `s` and values `vt` taken into the running maximum and the running sums. -/
def eat (st : Vec F S1x2048 .f32 × Vec F S144x2048 .f32) (s : Vec F S1024x2048 .f32) (vt : Vec F S128x1024 .bf16) :
    Vec F S1x2048 .f32 × Vec F S144x2048 .f32 :=
  (k0_pay7 st.1 s, k0_pay8 k0_pay19 st.1 s s vt st.2)

/-- The scores of chunk `n` of the keys against the block's queries. -/
def score (q : FVec F S2048x128 .bf16) (x1 : Vec F S1x8192x128 .bf16) (n : ℕ) : Vec F S1024x2048 .f32 :=
  k0_pay6 q (kblk x1 (Fin.ofNat 8 n))

/-- The running maximum and sums after the first `n` chunks. -/
def eaten (q : FVec F S2048x128 .bf16) (x1 : Vec F S1x8192x128 .bf16) (x2 : Vec F S128x8192 .bf16) :
    ℕ → Vec F S1x2048 .f32 × Vec F S144x2048 .f32
  | 0 => (k0_pay17, k0_pay18)
  | n + 1 => eat (eaten q x1 x2 n) (score q x1 n) (vblk x2 (Fin.ofNat 8 n))

theorem readAt_kblk {sg : RefSig} {κ : Kind} {sp : Space} (v : View sg κ sp S1x8192x128 .bf16) (X : v.ty.Contents (Elt F)) (n : Fin 8)
    {off : Fin 3 → ℕ} (inb) (h : off = ![0, 1024 * n.val, 0]) :
    View.readAt (Elt F) v (Rect.unit (s := S1x8192x128) off S1x1024x128.size inb).toLoadRect X = kblk (v.read (Elt F) X) n :=
  View.readAt_unit v X inb h _

theorem readAt_vblk {sg : RefSig} {κ : Kind} {sp : Space} (v : View sg κ sp S128x8192 .bf16) (X : v.ty.Contents (Elt F)) (n : Fin 8)
    {off : Fin 2 → ℕ} (inb) (h : off = ![0, 1024 * n.val]) :
    View.readAt (Elt F) v (Rect.unit (s := S128x8192) off S128x1024.size inb).toLoadRect X = vblk (v.read (Elt F) X) n :=
  View.readAt_unit v X inb h _

section trip
variable (𝒱 : Variants) (c : Dev nD) (bd : Option 𝒱.V) (i : grid0.Coords) (arg3 : Memref sig .tc .vmem S1x1024x256 .bf16) (harg3 : arg3.IsWhole) (arg4 : Memref sig .tc .vmem S1x8192x128 .bf16) (harg4 : arg4.IsWhole) (arg5 : Memref sig .tc .vmem S128x8192 .bf16) (harg5 : arg5.IsWhole) (arg6 : Memref sig .tc .vmem S1x1024x256 .bf16) (harg6 : arg6.IsWhole) (arg7 : Memref sig .tc .vmem S1x2048 .f32) (harg7 : arg7.IsWhole) (arg8 : Memref sig .tc .vmem S144x2048 .f32) (harg8 : arg8.IsWhole) (arg9 : Memref sig .tc .vmem S1024x2048 .f32) (harg9 : arg9.IsWhole) (arg10 : Memref sig .tc .vmem S1024x2048 .f32) (harg10 : arg10.IsWhole) (v0 : Vec F S1x1024x128 .bf16) (v2 : Vec F S1x1024x128 .bf16) (X4 : BufTy.Contents (Elt F) arg4.view.ty) (X5 : BufTy.Contents (Elt F) arg5.view.ty) (k : Fin k0_t1_loop.trips) (f7 : BufTy.Contents (Elt F) arg7.view.ty) (f8 : BufTy.Contents (Elt F) arg8.view.ty) (f9 : BufTy.Contents (Elt F) arg9.view.ty) (f10 : BufTy.Contents (Elt F) arg10.view.ty)

theorem off1 (n : ℕ) (hn : n = 2 * k.val + 1) : k0_off1 k 1#32 = ![0, 1024 * (Fin.ofNat 8 n).val, 0] := by
  have h3 : k.val < 3 := Nat.lt_of_lt_of_le k.isLt k0_t1_abs.2.1
  refine (k0_off1_eq k 0).trans ?_
  subst hn; rw [Fin.val_ofNat, Nat.mod_eq_of_lt (by omega)]
  congr 2; simp; omega

theorem off1' (n : ℕ) (hn : n = 2 * k.val + 2) : k0_off1 k 2#32 = ![0, 1024 * (Fin.ofNat 8 n).val, 0] := by
  have h3 : k.val < 3 := Nat.lt_of_lt_of_le k.isLt k0_t1_abs.2.1
  refine (k0_off1_eq k 1).trans ?_
  subst hn; rw [Fin.val_ofNat, Nat.mod_eq_of_lt (by omega)]
  congr 2; simp; omega

theorem off2 (n : ℕ) (hn : n = 2 * k.val) : k0_off2 k = ![0, 1024 * (Fin.ofNat 8 n).val] := by
  have h3 : k.val < 3 := Nat.lt_of_lt_of_le k.isLt k0_t1_abs.2.1
  refine (k0_off2_eq k).trans ?_
  subst hn; rw [Fin.val_ofNat, Nat.mod_eq_of_lt (by omega)]
  congr 2; omega

theorem off3 (n : ℕ) (hn : n = 2 * k.val + 1) : k0_off3 k = ![0, 1024 * (Fin.ofNat 8 n).val] := by
  have h3 : k.val < 3 := Nat.lt_of_lt_of_le k.isLt k0_t1_abs.2.1
  refine (k0_off3_eq k).trans ?_
  subst hn; rw [Fin.val_ofNat, Nat.mod_eq_of_lt (by omega)]
  congr 2; omega

variable (x1 : Vec F S1x8192x128 .bf16) (x2 : Vec F S128x8192 .bf16)
  (h4 : arg4.view.read (Elt F) X4 = x1) (h5 : arg5.view.read (Elt F) X5 = x2)
  (h7 : arg7.view.read (Elt F) f7 = (eaten (k0_pay16 v0 v2) x1 x2 (2 * k.val)).1)
  (h8 : arg8.view.read (Elt F) f8 = (eaten (k0_pay16 v0 v2) x1 x2 (2 * k.val)).2)
  (h9 : arg9.view.read (Elt F) f9 = score (k0_pay16 v0 v2) x1 (2 * k.val))

/-- The payloads that store a value through a cast to its own shape, and the second copies of the chunk's
    arithmetic, are the first copies. -/
theorem pay22_eq (m : FVec F S1x2048 .f32) : k0_pay22 m = m := shapeCast_self m _
theorem pay10_eq (m : FVec F S1x2048 .f32) : k0_pay10 m = m := shapeCast_self m _
theorem pay9_eq (m : FVec F S144x2048 .f32) : k0_pay9 m = m := shapeCast_self m _
theorem pay21_eq (m : Vec F S1x2048 .f32) (s : Vec F S1024x2048 .f32) (vt : Vec F S128x1024 .bf16) (acc : Vec F S144x2048 .f32) :
    k0_pay21 (k0_pay13 m s s) (k0_pay14 m s) (k0_pay15 k0_pay19 vt) acc = k0_pay8 k0_pay19 m s s vt acc := shapeCast_self _ _

/-- The whole-buffer rectangles of the scratch buffers. -/
abbrev w7 : Rect S1x2048 := Rect.unit ![0, 0] S1x2048.size inb_S1x2048_S1x2048_0_0
abbrev w8 : Rect S144x2048 := Rect.unit ![0, 0] S144x2048.size inb_S144x2048_S144x2048_0_0
abbrev w9 : Rect S1024x2048 := Rect.unit ![0, 0] S1024x2048.size inb_S1024x2048_S1024x2048_0_0

include h4 h9 h7 in
/-- After a trip the running maximum is that of two chunks more. -/
theorem trip7 : arg7.view.read (Elt F) (arg7.view.writes (Elt F) f7 ((trip_k0_t1 (F := F) 𝒱 c bd i arg3 harg3 arg4 harg4 arg5 harg5 arg6 harg6 arg7 harg7 arg8 harg8 arg9 harg9 arg10 harg10 v0 v2 X4 X5 k).1 f7 f8 f9 f10))
    = (eaten (k0_pay16 v0 v2) x1 x2 (2 * k.val + 2)).1 := by
  unfold trip_k0_t1; dsimp only
  refine (View.read_writes_full (s := S1x2048) _ _ _ _ _).trans ?_
  show k0_pay22 (k0_pay12 (arg7.view.readCov [⟨w7, k0_pay10 (k0_pay7 (arg7.view.readAt (Elt F) w7.toLoadRect f7) (arg9.view.readAt (Elt F) w9.toLoadRect f9))⟩] w7.toLoadRect)
    (arg10.view.readCov [⟨w9, k0_pay6 (k0_pay16 v0 v2) (arg4.view.readAt (Elt F) (Rect.unit (s := S1x8192x128) (k0_off1 k 1#32) S1x1024x128.size (k0_off1_inb k 0)).toLoadRect X4)⟩] w9.toLoadRect)) = _
  rw [readAt_kblk _ _ (Fin.ofNat 8 (2 * k.val + 1)) _ (off1 k _ rfl)]
  rw [View.readCov_full (s := S1x2048), View.readCov_full (s := S1024x2048), View.readAt_full (s := S1x2048),
    View.readAt_full (s := S1024x2048), h4, h7, h9, pay22_eq, pay10_eq]
  rfl

include h4 h5 h9 h7 h8 in
/-- After a trip the running sums are those of two chunks more. -/
theorem trip8 : arg8.view.read (Elt F) (arg8.view.writes (Elt F) f8 ((trip_k0_t1 (F := F) 𝒱 c bd i arg3 harg3 arg4 harg4 arg5 harg5 arg6 harg6 arg7 harg7 arg8 harg8 arg9 harg9 arg10 harg10 v0 v2 X4 X5 k).2.1 f7 f8 f9 f10))
    = (eaten (k0_pay16 v0 v2) x1 x2 (2 * k.val + 2)).2 := by
  unfold trip_k0_t1; dsimp only
  refine (View.read_writes_full (s := S144x2048) _ _ _ _ _).trans ?_
  show k0_pay21 (k0_pay13 (arg7.view.readCov [⟨w7, k0_pay10 (k0_pay7 (arg7.view.readAt (Elt F) w7.toLoadRect f7) (arg9.view.readAt (Elt F) w9.toLoadRect f9))⟩] w7.toLoadRect)
      (arg10.view.readCov [⟨w9, k0_pay6 (k0_pay16 v0 v2) (arg4.view.readAt (Elt F) (Rect.unit (s := S1x8192x128) (k0_off1 k 1#32) S1x1024x128.size (k0_off1_inb k 0)).toLoadRect X4)⟩] w9.toLoadRect)
      (arg10.view.readCov [⟨w9, k0_pay6 (k0_pay16 v0 v2) (arg4.view.readAt (Elt F) (Rect.unit (s := S1x8192x128) (k0_off1 k 1#32) S1x1024x128.size (k0_off1_inb k 0)).toLoadRect X4)⟩] w9.toLoadRect))
    (k0_pay14 (arg7.view.readCov [⟨w7, k0_pay10 (k0_pay7 (arg7.view.readAt (Elt F) w7.toLoadRect f7) (arg9.view.readAt (Elt F) w9.toLoadRect f9))⟩] w7.toLoadRect)
      (arg10.view.readCov [⟨w9, k0_pay6 (k0_pay16 v0 v2) (arg4.view.readAt (Elt F) (Rect.unit (s := S1x8192x128) (k0_off1 k 1#32) S1x1024x128.size (k0_off1_inb k 0)).toLoadRect X4)⟩] w9.toLoadRect))
    (k0_pay15 k0_pay19 (arg5.view.readAt (Elt F) (Rect.unit (s := S128x8192) (k0_off3 k) S128x1024.size (k0_off3_inb k)).toLoadRect X5))
    (arg8.view.readCov [⟨w8, k0_pay9 (k0_pay8 k0_pay19 (arg7.view.readAt (Elt F) w7.toLoadRect f7) (arg9.view.readAt (Elt F) w9.toLoadRect f9) (arg9.view.readAt (Elt F) w9.toLoadRect f9) (arg5.view.readAt (Elt F) (Rect.unit (s := S128x8192) (k0_off2 k) S128x1024.size (k0_off2_inb k)).toLoadRect X5) (arg8.view.readAt (Elt F) w8.toLoadRect f8))⟩] w8.toLoadRect) = _
  rw [readAt_kblk _ _ (Fin.ofNat 8 (2 * k.val + 1)) _ (off1 k _ rfl), readAt_vblk _ _ (Fin.ofNat 8 (2 * k.val + 1)) _ (off3 k _ rfl),
    readAt_vblk _ _ (Fin.ofNat 8 (2 * k.val)) _ (off2 k _ rfl)]
  rw [View.readCov_full (s := S1x2048), View.readCov_full (s := S1024x2048), View.readCov_full (s := S144x2048), View.readAt_full (s := S1x2048),
    View.readAt_full (s := S1024x2048), View.readAt_full (s := S144x2048), h4, h5, h7, h8, h9, pay9_eq, pay10_eq, pay21_eq]
  rfl

include h4 in
/-- After a trip the first score buffer holds the scores of the next trip's first chunk. -/
theorem trip9 : arg9.view.read (Elt F) (arg9.view.writes (Elt F) f9 ((trip_k0_t1 (F := F) 𝒱 c bd i arg3 harg3 arg4 harg4 arg5 harg5 arg6 harg6 arg7 harg7 arg8 harg8 arg9 harg9 arg10 harg10 v0 v2 X4 X5 k).2.2.1 f7 f8 f9 f10))
    = score (k0_pay16 v0 v2) x1 (2 * k.val + 2) := by
  unfold trip_k0_t1; dsimp only
  refine (View.read_writes_full (s := S1024x2048) _ _ _ _ _).trans ?_
  show k0_pay11 (k0_pay16 v0 v2) (arg4.view.readAt (Elt F) (Rect.unit (s := S1x8192x128) (k0_off1 k 2#32) S1x1024x128.size (k0_off1_inb k 1)).toLoadRect X4) = _
  rw [readAt_kblk _ _ (Fin.ofNat 8 (2 * k.val + 2)) _ (off1' k _ rfl)]
  rw [h4]
  rfl

end trip

end Cert.AttnState

end
-- ==== Proof.AttnBlock.lean ====
/- What one run of the attention kernel's body stores into its output block: the two halves of the final division of
   the sums left after all eight chunks. -/
module

public import proofs.«01_k».proof.Proof.AttnRun
public import proofs.«01_k».proof.Proof.AttnState

@[expose] public section

set_option maxRecDepth 16384

noncomputable section

namespace Cert.AttnState

open Cert.AttnIdeal Cert.AttnIdeal.Gen
open Idealize.ShloMosaic Idealize.ShloMosaic.TcCoe Idealize.ShloMosaic.Tactic
open Idealize.SL Idealize.SL.Sem

variable {F : FTy → Type} [FloatOps F]

variable (c : Dev nD) (i : grid0.Coords) (arg3 : Memref sig .tc .vmem S1x1024x256 .bf16) (harg3 : arg3.IsWhole) (arg4 : Memref sig .tc .vmem S1x8192x128 .bf16) (harg4 : arg4.IsWhole) (arg5 : Memref sig .tc .vmem S128x8192 .bf16) (harg5 : arg5.IsWhole) (arg6 : Memref sig .tc .vmem S1x1024x256 .bf16) (harg6 : arg6.IsWhole) (arg7 : Memref sig .tc .vmem S1x2048 .f32) (harg7 : arg7.IsWhole) (arg8 : Memref sig .tc .vmem S144x2048 .f32) (harg8 : arg8.IsWhole) (arg9 : Memref sig .tc .vmem S1024x2048 .f32) (harg9 : arg9.IsWhole) (arg10 : Memref sig .tc .vmem S1024x2048 .f32) (harg10 : arg10.IsWhole)

section loop
variable (𝒱 : Variants) (bd : Option 𝒱.V) (v0 : Vec F S1x1024x128 .bf16) (v2 : Vec F S1x1024x128 .bf16) (X4 : BufTy.Contents (Elt F) arg4.view.ty) (X5 : BufTy.Contents (Elt F) arg5.view.ty)
  (G7 : BufTy.Contents (Elt F) arg7.view.ty) (G8 : BufTy.Contents (Elt F) arg8.view.ty) (G9 : BufTy.Contents (Elt F) arg9.view.ty) (G10 : BufTy.Contents (Elt F) arg10.view.ty)
  (x1 : Vec F S1x8192x128 .bf16) (x2 : Vec F S128x8192 .bf16)
  (h4 : arg4.view.read (Elt F) X4 = x1) (h5 : arg5.view.read (Elt F) X5 = x2)
  (h7 : arg7.view.read (Elt F) G7 = k0_pay17) (h8 : arg8.view.read (Elt F) G8 = k0_pay18)
  (h9 : arg9.view.read (Elt F) G9 = score (k0_pay16 v0 v2) x1 0)

include h4 h5 h7 h8 h9 in
/-- After `k` trips the loop has eaten `2 k` chunks, and the scores of the next one are ready. -/
theorem loop_inv : ∀ k : ℕ, k ≤ k0_t1_loop.trips →
    arg7.view.read (Elt F) (arg7.view.writes (Elt F) G7 (pb_k0_t1 (F := F) 𝒱 c bd i arg3 harg3 arg4 harg4 arg5 harg5 arg6 harg6 arg7 harg7 arg8 harg8 arg9 harg9 arg10 harg10 v0 v2 X4 X5 G7 G8 G9 G10 k).1) = (eaten (k0_pay16 v0 v2) x1 x2 (2 * k)).1
    ∧ arg8.view.read (Elt F) (arg8.view.writes (Elt F) G8 (pb_k0_t1 (F := F) 𝒱 c bd i arg3 harg3 arg4 harg4 arg5 harg5 arg6 harg6 arg7 harg7 arg8 harg8 arg9 harg9 arg10 harg10 v0 v2 X4 X5 G7 G8 G9 G10 k).2.1) = (eaten (k0_pay16 v0 v2) x1 x2 (2 * k)).2
    ∧ arg9.view.read (Elt F) (arg9.view.writes (Elt F) G9 (pb_k0_t1 (F := F) 𝒱 c bd i arg3 harg3 arg4 harg4 arg5 harg5 arg6 harg6 arg7 harg7 arg8 harg8 arg9 harg9 arg10 harg10 v0 v2 X4 X5 G7 G8 G9 G10 k).2.2.1) = score (k0_pay16 v0 v2) x1 (2 * k)
  | 0, _ => ⟨h7, h8, h9⟩
  | k + 1, hk => by
    obtain ⟨i7, i8, i9⟩ := loop_inv k (Nat.le_of_succ_le hk)
    have e := pb_k0_t1_succ (F := F) 𝒱 c bd i arg3 harg3 arg4 harg4 arg5 harg5 arg6 harg6 arg7 harg7 arg8 harg8 arg9 harg9 arg10 harg10 v0 v2 X4 X5 G7 G8 G9 G10 ⟨k, hk⟩
    rw [e]
    refine ⟨?_, ?_, ?_⟩
    · rw [View.writes_append]
      exact trip7 (k := ⟨k, hk⟩) (h4 := h4) (h7 := i7) (h9 := i9) ..
    · rw [View.writes_append]
      exact trip8 (k := ⟨k, hk⟩) (h4 := h4) (h5 := h5) (h7 := i7) (h8 := i8) (h9 := i9) ..
    · rw [View.writes_append]
      exact trip9 (k := ⟨k, hk⟩) (h4 := h4) ..

end loop

/-- The two heads' queries of a block: its first 128 columns and its last 128. -/
def qlo (x0 : Vec F S1x1024x256 .bf16) : Vec F S1x1024x128 .bf16 :=
  VecWindow.window x0 ![0, 0, 0] S1x1024x128.size inb_S1x1024x256_S1x1024x128_0_0_0
def qhi (x0 : Vec F S1x1024x256 .bf16) : Vec F S1x1024x128 .bf16 :=
  VecWindow.window x0 ![0, 0, 128] S1x1024x128.size inb_S1x1024x256_S1x1024x128_0_0_128

/-- The running maximum and sums of a whole query block after `n` chunks. -/
def blockState (x0 : Vec F S1x1024x256 .bf16) (x1 : Vec F S1x8192x128 .bf16) (x2 : Vec F S128x8192 .bf16) (n : ℕ) :=
  eaten (k0_pay16 (qlo x0) (qhi x0)) x1 x2 n

variable (x0 : Vec F S1x1024x256 .bf16) (x1 : Vec F S1x8192x128 .bf16) (x2 : Vec F S128x8192 .bf16)
  (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)

/-- A piece that covers the whole shape, then anything over it, read back. -/
theorem readCov_append {sg : RefSig} {κ : Kind} {sp : Space} {s : Shape} {e : EltTy} (v : View sg κ sp s e) (L L' : List (View.Piece (Elt F) s e))
    {off : Fin s.rank → ℕ} (inb : ∀ a, off a + s.size a ≤ s.size a) :
    v.readCov (L ++ L') (Rect.unit off s.size inb).toLoadRect = v.read (Elt F) (v.writes (Elt F) (v.writes (Elt F) v.junk L') L) := by
  unfold View.readCov
  rw [View.readAt_full, View.writes_append]

theorem trips_eq : (Scf.trips k0_t1_loop.lb k0_t1_loop.ub k0_t1_loop.st) = 3 := by decide +kernel

theorem pay1_eq (m : Vec F S1x2048 .f32) (s : Vec F S1024x2048 .f32) (vt : Vec F S128x1024 .bf16) (acc : Vec F S144x2048 .f32) :
    k0_pay1 k0_pay19 m (k0_pay28 m s) s vt acc = k0_pay8 k0_pay19 m s s vt acc := shapeCast_self _ _
theorem pay26_eq (m : Vec F S1x2048 .f32) (s : Vec F S1024x2048 .f32) (vt : Vec F S128x1024 .bf16) (acc : Vec F S144x2048 .f32) :
    k0_pay26 k0_pay19 m s s vt acc = k0_pay8 k0_pay19 m s s vt acc := shapeCast_self _ _
theorem pay27_eq (m : Vec F S1x2048 .f32) (s : Vec F S1024x2048 .f32) : k0_pay27 m s = k0_pay7 m s := shapeCast_self _ _

/-- The running sums the body divides at the end are those after all eight chunks. -/
theorem acc_eq : Cert.AttnRun.bodyRun.sl.v77 c i arg3 harg3 arg4 harg4 arg5 harg5 arg6 harg6 arg7 harg7 arg8 harg8 arg9 harg9 arg10 harg10 x0 x1 x2 f10
    = (blockState x0 x1 x2 8).2 := by
  have hq0 : arg3.view.readAt (Elt F) (Rect.unit (s := S1x1024x256) ![0, 0, 0] S1x1024x128.size inb_S1x1024x256_S1x1024x128_0_0_0).toLoadRect (harg3.unread x0) = qlo x0 := by
    rw [View.readAt_unit _ _ _ rfl inb_S1x1024x256_S1x1024x128_0_0_0, harg3.read_unread]; rfl
  have hq1 : arg3.view.readAt (Elt F) (Rect.unit (s := S1x1024x256) ![0, 0, 128] S1x1024x128.size inb_S1x1024x256_S1x1024x128_0_0_128).toLoadRect (harg3.unread x0) = qhi x0 := by
    rw [View.readAt_unit _ _ _ rfl inb_S1x1024x256_S1x1024x128_0_0_128, harg3.read_unread]; rfl
  generalize hQ0 : arg3.view.readAt (Elt F) (Rect.unit (s := S1x1024x256) ![0, 0, 0] S1x1024x128.size inb_S1x1024x256_S1x1024x128_0_0_0).toLoadRect (harg3.unread x0) = Q0 at hq0
  generalize hQ1 : arg3.view.readAt (Elt F) (Rect.unit (s := S1x1024x256) ![0, 0, 128] S1x1024x128.size inb_S1x1024x256_S1x1024x128_0_0_128).toLoadRect (harg3.unread x0) = Q1 at hq1
  have hk0 : arg4.view.readAt (Elt F) (Rect.unit (s := S1x8192x128) ![0, 0, 0] S1x1024x128.size inb_S1x8192x128_S1x1024x128_0_0_0).toLoadRect (harg4.unread x1) = kblk x1 0 :=
    (readAt_kblk _ _ 0 _ (by simp)).trans (by rw [harg4.read_unread])
  have hk7 : arg4.view.readAt (Elt F) (Rect.unit (s := S1x8192x128) ![0, 7168, 0] S1x1024x128.size inb_S1x8192x128_S1x1024x128_0_7168_0).toLoadRect (harg4.unread x1) = kblk x1 7 :=
    (readAt_kblk _ _ 7 _ (by simp)).trans (by rw [harg4.read_unread])
  have hv6 : arg5.view.readAt (Elt F) (Rect.unit (s := S128x8192) ![0, 6144] S128x1024.size inb_S128x8192_S128x1024_0_6144).toLoadRect (harg5.unread x2) = vblk x2 6 :=
    (readAt_vblk _ _ 6 _ (by simp)).trans (by rw [harg5.read_unread])
  have hv7 : arg5.view.readAt (Elt F) (Rect.unit (s := S128x8192) ![0, 7168] S128x1024.size inb_S128x8192_S128x1024_0_7168).toLoadRect (harg5.unread x2) = vblk x2 7 :=
    (readAt_vblk _ _ 7 _ (by simp)).trans (by rw [harg5.read_unread])
  have h := loop_inv c i arg3 harg3 arg4 harg4 arg5 harg5 arg6 harg6 arg7 harg7 arg8 harg8 arg9 harg9 arg10 harg10 Variants.none none Q0 Q1 (harg4.unread x1) (harg5.unread x2)
    (arg7.view.writes (Elt F) arg7.view.junk [⟨w7, k0_pay17⟩]) (arg8.view.writes (Elt F) arg8.view.junk [⟨w8, k0_pay18⟩])
    (arg9.view.writes (Elt F) arg9.view.junk [⟨w9, k0_pay20 Q0 Q1 (arg4.view.readAt (Elt F) (Rect.unit (s := S1x8192x128) ![0, 0, 0] S1x1024x128.size inb_S1x8192x128_S1x1024x128_0_0_0).toLoadRect (harg4.unread x1))⟩])
    f10 x1 x2 (harg4.read_unread _) (harg5.read_unread _) (View.read_writes_full (s := S1x2048) _ _ _ _ _) (View.read_writes_full (s := S144x2048) _ _ _ _ _)
    ((View.read_writes_full (s := S1024x2048) _ _ _ _ _).trans (by rw [hk0]; rfl)) (Scf.trips k0_t1_loop.lb k0_t1_loop.ub k0_t1_loop.st) le_rfl
  generalize hPB : (pb_k0_t1 (F := F) Variants.none c none i arg3 harg3 arg4 harg4 arg5 harg5 arg6 harg6 arg7 harg7 arg8 harg8 arg9 harg9 arg10 harg10 Q0 Q1 (harg4.unread x1) (harg5.unread x2) (arg7.view.writes (Elt F) arg7.view.junk [⟨w7, k0_pay17⟩]) (arg8.view.writes (Elt F) arg8.view.junk [⟨w8, k0_pay18⟩]) (arg9.view.writes (Elt F) arg9.view.junk [⟨w9, k0_pay20 Q0 Q1 (arg4.view.readAt (Elt F) (Rect.unit (s := S1x8192x128) ![0, 0, 0] S1x1024x128.size inb_S1x8192x128_S1x1024x128_0_0_0).toLoadRect (harg4.unread x1))⟩]) f10 (Scf.trips k0_t1_loop.lb k0_t1_loop.ub k0_t1_loop.st)) = PB at h
  rw [trips_eq] at h
  obtain ⟨h7, h8, h9⟩ := h
  rw [← readCov_append (s := S1x2048) arg7.view PB.1 [⟨w7, k0_pay17⟩] inb_S1x2048_S1x2048_0_0] at h7
  rw [← readCov_append (s := S144x2048) arg8.view PB.2.1 [⟨w8, k0_pay18⟩] inb_S144x2048_S144x2048_0_0] at h8
  rw [← readCov_append (s := S1024x2048) arg9.view PB.2.2.1 _ inb_S1024x2048_S1024x2048_0_0] at h9
  refine (View.readCov_full (s := S144x2048) arg8.view inb_S144x2048_S144x2048_0_0 inb_S144x2048_S144x2048_0_0 _ _).trans ?_
  sl_unfold_words
  rw [hQ0, hQ1, hPB]
  rw [View.readCov_full (s := S1x2048), View.readCov_full (s := S1024x2048), View.readCov_full (s := S144x2048), hk7, hv6, hv7,
    h7, h8, h9, pay1_eq, pay26_eq, pay27_eq]
  subst hq0 hq1
  rfl

/-- The body's two stores: the two heads' halves of the block. -/
theorem pieces_eq : (Cert.AttnRun.bodyRun c i arg3 harg3 arg4 harg4 arg5 harg5 arg6 harg6 arg7 harg7 arg8 harg8 arg9 harg9 arg10 harg10 x0 x1 x2).1 f7 f8 f9 f10 f6
    = [⟨Rect.unit ![0, 0, 128] S1x1024x128.size inb_S1x1024x256_S1x1024x128_0_0_128, k0_pay5 (blockState x0 x1 x2 8).2⟩,
       ⟨Rect.unit ![0, 0, 0] S1x1024x128.size inb_S1x1024x256_S1x1024x128_0_0_0, k0_pay4 (blockState x0 x1 x2 8).2⟩] := by
  unfold Cert.AttnRun.bodyRun; dsimp only
  rw [acc_eq]

/-- The two halves of a block, as pieces. -/
abbrev halves (hi lo : Vec F S1x1024x128 .bf16) : List (View.Piece (Elt F) S1x1024x256 .bf16) :=
  [⟨Rect.unit ![0, 0, 128] S1x1024x128.size inb_S1x1024x256_S1x1024x128_0_0_128, hi⟩,
   ⟨Rect.unit ![0, 0, 0] S1x1024x128.size inb_S1x1024x256_S1x1024x128_0_0_0, lo⟩]

theorem halves_cover (hi lo : Vec F S1x1024x128 .bf16) (y : S1x1024x256.Idx) : ∃ pc ∈ halves hi lo, y ∈ pc.1.set :=
  View.cover_of_tiledL (halves hi lo) S1x1024x128.size (by sl_kernel_rfl) y

/-- What a point leaves in its output block. -/
def outBlock (x0 : Vec F S1x1024x256 .bf16) (x1 : Vec F S1x8192x128 .bf16) (x2 : Vec F S128x8192 .bf16) : Vec F S1x1024x256 .bf16 :=
  View.canon (halves (k0_pay5 (blockState x0 x1 x2 8).2) (k0_pay4 (blockState x0 x1 x2 8).2))

/-- The block read back after the run. -/
theorem read_out (f : BufTy.Contents (Elt F) arg6.view.ty) : arg6.view.read (Elt F) (arg6.view.writes (Elt F) f
      ((Cert.AttnRun.bodyRun c i arg3 harg3 arg4 harg4 arg5 harg5 arg6 harg6 arg7 harg7 arg8 harg8 arg9 harg9 arg10 harg10 x0 x1 x2).1 f7 f8 f9 f10 f6))
    = outBlock x0 x1 x2 := by
  rw [pieces_eq]
  exact View.read_writes_eq_canon _ _ _ (halves_cover _ _)

end Cert.AttnState

end
-- ==== Proof.AttnLaunch.lean ====
/- The launch of the attention kernel, carrying the value every grid point leaves in its output block
   (`AttnState.outBlock` of the point's blocks): at the end the result array's blocks are these. -/
module

public import proofs.«01_k».proof.Proof.Gen.AttnIdeal.Frame.Runs
public import proofs.«01_k».proof.Proof.AttnBlock
public import Idealize.ShloMosaic.Lib.Claim
public import Idealize.ShloMosaic.Lib.Pipeline.Value

@[expose] public section

set_option maxRecDepth 16384

noncomputable section

namespace Cert.AttnLaunch

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output window's staging buffer holds after point `t`. -/
def outsAt (c : Dev nD) (t : Fin cfg0.N) : Vec F S1x1024x256 .bf16 :=
  AttnState.outBlock (iblk m c 0 t) (iblk m c 1 t) (iblk m c 2 t)

/-- The proof data of the one pipeline on core `c`: the arrays as the region finds them (`V`); after the body at
    point `t` each input's buffer at its block and the outputs' at `outsAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold owns
  iintro ⟨⟨⟨⟨%e0, %g0, -, HS0⟩, ⟨%e1, %g1, -, HS1⟩, ⟨%e2, %g2, -, HS2⟩, ⟨%e3, %g3, -, HS3⟩⟩, Hg⟩, Ho, ⟨%d0, H0⟩, ⟨%d1, H1⟩, ⟨%d2, H2⟩, ⟨%d3, %f3, -, H3⟩⟩
  iapply ((AttnRun.bodyRun c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (iblk m c 0 t) (iblk m c 1 t) (iblk m c 2 t)).2 Set.univ _ f3 g0 g1 g2 g3)
  unfold owns
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexists _; isplitr
  swap; · iexact H3
  ipureintro; exact AttnState.read_out ..

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame, at any floats: arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The index map sends distinct grid points to distinct block indices (decided over the 128 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S8x8192x512.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.AttnLaunch

end
-- ==== Proof.AttnPay.lean ====
/- The attention kernel's vector expressions over the extended reals, read at an index. -/
module

public import proofs.«01_k».proof.Proof.AttnBlock
public import Idealize.ShloMosaic.Lib.Pointwise

@[expose] public section

set_option maxRecDepth 16384

noncomputable section

namespace Cert.AttnPay

open Cert.AttnIdeal Cert.AttnIdeal.Gen
open Idealize.ShloMosaic

/-- A chunk's scores: key `r` against query `j`. -/
theorem score_apply (q : FVec Ideal S2048x128 .bf16) (kb : FVec Ideal S1x1024x128 .bf16) (r : Fin 1024) (j : Fin 2048) :
    k0_pay6 (F := Ideal) q kb (ix2 r j) = ∑ d : Fin 128, kb (ix3 0 r d) * q (ix2 j d) := by
  pointwise [k0_pay6]

/-- A maximum down the rows of a vector, from `-∞`. -/
theorem colmax_apply {K N : ℕ} (s : FVec Ideal ⟨2, ![K, N]⟩ .f32) (h : Shape.Reduces ⟨2, ![K, N]⟩ [0] ⟨1, ![N]⟩)
    (hφ : FKind.Formats .f32) (hacc : (0xFF800000#32 : BitVec 32) = FKind.maximumf.neutral .f32 hφ) (j : Fin N) :
    multiReduction .maximumf [0] ⟨1, ![N]⟩ s 0xFF800000#32 h hφ hacc (ix1 j) = Finset.univ.sup fun r : Fin K => s (ix2 r j) := by
  rw [Ideal.multiReduction_maximumf_single]
  show Finset.fold max (Ideal.ofBits .f32 0xFF800000#32) _ _ = _
  rw [show Ideal.ofBits FTy.f32 0xFF800000#32 = ⊥ by simp [Ideal.ofBits, Ideal.ieee]]
  refine congrArg (Finset.univ : Finset (Fin K)).sup (funext fun r => congrArg s (funext fun a => Fin.ext ?_))
  match a with
  | ⟨0, _⟩ => rfl
  | ⟨1, _⟩ => rfl

/-- A vector cast to one row, at an index. -/
theorem row_apply {N : ℕ} (s : FVec Ideal ⟨1, ![N]⟩ .f32) (h : Shape.ShapeCasts ⟨1, ![N]⟩ ⟨2, ![1, N]⟩) (j : Fin N) :
    shapeCast ⟨2, ![1, N]⟩ s h (ix2 0 j) = s (ix1 j) := by
  refine shapeCast_apply _ _ (ix2 (0 : Fin 1) j) (ix1 j) ?_
  rw [Shape.rowMajor_val_one, Shape.rowMajor_val_two]
  show j.val = 0 * N + j.val
  omega

/-- The larger of a row and the maxima down the rows of a vector. -/
theorem rowmax_apply {K N : ℕ} (m : FVec Ideal ⟨2, ![1, N]⟩ .f32) (s : FVec Ideal ⟨2, ![K, N]⟩ .f32)
    (h : Shape.Reduces ⟨2, ![K, N]⟩ [0] ⟨1, ![N]⟩) (hφ : FKind.Formats .f32)
    (hacc : (0xFF800000#32 : BitVec 32) = FKind.maximumf.neutral .f32 hφ) (hc : Shape.ShapeCasts ⟨1, ![N]⟩ ⟨2, ![1, N]⟩) (j : Fin N) :
    maximumf m (shapeCast ⟨2, ![1, N]⟩ (multiReduction .maximumf [0] ⟨1, ![N]⟩ s 0xFF800000#32 h hφ hacc) hc) (ix2 0 j)
      = max (m (ix2 0 j)) (Finset.univ.sup fun r : Fin K => s (ix2 r j)) :=
  congrArg (max (m (ix2 0 j))) ((row_apply _ _ j).trans (colmax_apply s _ _ _ j))

/-- The new running maximum. -/
theorem max_apply (m : FVec Ideal S1x2048 .f32) (s : FVec Ideal S1024x2048 .f32) (j : Fin 2048) :
    k0_pay7 (F := Ideal) m s (ix2 0 j) = max (m (ix2 0 j)) (Finset.univ.sup fun r : Fin 1024 => s (ix2 r j)) :=
  rowmax_apply m s _ _ _ _ j

/-- The new running sums: the old ones rescaled, and the chunk's weighted values (or, below them, its weights) added. -/
theorem sums_apply (ones : FVec Ideal S16x1024 .bf16) (m : FVec Ideal S1x2048 .f32) (s : FVec Ideal S1024x2048 .f32)
    (vt : FVec Ideal S128x1024 .bf16) (acc : FVec Ideal S144x2048 .f32) (h : Fin 144) (j : Fin 2048) :
    k0_pay8 (F := Ideal) ones m s s vt acc (ix2 h j)
      = Ideal.exp2 (m (ix2 0 j) - k0_pay7 (F := Ideal) m s (ix2 0 j)) * acc (ix2 h j)
        + ∑ r : Fin 1024, (if hh : h.val < 128 then vt (ix2 ⟨h.val, hh⟩ r) else ones (ix2 ⟨h.val - 128, by omega⟩ r))
            * Ideal.exp2 (s (ix2 r j) - k0_pay7 (F := Ideal) m s (ix2 0 j)) := by
  pointwise [k0_pay8]
  rfl

/-- The queries of a block: the first head's rows over the second's. -/
theorem queries_apply (lo hi : Vec Ideal S1x1024x128 .bf16) (j : Fin 2048) (d : Fin 128) :
    k0_pay16 (F := Ideal) lo hi (ix2 j d)
      = if h : j.val < 1024 then lo (ix3 0 ⟨j.val, h⟩ d) else hi (ix3 0 ⟨j.val - 1024, by omega⟩ d) := by
  pointwise [k0_pay16]

/-- The first head's output. -/
theorem out_lo_apply (acc : FVec Ideal S144x2048 .f32) (r : Fin 1024) (d : Fin 128) :
    k0_pay4 (F := Ideal) acc (ix3 0 r d)
      = Ideal.div (acc (ix2 ⟨d.val, by omega⟩ ⟨r.val, by omega⟩)) (acc (ix2 ⟨128, by omega⟩ ⟨r.val, by omega⟩)) := by
  pointwise [k0_pay4, k0_pay3]

/-- The second head's output. -/
theorem out_hi_apply (acc : FVec Ideal S144x2048 .f32) (r : Fin 1024) (d : Fin 128) :
    k0_pay5 (F := Ideal) acc (ix3 0 r d)
      = Ideal.div (acc (ix2 ⟨d.val, by omega⟩ ⟨1024 + r.val, by omega⟩))
          (acc (ix2 ⟨128, by omega⟩ ⟨1024 + r.val, by omega⟩)) := by
  pointwise [k0_pay5, k0_pay3]

theorem init_max (j : Fin 2048) : k0_pay17 (F := Ideal) (ix2 0 j) = ⊥ := by
  pointwise [k0_pay17]
  simp [Ideal.ofBits, Ideal.ieee]

theorem init_sums (h : Fin 144) (j : Fin 2048) : k0_pay18 (F := Ideal) (ix2 h j) = 0 := by
  pointwise [k0_pay18]

theorem ones_apply (r : Fin 16) (c : Fin 1024) : k0_pay19 (F := Ideal) (ix2 r c) = 1 := by
  pointwise [k0_pay19]

end Cert.AttnPay

end
-- ==== Proof.Online.lean ====
/- The mathematics of a softmax swept in blocks: a running maximum, a running weighted sum rescaled
   whenever the maximum moves, one division at the end — on the extended reals, the scores finite and
   the values anything. No program is mentioned here. -/
module

public import Idealize.ShloMosaic.PureOps.Ideal

@[expose] public section

noncomputable section

namespace Cert.Online

open Idealize.ShloMosaic

/-- The greatest of the first `n` scores (`⊥` of none). -/
def mx (s : ℕ → EReal) (n : ℕ) : EReal := (Finset.range n).sup s

/-- The sum of the first `n` values, each weighted by two to its score less the greatest score so far. -/
def wsum (s v : ℕ → EReal) (n : ℕ) : EReal :=
  ∑ t ∈ Finset.range n, v t * Ideal.exp2 (s t - mx s n)

theorem mx_zero (s : ℕ → EReal) : mx s 0 = ⊥ := rfl

theorem wsum_zero (s v : ℕ → EReal) : wsum s v 0 = 0 := rfl

/-- The greatest of the first `n + b` scores is the greater of the first `n`'s and the next `b`'s. -/
theorem mx_add (s : ℕ → EReal) (n b : ℕ) :
    mx s (n + b) = max (mx s n) ((Finset.range b).sup fun r => s (n + r)) := by
  apply le_antisymm
  · refine Finset.sup_le fun t ht => ?_
    rw [Finset.mem_range] at ht
    by_cases h : t < n
    · exact le_max_of_le_left (Finset.le_sup (f := s) (Finset.mem_range.2 h))
    · refine le_max_of_le_right ?_
      have e : s t = (fun r => s (n + r)) (t - n) := by
        show s t = s (n + (t - n)); congr 1; omega
      rw [e]
      exact Finset.le_sup (f := fun r => s (n + r)) (Finset.mem_range.2 (by omega))
  · refine max_le (Finset.sup_le fun t ht => ?_) (Finset.sup_le fun t ht => ?_)
    · exact Finset.le_sup (f := s) (Finset.mem_range.2 (by rw [Finset.mem_range] at ht; omega))
    · exact Finset.le_sup (f := s) (Finset.mem_range.2 (by rw [Finset.mem_range] at ht; omega))

/-- Of finite scores, at least one, the greatest is finite. -/
theorem mx_finite {s : ℕ → EReal} (hs : ∀ t, ∃ r : ℝ, s t = (r : EReal)) {n : ℕ} (hn : 0 < n) :
    ∃ r : ℝ, mx s n = (r : EReal) := by
  obtain ⟨t, _, ht⟩ := Finset.exists_mem_eq_sup (Finset.range n) ⟨0, Finset.mem_range.2 hn⟩ s
  obtain ⟨r, hr⟩ := hs t
  exact ⟨r, by rw [mx, ht, hr]⟩

/-- A finite nonnegative factor distributes over a finite sum of extended reals. -/
theorem mul_sum_of_nonneg {ι : Type} (S : Finset ι) (f : ι → EReal) {a : ℝ} (ha : 0 ≤ a) :
    (a : EReal) * ∑ t ∈ S, f t = ∑ t ∈ S, (a : EReal) * f t := by
  classical
  induction S using Finset.induction_on with
  | empty => simp
  | insert x S hx ih =>
    rw [Finset.sum_insert hx, Finset.sum_insert hx, ← ih]
    exact EReal.left_distrib_of_nonneg_of_ne_top (EReal.coe_nonneg.2 ha) (EReal.coe_ne_top _) _ _

/-- The reals' finite sums, read as extended reals. -/
theorem coe_sum {ι : Type} (S : Finset ι) (f : ι → ℝ) :
    ((∑ t ∈ S, f t : ℝ) : EReal) = ∑ t ∈ S, ((f t : ℝ) : EReal) := by
  classical
  induction S using Finset.induction_on with
  | empty => simp
  | insert x S hx ih => rw [Finset.sum_insert hx, Finset.sum_insert hx, EReal.coe_add, ih]

theorem exp2_sub (a b : ℝ) : Ideal.exp2 ((a : EReal) - (b : EReal)) = ((Real.rpow 2 (a - b) : ℝ) : EReal) := by
  rw [← EReal.coe_sub, Ideal.exp2_coe]

/-- Moving the reference maximum from `a` to `b` multiplies a weight by `2 ^ (a - b)`. -/
theorem rescale (x a b : ℝ) :
    Ideal.exp2 ((a : EReal) - (b : EReal)) * Ideal.exp2 ((x : EReal) - (a : EReal))
      = Ideal.exp2 ((x : EReal) - (b : EReal)) := by
  rw [exp2_sub, exp2_sub, exp2_sub, ← EReal.coe_mul]
  congr 1
  show (2 : ℝ) ^ (a - b) * (2 : ℝ) ^ (x - a) = (2 : ℝ) ^ (x - b)
  rw [← Real.rpow_add (by norm_num)]
  congr 1; ring

/-- ONE STEP OF THE SWEEP: the sum so far, rescaled to the new maximum, plus the next block's. -/
theorem wsum_add {s : ℕ → EReal} (hs : ∀ t, ∃ r : ℝ, s t = (r : EReal)) (v : ℕ → EReal) (n b : ℕ) (hb : 0 < b) :
    wsum s v (n + b)
      = Ideal.exp2 (mx s n - mx s (n + b)) * wsum s v n
        + ∑ r ∈ Finset.range b, v (n + r) * Ideal.exp2 (s (n + r) - mx s (n + b)) := by
  unfold wsum
  rw [Finset.sum_range_add]
  congr 1
  rcases Nat.eq_zero_or_pos n with rfl | hn
  · simp
  · obtain ⟨a, ha⟩ := mx_finite hs hn
    obtain ⟨c, hc⟩ := mx_finite hs (n := n + b) (by omega)
    rw [ha, hc, exp2_sub, mul_sum_of_nonneg _ _ (show 0 ≤ Real.rpow 2 (a - c) from Real.rpow_nonneg (by norm_num) _)]
    refine Finset.sum_congr rfl fun t _ => ?_
    obtain ⟨x, hx⟩ := hs t
    rw [hx, ← rescale x a c, exp2_sub a c, ← mul_assoc, ← mul_assoc, mul_comm (v t)]

/-- THE SWEEP IS THE SOFTMAX: the weighted sum over the sum of the weights is the values averaged
    with each weight divided first. -/
theorem div_wsum {s : ℕ → EReal} (hs : ∀ t, ∃ r : ℝ, s t = (r : EReal)) (v : ℕ → EReal) (n : ℕ) (hn : 0 < n) :
    Ideal.div (wsum s v n) (wsum s (fun _ => 1) n)
      = ∑ t ∈ Finset.range n,
          v t * Ideal.div (Ideal.exp2 (s t - mx s n)) (∑ u ∈ Finset.range n, Ideal.exp2 (s u - mx s n)) := by
  obtain ⟨M, hM⟩ := mx_finite hs hn
  choose x hx using hs
  have hL : wsum s (fun _ => 1) n = ((∑ u ∈ Finset.range n, Real.rpow 2 (x u - M) : ℝ) : EReal) := by
    unfold wsum
    rw [hM, coe_sum]
    exact Finset.sum_congr rfl fun u _ => by rw [hx, exp2_sub, one_mul]
  have hL' : (∑ u ∈ Finset.range n, Ideal.exp2 (s u - mx s n))
      = ((∑ u ∈ Finset.range n, Real.rpow 2 (x u - M) : ℝ) : EReal) := by
    rw [hM, coe_sum]
    exact Finset.sum_congr rfl fun u _ => by rw [hx, exp2_sub]
  have hpos : 0 < ∑ u ∈ Finset.range n, Real.rpow 2 (x u - M) :=
    Finset.sum_pos (fun u _ => Real.rpow_pos_of_pos (by norm_num) _) ⟨0, Finset.mem_range.2 hn⟩
  rw [hL, hL']
  generalize (∑ u ∈ Finset.range n, Real.rpow 2 (x u - M)) = L at hpos
  have hne : (L : EReal) ≠ 0 := by
    intro h; exact hpos.ne' (EReal.coe_eq_zero.1 h)
  simp only [Ideal.div, if_neg hne]
  unfold wsum
  rw [← EReal.coe_inv, mul_comm, mul_sum_of_nonneg _ _ (inv_nonneg.2 hpos.le)]
  refine Finset.sum_congr rfl fun t _ => ?_
  rw [mul_comm, mul_assoc]

/-- Two to a power, the host's and the kernel's. -/
theorem pow_two (y : EReal) : Ideal.pow ((2 : ℝ) : EReal) y = Ideal.exp2 y := by
  induction y using EReal.rec with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

end Cert.Online

end
-- ==== Proof.AttnValue.lean ====
/- What one query block of the attention kernel comes to over the extended reals: at each query, the average of the values
   with the softmax weights of that query's scores. -/
module

public import proofs.«01_k».proof.Proof.AttnPay
public import proofs.«01_k».proof.Proof.Online

@[expose] public section

set_option maxRecDepth 16384

noncomputable section

namespace Cert.AttnValue

open Cert.AttnIdeal Cert.AttnIdeal.Gen Cert.AttnState Cert.AttnPay Cert.Online
open Idealize.ShloMosaic

variable (q : Vec Ideal S2048x128 .bf16) (x1 : Vec Ideal S1x8192x128 .bf16) (x2 : Vec Ideal S128x8192 .bf16)

/-- The score of key `t` against query `j` of the block. -/
def sc (j : Fin 2048) (t : ℕ) : EReal := ∑ d : Fin 128, x1 (ix3 0 (Fin.ofNat 8192 t) d) * q (ix2 j d)

/-- Row `h` of the values at key `t`; the rows past the values' 128 hold ones. -/
def vl (h : Fin 144) (t : ℕ) : EReal := if hh : h.val < 128 then x2 (ix2 ⟨h.val, hh⟩ (Fin.ofNat 8192 t)) else 1

/-- A supremum over the naturals below `n` is one over `Fin n`. -/
theorem sup_range_fin (n : ℕ) (f : ℕ → EReal) : (Finset.range n).sup f = Finset.univ.sup fun r : Fin n => f r :=
  le_antisymm
    (Finset.sup_le fun t ht => Finset.le_sup (f := fun r : Fin n => f r) (Finset.mem_univ (⟨t, Finset.mem_range.1 ht⟩ : Fin n)))
    (Finset.sup_le fun r _ => Finset.le_sup (f := f) (Finset.mem_range.2 r.isLt))

/-- A chunk of the keys at an index. -/
theorem kblk_apply (n : ℕ) (hn : n < 8) (r : Fin 1024) (d : Fin 128) :
    kblk x1 (Fin.ofNat 8 n) (ix3 0 r d) = x1 (ix3 0 (Fin.ofNat 8192 (1024 * n + r.val)) d) := by
  unfold kblk VecWindow.window
  refine congrArg x1 (funext fun a => Fin.ext ?_)
  match a with
  | 0 => rfl
  | 1 => show 1024 * (n % 8) + 1 * r.val = (1024 * n + r.val) % 8192
         omega
  | 2 => show 0 + 1 * d.val = d.val
         omega

/-- A chunk of the values at an index. -/
theorem vblk_apply (n : ℕ) (hn : n < 8) (h : Fin 128) (r : Fin 1024) :
    vblk x2 (Fin.ofNat 8 n) (ix2 h r) = x2 (ix2 h (Fin.ofNat 8192 (1024 * n + r.val))) := by
  unfold vblk VecWindow.window
  refine congrArg x2 (funext fun a => Fin.ext ?_)
  match a with
  | 0 => show 0 + 1 * h.val = h.val
         omega
  | 1 => show 1024 * (n % 8) + 1 * r.val = (1024 * n + r.val) % 8192
         omega

/-- A chunk's scores at an index. -/
theorem score_eq (n : ℕ) (hn : n < 8) (r : Fin 1024) (j : Fin 2048) :
    score (F := Ideal) q x1 n (ix2 r j) = sc q x1 j (1024 * n + r.val) := by
  refine (score_apply q _ r j).trans (Finset.sum_congr rfl fun d _ => ?_)
  rw [kblk_apply x1 n hn]

/-- The state after `n` chunks: the maximum of the first `1024 n` scores, and the sums weighted by their distance to it. -/
theorem eaten_eq (hs : ∀ j t, ∃ r : ℝ, sc q x1 j t = r) (n : ℕ) (hn : n ≤ 8) :
    (∀ j, (eaten (F := Ideal) q x1 x2 n).1 (ix2 0 j) = mx (sc q x1 j) (1024 * n))
      ∧ ∀ h j, (eaten (F := Ideal) q x1 x2 n).2 (ix2 h j) = wsum (sc q x1 j) (vl x2 h) (1024 * n) := by
  induction n with
  | zero => exact ⟨fun j => (init_max j).trans (mx_zero _).symm, fun h j => (init_sums h j).trans (wsum_zero _ _).symm⟩
  | succ n ih =>
    obtain ⟨ih1, ih2⟩ := ih (by omega)
    have hmax : ∀ j, k0_pay7 (F := Ideal) (eaten (F := Ideal) q x1 x2 n).1 (score (F := Ideal) q x1 n) (ix2 0 j)
        = mx (sc q x1 j) (1024 * n + 1024) := by
      intro j
      rw [max_apply, ih1, mx_add, sup_range_fin]
      exact congrArg (max _) (congrArg Finset.univ.sup (funext fun r => score_eq q x1 n (by omega) r j))
    refine ⟨fun j => hmax j, fun h j => ?_⟩
    refine (sums_apply _ _ _ _ _ h j).trans ?_
    rw [ih2, ih1, hmax, show 1024 * (n + 1) = 1024 * n + 1024 by ring, wsum_add (hs j) _ _ _ (by norm_num),
      Finset.sum_range]
    refine congrArg₂ (· + ·) rfl (Finset.sum_congr rfl fun r _ => ?_)
    rw [score_eq q x1 n (by omega)]
    refine congrArg₂ (· * ·) ?_ rfl
    unfold vl
    split
    · exact vblk_apply x2 n (by omega) _ r
    · exact ones_apply _ r

/-- The average of the values `v` with the softmax weights of the scores `s`, over all 8192 keys. -/
def avg (s v : ℕ → EReal) : EReal :=
  ∑ t ∈ Finset.range 8192, v t * Ideal.div (Ideal.exp2 (s t - mx s 8192)) (∑ u ∈ Finset.range 8192, Ideal.exp2 (s u - mx s 8192))

/-- A row of the sums over the row of the weights, after the last chunk. -/
theorem ratio (hs : ∀ j t, ∃ r : ℝ, sc q x1 j t = r) (h : Fin 128) (j : Fin 2048) (h' k' : Fin 144) (hh : h'.val = h.val) (hk : k'.val = 128) :
    Ideal.div ((eaten (F := Ideal) q x1 x2 8).2 (ix2 h' j)) ((eaten (F := Ideal) q x1 x2 8).2 (ix2 k' j))
      = avg (sc q x1 j) (fun t => x2 (ix2 h (Fin.ofNat 8192 t))) := by
  have e := (eaten_eq q x1 x2 hs 8 le_rfl).2
  rw [e, e, show vl x2 k' = fun _ => 1 from funext fun t => dif_neg (by omega), div_wsum (hs j) _ _ (by norm_num)]
  refine Finset.sum_congr rfl fun t _ => congrArg (· * _) ?_
  unfold vl
  rw [dif_pos (by omega)]
  exact congrArg (fun a => x2 (ix2 a _)) (Fin.ext hh)

/-- The query of the block that column `c` of row `r` answers, and the row of the values it averages. -/
def qrow (y : S1x1024x256.Idx) : Fin 2048 := ⟨1024 * ((y 2).val / 128) + (y 1).val, by
  have h1 : (y 1).val < 1024 := (y 1).isLt
  have h2 : (y 2).val < 256 := (y 2).isLt
  omega⟩
def vrow (y : S1x1024x256.Idx) : Fin 128 := ⟨(y 2).val % 128, Nat.mod_lt _ (by decide)⟩

/-- What a point leaves in its output block, at an index. -/
theorem outBlock_apply (x0 : Vec Ideal S1x1024x256 .bf16)
    (hs : ∀ j t, ∃ r : ℝ, sc (k0_pay16 (F := Ideal) (qlo x0) (qhi x0)) x1 j t = r) (y : S1x1024x256.Idx) :
    outBlock (F := Ideal) x0 x1 x2 y
      = avg (sc (k0_pay16 (F := Ideal) (qlo x0) (qhi x0)) x1 (qrow y)) (fun t => x2 (ix2 (vrow y) (Fin.ofNat 8192 t))) := by
  unfold outBlock
  refine View.canon_apply_of_pieces (Val := Elt Ideal) (e := .bf16) (fun y : S1x1024x256.Idx => avg (sc (k0_pay16 (F := Ideal) (qlo x0) (qhi x0)) x1 (qrow y)) (fun t => x2 (ix2 (vrow y) (Fin.ofNat 8192 t))))
    _ ?_ y (halves_cover _ _ y)
  intro pc hpc
  rcases List.mem_cons.mp hpc with rfl | hpc
  · intro (x : S1x1024x128.Idx)
    have h0 : (x 0).val < 1 := (x 0).isLt
    have h1 : (x 1).val < 1024 := (x 1).isLt
    have h2 : (x 2).val < 128 := (x 2).isLt
    refine (congrArg (k0_pay5 (F := Ideal) (blockState x0 x1 x2 8).2) (show x = ix3 0 (x 1) (x 2) from
      (eq_ix3 x).trans (congrArg (fun a => ix3 a (x 1) (x 2)) (Fin.ext (by show (x 0).val = 0; omega))))).trans ?_
    refine (out_hi_apply _ (x 1) (x 2)).trans ((ratio _ x1 x2 hs (x 2) _ _ _ rfl rfl).trans ?_)
    refine congrArg₂ (fun (a : Fin 2048) (b : Fin 128) => avg (sc (k0_pay16 (F := Ideal) (qlo x0) (qhi x0)) x1 a) (fun t => x2 (ix2 b (Fin.ofNat 8192 t)))) (Fin.ext ?_) (Fin.ext ?_)
    · show 1024 + (x 1).val = 1024 * ((128 + 1 * (x 2).val) / 128) + (0 + 1 * (x 1).val)
      omega
    · show (x 2).val = (128 + 1 * (x 2).val) % 128
      omega
  rcases List.mem_cons.mp hpc with rfl | hpc
  · intro (x : S1x1024x128.Idx)
    have h0 : (x 0).val < 1 := (x 0).isLt
    have h1 : (x 1).val < 1024 := (x 1).isLt
    have h2 : (x 2).val < 128 := (x 2).isLt
    refine (congrArg (k0_pay4 (F := Ideal) (blockState x0 x1 x2 8).2) (show x = ix3 0 (x 1) (x 2) from
      (eq_ix3 x).trans (congrArg (fun a => ix3 a (x 1) (x 2)) (Fin.ext (by show (x 0).val = 0; omega))))).trans ?_
    refine (out_lo_apply _ (x 1) (x 2)).trans ((ratio _ x1 x2 hs (x 2) _ _ _ rfl rfl).trans ?_)
    refine congrArg₂ (fun (a : Fin 2048) (b : Fin 128) => avg (sc (k0_pay16 (F := Ideal) (qlo x0) (qhi x0)) x1 a) (fun t => x2 (ix2 b (Fin.ofNat 8192 t)))) (Fin.ext ?_) (Fin.ext ?_)
    · show (x 1).val = 1024 * ((0 + 1 * (x 2).val) / 128) + (0 + 1 * (x 1).val)
      omega
    · show (x 2).val = (0 + 1 * (x 2).val) % 128
      omega
  nomatch hpc

end Cert.AttnValue

end
-- ==== Proof.AttnArr.lean ====
/- What the attention kernel's result array holds over the extended reals, index by index: head `g` of key/value head `h` at
   row `r` of batch `b` is the average of that head's values with the softmax weights of the row's scores. -/
module

public import proofs.«01_k».proof.Proof.AttnValue
public import proofs.«01_k».proof.Proof.AttnLaunch

@[expose] public section

set_option maxRecDepth 16384

noncomputable section

namespace Cert.AttnArr

open Cert.AttnIdeal Cert.AttnIdeal.Gen Cert.AttnState Cert.AttnPay Cert.AttnValue Cert.AttnLaunch Cert.Online
open Idealize.ShloMosaic Idealize.ShloMosaic.TcCoe Idealize.SL.Sem
open Idealize.ShloMosaic.Pipeline (Dat)

variable (q : Vec Ideal S8x8192x512 .bf16) (k : Vec Ideal S8x8192x256 .bf16) (v : Vec Ideal S256x65536 .bf16)

/-- The score of key `t` for the result's index `i`: its batch's key row against its own query row, over its head's columns. -/
def scores (i : S8x8192x512.Idx) (t : ℕ) : EReal :=
  ∑ d : Fin 128, k (ix3 (i 0) (Fin.ofNat 8192 t) (Fin.ofNat 256 (128 * ((i 2).val / 256) + d.val)))
    * q (ix3 (i 0) (i 1) (Fin.ofNat 512 (128 * ((i 2).val / 128) + d.val)))

/-- The value at key `t` that the result's index `i` averages. -/
def values (i : S8x8192x512.Idx) (t : ℕ) : EReal :=
  v (ix2 (Fin.ofNat 256 (128 * ((i 2).val / 256) + (i 2).val % 128)) (Fin.ofNat 65536 (8192 * (i 0).val + t % 8192)))

/-- The attention's result. -/
def attn : Vec Ideal S8x8192x512 .bf16 := fun i => avg (scores q k i) (values v i)

theorem scores_real (hq : ∀ i, ∃ r : ℝ, q i = r) (hk : ∀ i, ∃ r : ℝ, k i = r) (i : S8x8192x512.Idx) (t : ℕ) :
    ∃ r : ℝ, scores q k i t = r := by
  choose fq hfq using hq
  choose fk hfk using hk
  refine ⟨∑ d : Fin 128, fk (ix3 (i 0) (Fin.ofNat 8192 t) (Fin.ofNat 256 (128 * ((i 2).val / 256) + d.val)))
    * fq (ix3 (i 0) (i 1) (Fin.ofNat 512 (128 * ((i 2).val / 128) + d.val))), ?_⟩
  unfold scores
  rw [coe_sum]
  exact Finset.sum_congr rfl fun d _ => by rw [hfk, hfq, EReal.coe_mul]

variable (m : (ℓ : Loc nD τ sig) → Buf (Elt Ideal) ℓ)

/-! ## The blocks' places -/

theorem idx0 : ∀ t : Fin cfg0.N, win0_0.index t = win0_3.index t := fun t => rfl
theorem idx1_0 : ∀ t : Fin cfg0.N, win0_1.index t 0 = win0_3.index t 0 := fun t => rfl
theorem idx1_1 : ∀ t : Fin cfg0.N, win0_1.index t 1 = 0 := fun t => rfl
theorem idx1_2 : ∀ t : Fin cfg0.N, win0_1.index t 2 = win0_3.index t 2 := fun t => rfl
theorem idx2_0 : ∀ t : Fin cfg0.N, win0_2.index t 0 = win0_3.index t 2 := fun t => rfl
theorem idx2_1 : ∀ t : Fin cfg0.N, win0_2.index t 1 = win0_3.index t 0 := fun t => rfl
theorem idx3_lt : ∀ t : Fin cfg0.N, win0_3.index t 0 < 8 ∧ win0_3.index t 1 < 8 ∧ win0_3.index t 2 < 2 :=
  (by decide +kernel : ∀ t : Fin grid0.N, win0_3.index t 0 < 8 ∧ win0_3.index t 1 < 8 ∧ win0_3.index t 2 < 2)
theorem idx3_onto : ∀ (b : Fin 8) (qb : Fin 8) (h : Fin 2), ∃ t : Fin cfg0.N,
    win0_3.index t 0 = b.val ∧ win0_3.index t 1 = qb.val ∧ win0_3.index t 2 = h.val :=
  (by decide +kernel : ∀ (b : Fin 8) (qb : Fin 8) (h : Fin 2), ∃ t : Fin grid0.N,
    win0_3.index t 0 = b.val ∧ win0_3.index t 1 = qb.val ∧ win0_3.index t 2 = h.val)

/-- A query block at an index. -/
theorem iblk0_apply (c : Dev nD) (t : Fin cfg0.N) (x : S1x1024x256.Idx) (i : S8x8192x512.Idx)
    (h0 : (i 0).val = win0_3.index t 0) (h1 : (i 1).val = win0_3.index t 1 * 1024 + (x 1).val)
    (h2 : (i 2).val = win0_3.index t 2 * 256 + (x 2).val) :
    iblk m c 0 t x = m ((c : Thread nD τ).loc main_arg0) i := by
  have hx : (x 0).val < 1 := (x 0).isLt
  unfold iblk
  rw [View.read_apply]
  refine (congrFun (V_main_arg0 m c) _).trans ?_
  refine congrArg _ (funext fun a => Fin.ext ?_)
  have e := idx0 t
  match a with
  | ⟨0, _⟩ => show win0_0.index t 0 * 1 + 1 * (x 0).val = (i 0).val; rw [e]; omega
  | ⟨1, _⟩ => show win0_0.index t 1 * 1024 + 1 * (x 1).val = (i 1).val; rw [e]; omega
  | ⟨2, _⟩ => show win0_0.index t 2 * 256 + 1 * (x 2).val = (i 2).val; rw [e]; omega

/-- A block of keys at an index. -/
theorem iblk1_apply (c : Dev nD) (t : Fin cfg0.N) (x : S1x8192x128.Idx) (i : S8x8192x256.Idx)
    (h0 : (i 0).val = win0_3.index t 0) (h1 : (i 1).val = (x 1).val) (h2 : (i 2).val = win0_3.index t 2 * 128 + (x 2).val) :
    iblk m c 1 t x = m ((c : Thread nD τ).loc main_arg1) i := by
  have hx : (x 0).val < 1 := (x 0).isLt
  unfold iblk
  rw [View.read_apply]
  refine (congrFun (V_main_arg1 m c) _).trans ?_
  refine congrArg _ (funext fun a => Fin.ext ?_)
  match a with
  | ⟨0, _⟩ => show win0_1.index t 0 * 1 + 1 * (x 0).val = (i 0).val; rw [idx1_0]; omega
  | ⟨1, _⟩ => show win0_1.index t 1 * 8192 + 1 * (x 1).val = (i 1).val; rw [idx1_1]; omega
  | ⟨2, _⟩ => show win0_1.index t 2 * 128 + 1 * (x 2).val = (i 2).val; rw [idx1_2]; omega

/-- A block of values at an index. -/
theorem iblk2_apply (c : Dev nD) (t : Fin cfg0.N) (x : S128x8192.Idx) (i : S256x65536.Idx)
    (h0 : (i 0).val = win0_3.index t 2 * 128 + (x 0).val) (h1 : (i 1).val = win0_3.index t 0 * 8192 + (x 1).val) :
    iblk m c 2 t x = m ((c : Thread nD τ).loc main_arg2) i := by
  unfold iblk
  rw [View.read_apply]
  refine (congrFun (V_main_arg2 m c) _).trans ?_
  refine congrArg _ (funext fun a => Fin.ext ?_)
  match a with
  | ⟨0, _⟩ => show win0_2.index t 0 * 128 + 1 * (x 0).val = (i 0).val; rw [idx2_0]; omega
  | ⟨1, _⟩ => show win0_2.index t 1 * 8192 + 1 * (x 1).val = (i 1).val; rw [idx2_1]; omega

/-- The stacked queries of a block, each at its place in the block. -/
theorem stacked_apply (x0 : Vec Ideal S1x1024x256 .bf16) (j : Fin 2048) (d : Fin 128) (x : S1x1024x256.Idx)
    (h1 : (x 1).val = j.val % 1024) (h2 : (x 2).val = 128 * (j.val / 1024) + d.val) :
    k0_pay16 (F := Ideal) (qlo x0) (qhi x0) (ix2 j d) = x0 x := by
  have hx : (x 0).val < 1 := (x 0).isLt
  have hj := j.isLt
  rw [queries_apply]
  split
  · unfold qlo VecWindow.window
    refine congrArg x0 (funext fun a => Fin.ext ?_)
    match a with
    | ⟨0, _⟩ => show 0 + 1 * 0 = (x 0).val; omega
    | ⟨1, _⟩ => show 0 + 1 * j.val = (x 1).val; omega
    | ⟨2, _⟩ => show 0 + 1 * d.val = (x 2).val; omega
  · unfold qhi VecWindow.window
    refine congrArg x0 (funext fun a => Fin.ext ?_)
    match a with
    | ⟨0, _⟩ => show 0 + 1 * 0 = (x 0).val; omega
    | ⟨1, _⟩ => show 0 + 1 * (j.val - 1024) = (x 1).val; omega
    | ⟨2, _⟩ => show 128 + 1 * d.val = (x 2).val; omega

/-- The scores of a block's query are those of the array's index it answers. -/
theorem sc_eq (c : Dev nD) (t : Fin cfg0.N) (j : Fin 2048) (i : S8x8192x512.Idx)
    (h0 : (i 0).val = win0_3.index t 0) (h1 : (i 1).val = win0_3.index t 1 * 1024 + j.val % 1024)
    (h2 : (i 2).val / 128 = win0_3.index t 2 * 2 + j.val / 1024) :
    sc (k0_pay16 (F := Ideal) (qlo (iblk m c 0 t)) (qhi (iblk m c 0 t))) (iblk m c 1 t) j
      = scores (m ((c : Thread nD τ).loc main_arg0)) (m ((c : Thread nD τ).loc main_arg1)) i := by
  funext u
  have hj := j.isLt
  obtain ⟨l0, l1, l2⟩ := idx3_lt t
  unfold sc scores
  refine Finset.sum_congr rfl fun d _ => ?_
  have hd := d.isLt
  rw [iblk1_apply m c t _ (ix3 (i 0) (Fin.ofNat 8192 u) (Fin.ofNat 256 (128 * ((i 2).val / 256) + d.val))) h0 rfl
    (by show (128 * ((i 2).val / 256) + d.val) % 256 = win0_3.index t 2 * 128 + d.val; omega)]
  refine congrArg _ ?_
  have hx : 128 * (j.val / 1024) + d.val < 256 := by omega
  rw [stacked_apply _ j d (ix3 (0 : Fin 1) (⟨j.val % 1024, Nat.mod_lt _ (by decide)⟩ : Fin 1024)
    (⟨128 * (j.val / 1024) + d.val, hx⟩ : Fin 256)) rfl rfl]
  exact iblk0_apply m c t _ _ h0 h1
    (by show (128 * ((i 2).val / 128) + d.val) % 512 = win0_3.index t 2 * 256 + (128 * (j.val / 1024) + d.val); omega)

/-- Some array index a block's query answers. -/
theorem exists_index (t : Fin cfg0.N) (j : Fin 2048) : ∃ i : S8x8192x512.Idx, (i 0).val = win0_3.index t 0
    ∧ (i 1).val = win0_3.index t 1 * 1024 + j.val % 1024 ∧ (i 2).val / 128 = win0_3.index t 2 * 2 + j.val / 1024 := by
  have hj := j.isLt
  obtain ⟨l0, l1, l2⟩ := idx3_lt t
  refine ⟨ix3 (⟨win0_3.index t 0, l0⟩ : Fin 8) (⟨win0_3.index t 1 * 1024 + j.val % 1024, by omega⟩ : Fin 8192)
    (⟨win0_3.index t 2 * 256 + 128 * (j.val / 1024), by omega⟩ : Fin 512), rfl, rfl, ?_⟩
  show (win0_3.index t 2 * 256 + 128 * (j.val / 1024)) / 128 = _
  omega

variable (c : Dev nD) (hq : ∀ i, ∃ r : ℝ, m ((c : Thread nD τ).loc main_arg0) i = (r : EReal))
  (hk : ∀ i, ∃ r : ℝ, m ((c : Thread nD τ).loc main_arg1) i = (r : EReal))

include hq hk in
/-- What a point writes back is its block of the attention's result. -/
theorem flushed_eq (t : Fin cfg0.N) : (dats m 0 c).flushed 3 t = ((cfg0.win 3).blk t).view.read (Elt Ideal)
      (attn (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  funext (y : S1x1024x256.Idx)
  have y0 : (y 0).val < 1 := (y 0).isLt
  have y1 : (y 1).val < 1024 := (y 1).isLt
  have y2 : (y 2).val < 256 := (y 2).isLt
  obtain ⟨l0, l1, l2⟩ := idx3_lt t
  rw [View.read_apply]
  generalize hi : ((cfg0.win 3).blk t).view.emb y = i
  have i0 : ((i : S8x8192x512.Idx) 0).val = win0_3.index t 0 := by
    rw [← hi]; show win0_3.index t 0 * 1 + 1 * (y 0).val = _; omega
  have i1 : ((i : S8x8192x512.Idx) 1).val = win0_3.index t 1 * 1024 + (y 1).val := by
    rw [← hi]; show win0_3.index t 1 * 1024 + 1 * (y 1).val = _; omega
  have i2 : ((i : S8x8192x512.Idx) 2).val = win0_3.index t 2 * 256 + (y 2).val := by
    rw [← hi]; show win0_3.index t 2 * 256 + 1 * (y 2).val = _; omega
  show outsAt m c t y = _
  unfold outsAt
  have hs : ∀ j u, ∃ r : ℝ, sc (k0_pay16 (F := Ideal) (qlo (iblk m c 0 t)) (qhi (iblk m c 0 t))) (iblk m c 1 t) j u = r := by
    intro j u
    obtain ⟨i', e0, e1, e2⟩ := exists_index t j
    rw [sc_eq m c t j i' e0 e1 e2]
    exact scores_real _ _ hq hk i' u
  rw [outBlock_apply _ _ _ hs y, sc_eq m c t (qrow y) i i0
    (by show _ = win0_3.index t 1 * 1024 + (1024 * ((y 2).val / 128) + (y 1).val) % 1024; omega)
    (by show _ = win0_3.index t 2 * 2 + (1024 * ((y 2).val / 128) + (y 1).val) / 1024; omega)]
  show _ = avg _ _
  refine congrArg (avg _) (funext fun u => ?_)
  refine iblk2_apply m c t _ _ ?_ ?_
  · show (128 * ((i 2).val / 256) + (i 2).val % 128) % 256 = win0_3.index t 2 * 128 + (y 2).val % 128
    omega
  · show (8192 * (i 0).val + u % 8192) % 65536 = win0_3.index t 0 * 8192 + u % 8192
    omega

/-- Every index of the result is in some point's block. -/
theorem covered (i : S8x8192x512.Idx) : ∃ t : Fin cfg0.N, (cfg0.win 3).flush t = true ∧ i ∈ ((cfg0.win 3).blk t).view.set := by
  have h0 : (i 0).val < 8 := (i 0).isLt
  have h1 : (i 1).val < 8192 := (i 1).isLt
  have h2 : (i 2).val < 512 := (i 2).isLt
  obtain ⟨t, e0, e1, e2⟩ := idx3_onto ⟨(i 0).val, h0⟩ ⟨(i 1).val / 1024, by omega⟩ ⟨(i 2).val / 256, by omega⟩
  dsimp only at e0 e1 e2
  refine ⟨t, flush0_3 t, ?_⟩
  have h := ((cfg0.win 3).blk t).view.emb_mem_set
    (ix3 (0 : Fin 1) (⟨(i 1).val % 1024, Nat.mod_lt _ (by decide)⟩ : Fin 1024) (⟨(i 2).val % 256, Nat.mod_lt _ (by decide)⟩ : Fin 256))
  refine (congrArg (· ∈ ((cfg0.win 3).blk t).view.set) (funext fun a => Fin.ext ?_)).mp h
  match a with
  | ⟨0, _⟩ => show win0_3.index t 0 * 1 + 1 * 0 = (i 0).val; omega
  | ⟨1, _⟩ => show win0_3.index t 1 * 1024 + 1 * ((i 1).val % 1024) = (i 1).val; omega
  | ⟨2, _⟩ => show win0_3.index t 2 * 256 + 1 * ((i 2).val % 256) = (i 2).val; omega

include hq hk in
/-- So the result array ends holding the attention. -/
theorem final : (dats m 0 c).arrAt 3 cfg0.N
    = attn (m ((c : Thread nD τ).loc main_arg0)) (m ((c : Thread nD τ).loc main_arg1)) (m ((c : Thread nD τ).loc main_arg2)) :=
  (dats m 0 c).arrAt_eq_of_cover 3 _ (fun t _ => flushed_eq m c hq hk t) covered

end Cert.AttnArr

end
-- ==== Proof.AttnRefValue.lean ====
/- What the attention reference computes over the extended reals, index by index: the same average as the kernel's. -/
module

public import proofs.«01_k».proof.Proof.AttnArr
public import proofs.«01_k».proof.Proof.Gen.AttnRefIdeal.Read

@[expose] public section

set_option maxRecDepth 16384

noncomputable section

namespace Cert.AttnRefValue

open Cert.AttnRefIdeal Cert.AttnRefIdeal.Gen Cert.AttnRefIdeal.Read Cert.AttnArr Cert.AttnValue Cert.Online
open Idealize.ShloMosaic

/-- A maximum over the last of five axes, from `-∞`. -/
theorem lastmax_apply {A B C D N : ℕ} {u : Shape} (x : FVec Ideal ⟨5, ![A, B, C, D, N]⟩ .f32) (init : FVec Ideal u .f32)
    (h' : Shape.ReducesTo ⟨5, ![A, B, C, D, N]⟩ [4] ⟨4, ![A, B, C, D]⟩) (h : Shape.Reduces ⟨5, ![A, B, C, D, N]⟩ [4] ⟨4, ![A, B, C, D]⟩)
    (hu : 0 < u.numel) (hinit : init (Shape.Idx.first hu) = (⊥ : EReal)) (a : Fin A) (b : Fin B) (c : Fin C) (d : Fin D) :
    Host.reduce FloatOps.maximumf x init h' hu (ix4 a b c d) = Finset.univ.sup fun r : Fin N => x (ix5 a b c d r) := by
  rw [Host.reduce_eq_fold_single _ x init h' h hu]
  rw [hinit]
  refine congrArg (Finset.univ : Finset (Fin N)).sup (funext fun r => congrArg x (funext fun e => Fin.ext ?_))
  match e with
  | ⟨0, _⟩ => rfl
  | ⟨1, _⟩ => rfl
  | ⟨2, _⟩ => rfl
  | ⟨3, _⟩ => rfl
  | ⟨4, _⟩ => rfl

variable (x0 : Vec Ideal S8x8192x512 .bf16) (x1 : Vec Ideal S8x8192x256 .bf16) (x2 : Vec Ideal S256x65536 .bf16)

/-- The reference's score of key `t`. -/
theorem score_apply (i : S8x8192x512.Idx) (b : Fin 8) (h : Fin 2) (g : Fin 2) (r : Fin 8192) (t : Fin 8192)
    (hb : (i 0).val = b.val) (hr : (i 1).val = r.val) (hh : (i 2).val / 128 = 2 * h.val + g.val) :
    val_main_v7 (F := Ideal) x0 x1 (ix5 b h g r t) = scores x0 x1 i t.val := by
  rw [val_main_v7_apply, val_main_v6_apply, val_main_v5_apply, val_main_v4_apply]
  unfold scores
  refine Finset.sum_congr rfl fun d _ => ?_
  have l0 := b.isLt; have l1 := h.isLt; have l2 := g.isLt; have l3 := r.isLt; have l4 := t.isLt; have l5 := d.isLt
  rw [val_main_v1_apply, val_main_v0_apply]
  refine congrArg₂ (· * ·) (congrArg x1 (funext fun a => Fin.ext ?_)) (congrArg x0 (funext fun a => Fin.ext ?_))
  · match a with
    | ⟨0, _⟩ => show (((b.val * 8192 + t.val) * 2 + h.val) * 128 + d.val) / 2097152 = (i 0).val; omega
    | ⟨1, _⟩ => show (((b.val * 8192 + t.val) * 2 + h.val) * 128 + d.val) / 256 % 8192 = t.val % 8192; omega
    | ⟨2, _⟩ => show (((b.val * 8192 + t.val) * 2 + h.val) * 128 + d.val) % 256 = (128 * ((i 2).val / 256) + d.val) % 256; omega
  · match a with
    | ⟨0, _⟩ => show ((((b.val * 8192 + r.val) * 2 + h.val) * 2 + g.val) * 128 + d.val) / 4194304 = (i 0).val; omega
    | ⟨1, _⟩ => show ((((b.val * 8192 + r.val) * 2 + h.val) * 2 + g.val) * 128 + d.val) / 512 % 8192 = (i 1).val; omega
    | ⟨2, _⟩ => show ((((b.val * 8192 + r.val) * 2 + h.val) * 2 + g.val) * 128 + d.val) % 512 = (128 * ((i 2).val / 128) + d.val) % 512; omega

/-- The largest score of a row. -/
theorem max_apply (i : S8x8192x512.Idx) (b : Fin 8) (h : Fin 2) (g : Fin 2) (r : Fin 8192)
    (hb : (i 0).val = b.val) (hr : (i 1).val = r.val) (hh : (i 2).val / 128 = 2 * h.val + g.val) :
    val_main_v8 (F := Ideal) x0 x1 (ix4 b h g r) = mx (scores x0 x1 i) 8192 := by
  unfold val_main_v8
  refine (lastmax_apply _ _ _ (by decide) _ ?_ b h g r).trans ?_
  · rw [val_main_cst_apply]
    show Ideal.ofBits .f32 0xFF800000#32 = ⊥
    simp [Ideal.ofBits, Ideal.ieee]
  · unfold mx
    rw [sup_range_fin]
    exact congrArg (Finset.univ : Finset (Fin 8192)).sup (funext fun t => score_apply x0 x1 i b h g r t hb hr hh)

/-- The reference's unnormalised weight of key `t`. -/
theorem weight_apply (i : S8x8192x512.Idx) (b : Fin 8) (h : Fin 2) (g : Fin 2) (r : Fin 8192) (t : Fin 8192)
    (hb : (i 0).val = b.val) (hr : (i 1).val = r.val) (hh : (i 2).val / 128 = 2 * h.val + g.val) :
    val_main_v13 (F := Ideal) x0 x1 (ix5 b h g r t) = Ideal.exp2 (scores x0 x1 i t.val - mx (scores x0 x1 i) 8192) := by
  rw [val_main_v13_apply, val_main_v12_apply, val_main_cst_0_apply, val_main_v11_apply, val_main_v10_apply, val_main_v9_apply,
    score_apply x0 x1 i b h g r t hb hr hh]
  have e : idx_main_v9 (idx_main_v10 (ix5 b h g r t)) = ix4 b h g r := funext fun a => Fin.ext (by
    match a with
    | ⟨0, _⟩ => rfl
    | ⟨1, _⟩ => rfl
    | ⟨2, _⟩ => rfl
    | ⟨3, _⟩ => rfl)
  rw [e, max_apply x0 x1 i b h g r hb hr hh]
  show Ideal.pow (Ideal.ofBits .f32 0x40000000#32) _ = _
  rw [show Ideal.ofBits .f32 0x40000000#32 = ((2 : ℝ) : EReal) by
    simp [Ideal.ofBits, Ideal.ieee]; rw [← EReal.coe_mul]; norm_num, Cert.Online.pow_two]
  rfl

/-- The reference's weight of key `t`. -/
theorem prob_apply (i : S8x8192x512.Idx) (b : Fin 8) (h : Fin 2) (g : Fin 2) (r : Fin 8192) (t : Fin 8192)
    (hb : (i 0).val = b.val) (hr : (i 1).val = r.val) (hh : (i 2).val / 128 = 2 * h.val + g.val) :
    val_main_v18 (F := Ideal) x0 x1 (ix5 b h g r t)
      = Ideal.div (Ideal.exp2 (scores x0 x1 i t.val - mx (scores x0 x1 i) 8192))
          (∑ u ∈ Finset.range 8192, Ideal.exp2 (scores x0 x1 i u - mx (scores x0 x1 i) 8192)) := by
  rw [val_main_v18_apply, val_main_v17_apply, weight_apply x0 x1 i b h g r t hb hr hh, val_main_v16_apply, val_main_v15_apply,
    val_main_v14_apply, val_main_cst_1_apply]
  refine congrArg (Ideal.div _) ?_
  rw [show (FloatOps.ofBits .f32 0x00000000#32 : Ideal .f32) = (0 : EReal) from Ideal.ofBits_zero_f32, zero_add, Finset.sum_range]
  refine Finset.sum_congr rfl fun u _ => ?_
  refine Eq.trans (congrArg (val_main_v13 (F := Ideal) x0 x1) (funext fun a => Fin.ext ?_)) (weight_apply x0 x1 i b h g r u hb hr hh)
  match a with
  | ⟨0, _⟩ => rfl
  | ⟨1, _⟩ => rfl
  | ⟨2, _⟩ => rfl
  | ⟨3, _⟩ => rfl
  | ⟨4, _⟩ => rfl

/-- The reference's result is the attention. -/
theorem result_eq : val_main_v22 (F := Ideal) x0 x1 x2 = attn x0 x1 x2 := by
  funext i
  have l0 : (i 0).val < 8 := (i 0).isLt
  have l1 : (i 1).val < 8192 := (i 1).isLt
  have l2 : (i 2).val < 512 := (i 2).isLt
  rw [val_main_v22_apply, val_main_v21_apply, val_main_v20_apply]
  show val_main_v19 (F := Ideal) x0 x1 x2 _ = _
  rw [val_main_v19_apply]
  unfold attn avg
  rw [Finset.sum_range]
  refine Finset.sum_congr rfl fun t _ => ?_
  have lt := t.isLt
  refine congrArg₂ (· * ·) ?_ ?_
  · rw [val_main_v3_apply, val_main_v2_apply]
    refine congrArg x2 (funext fun a => Fin.ext ?_)
    generalize hj : lidx_main_v19 (idx_main_v20 (idx_main_v22 i)) t = j
    have j0 : (j 0).val = (i 0).val := by
      rw [← hj]; show (((i 0).val * 8192 + (i 1).val) * 512 + (i 2).val) / 4194304 = _; omega
    have j1 : (j 1).val = t.val := by rw [← hj]
    have j2 : (j 2).val = (i 2).val / 256 := by
      rw [← hj]; show (((i 0).val * 8192 + (i 1).val) * 512 + (i 2).val) / 256 % 2 = _; omega
    have j3 : (j 3).val = (i 2).val % 128 := by
      rw [← hj]; show (((i 0).val * 8192 + (i 1).val) * 512 + (i 2).val) % 128 = _; omega
    match a with
    | ⟨0, _⟩ => show ((((j 0).val * 8192 + (j 1).val) * 2 + (j 2).val) * 128 + (j 3).val) % 256
                  = (128 * ((i 2).val / 256) + (i 2).val % 128) % 256; omega
    | ⟨1, _⟩ =>
      show ((((j 0).val * 8192 + (j 1).val) * 2 + (j 2).val) * 128 + (j 3).val) / 256 = (8192 * (i 0).val + t.val % 8192) % 65536
      have e1 : t.val % 8192 = t.val := Nat.mod_eq_of_lt lt
      have e2 : (8192 * (i 0).val + t.val) % 65536 = 8192 * (i 0).val + t.val := Nat.mod_eq_of_lt (by omega)
      have e3 : 128 * (j 2).val + (j 3).val < 256 := by omega
      rw [e1, e2, j0, j1]
      omega
  · refine Eq.trans (congrArg (val_main_v18 (F := Ideal) x0 x1) (funext fun a => Fin.ext ?_))
      (prob_apply x0 x1 i ⟨(i 0).val, l0⟩ ⟨(i 2).val / 256, by omega⟩ ⟨(i 2).val / 128 % 2, by omega⟩ ⟨(i 1).val, l1⟩ t rfl rfl
        (by show (i 2).val / 128 = 2 * ((i 2).val / 256) + (i 2).val / 128 % 2; omega))
    match a with
    | ⟨0, _⟩ => show (((i 0).val * 8192 + (i 1).val) * 512 + (i 2).val) / 4194304 = (i 0).val; omega
    | ⟨1, _⟩ => show (((i 0).val * 8192 + (i 1).val) * 512 + (i 2).val) / 256 % 2 = (i 2).val / 256; omega
    | ⟨2, _⟩ => show (((i 0).val * 8192 + (i 1).val) * 512 + (i 2).val) / 128 % 2 = (i 2).val / 128 % 2; omega
    | ⟨3, _⟩ => show (((i 0).val * 8192 + (i 1).val) * 512 + (i 2).val) / 512 % 8192 = (i 1).val; omega
    | ⟨4, _⟩ => rfl

end Cert.AttnRefValue

end
-- ==== Proof.AttnPair.lean ====
/- The attention claims: the frames, and that kernel and reference leave the same array where the queries and keys are finite. -/
module

public import proofs.«01_k».proof.Defs
public import proofs.«01_k».proof.Proof.AttnRefValue
public import proofs.«01_k».proof.Proof.Gen.AttnRefIdeal.Run
public import proofs.«01_k».proof.Proof.Gen.Pre_finite_queries_and_keys
public import Idealize.ShloMosaic.Lib.Quiescent

@[expose] public section

noncomputable section

namespace Cert.AttnPair

open Idealize.ShloMosaic Idealize.ShloMosaic.TcCoe Idealize.SL.Sem

/-- A number whose absolute value is below `⊤` is a real. -/
theorem real_of_cmp (x : EReal) (h : Ideal.cmp .olt (max x (-x)) (Ideal.ofBits .bf16 0x7F80#16) = 1#1) : ∃ r : ℝ, x = r := by
  rw [show Ideal.ofBits .bf16 0x7F80#16 = ⊤ by simp [Ideal.ofBits, Ideal.ieee]] at h
  induction x using EReal.rec with
  | bot => exact absurd h (by simp [Ideal.cmp])
  | coe r => exact ⟨r, rfl⟩
  | top => exact absurd h (by simp [Ideal.cmp])

open Cert.Pre_finite_queries_and_keys in
/-- The precondition: every query and every key is a real. -/
theorem reals (q : FVec Ideal S8x8192x512 .bf16) (k : FVec Ideal S8x8192x256 .bf16) (v : FVec Ideal S256x65536 .bf16)
    [hF : Facts] (h : fn (F := Ideal) q k v = fun _ => 1#1) : (∀ i, ∃ r : ℝ, q i = (r : EReal)) ∧ ∀ i, ∃ r : ℝ, k i = (r : EReal) := by
  have hj : ∀ j, ∃ r : ℝ, concatenate S8x8192x768 2 [⟨S8x8192x512, q⟩, ⟨S8x8192x256, k⟩]
      Facts.concatenates_S8x8192x512_S8x8192x256_S8x8192x768_d2 j = (r : EReal) := fun j => real_of_cmp _ (congrFun h j)
  refine ⟨fun i => ?_, fun i => ?_⟩
  · have h2 : (i 2).val < 512 := (i 2).isLt
    obtain ⟨r, hr⟩ := hj (ix3 (i 0) (i 1) (⟨(i 2).val, by omega⟩ : Fin 768))
    refine ⟨r, Eq.trans (Eq.symm ?_) hr⟩
    refine concatenate_pair_apply_left (t := S8x8192x768) (2 : Fin 3) q k _ (ix3 (i 0) (i 1) (⟨(i 2).val, by omega⟩ : Fin 768)) rfl i ?_
    intro b
    match b with
    | ⟨0, _⟩ => rfl
    | ⟨1, _⟩ => rfl
    | ⟨2, _⟩ => rfl
  · have h2 : (i 2).val < 256 := (i 2).isLt
    obtain ⟨r, hr⟩ := hj (ix3 (i 0) (i 1) (⟨(i 2).val + 512, by omega⟩ : Fin 768))
    refine ⟨r, Eq.trans (Eq.symm ?_) hr⟩
    refine concatenate_pair_apply_right (t := S8x8192x768) (2 : Fin 3) q k _ (ix3 (i 0) (i 1) (⟨(i 2).val + 512, by omega⟩ : Fin 768)) rfl rfl i ?_ ?_
    · intro b hb
      match b, hb with
      | ⟨0, _⟩, _ => rfl
      | ⟨1, _⟩, _ => rfl
      | ⟨2, _⟩, hb => exact absurd rfl hb
    · rfl

/-- The reference's frame. -/
theorem ref_frame (m : (ℓ : Loc Cert.AttnRefIdeal.nD Cert.AttnRefIdeal.τ Cert.AttnRefIdeal.sig) → Buf (Elt Ideal) ℓ)
    (g : Dev Cert.AttnRefIdeal.nD → PrngReg) :
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0) :=
  (θ_run _ _ _).mono (fun r h => ⟨fun c => (h c).2, Idealize.ShloMosaic.sem_eq_zero_of_no_sems (by decide) r.2⟩)
    (Cert.AttnRefIdeal.Value.run m g)

/-- Kernel and reference end with the same array. -/
theorem algebraic : Cert.algebraic_AttnIdeal_AttnRefIdeal_pre_finite_queries_and_keys := by
  intro m g m' g' hpre hagree
  refine ⟨fun c => Cert.AttnArr.attn (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)), ?_, ?_⟩
  · refine (θ_run _ _ _).mono (fun r h c => ⟨(h c).1.trans ?_, (h c).2⟩) (Cert.AttnLaunch.run_blocks m g)
    obtain ⟨hq, hk⟩ := reals _ _ _ (hpre c)
    exact Cert.AttnArr.final m c hq hk
  · refine (θ_run _ _ _).mono (fun r h c => ⟨(h c).1.trans ?_, (h c).2⟩) (Cert.AttnRefIdeal.Value.run m' g')
    obtain ⟨e0, e1, e2⟩ := hagree c
    rw [Cert.AttnRefIdeal.Read.val_main_v22_eq, Cert.AttnRefValue.result_eq, e0, e1, e2]

end Cert.AttnPair

end
-- ==== Proof.AttnBits.lean ====
/- The frame of the kernel as printed: the same program as the one read over the extended reals, at machine words. -/
module

public import proofs.«01_k».proof.Defs
public import proofs.«01_k».proof.Proof.Gen.Attn
public import proofs.«01_k».proof.Proof.AttnLaunch

@[expose] public section

set_option maxRecDepth 16384

noncomputable section

namespace Cert.AttnBits

open Idealize.ShloMosaic Idealize.ShloMosaic.TcCoe Idealize.ShloMosaic.Tactic Idealize.SL.Sem

/-- The frame claim of the program read at any floats, at machine words. -/
def Framed : Prop :=
  ∀ (m : (ℓ : Loc Cert.AttnIdeal.nD Cert.AttnIdeal.τ Cert.AttnIdeal.sig) → Buf (Elt Bits) ℓ) (g : Dev Cert.AttnIdeal.nD → PrngReg), True →
    θ_run (Cert.AttnIdeal.defs (F := Bits)) (onTc (τ := Cert.AttnIdeal.τ) (Cert.AttnIdeal.main (F := Bits))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

theorem framed : Framed := fun m g _ => Cert.AttnLaunch.frame m g

/-- The two printed programs are one and the same. -/
theorem same : Framed = Cert.quiescent_Attn := by sl_kernel_rfl

/-- The printed kernel's frame. -/
theorem frame : Cert.quiescent_Attn := same ▸ framed

end Cert.AttnBits

end
-- ==== Proof.MlpPay.lean ====
/- The vector expressions of the output projection and feed-forward kernel over the extended reals, read at an index. -/
module

public import proofs.«01_k».proof.Proof.Gen.MlpIdeal.Skeleton
public import Idealize.ShloMosaic.Lib.Pointwise

@[expose] public section

set_option maxRecDepth 16384

noncomputable section

namespace Cert.MlpPay

open Cert.MlpIdeal Cert.MlpIdeal.Gen
open Idealize.ShloMosaic

/-- The factor of a row's root-mean-square norm: one over the root of the mean square and the kernel's small constant. -/
def factor (x : Fin 1024 → EReal) : EReal :=
  Ideal.rsqrt (Ideal.div (∑ k, x k * x k) (Ideal.ofBits .f32 0x44800000#32) + Ideal.ofBits .f32 0x358637BD#32)

/-- A row over its root mean square, times the weights. -/
def norm (x w : Fin 1024 → EReal) (j : Fin 1024) : EReal := x j * factor x * w j

/-- The two halves of the output projection added, at a row. -/
def halves (a b : Fin 512 → EReal) (wa wb : Fin 512 → Fin 1024 → EReal) (j : Fin 1024) : EReal :=
  ∑ k, a k * wa k j + ∑ k, b k * wb k j

/-- The input plus the normed output projection. -/
theorem pay2_apply (v0 : FVec Ideal S512x512 .bf16) (v1 : FVec Ideal S512x1024 .bf16) (v4 : FVec Ideal S512x512 .bf16) (v5 : FVec Ideal S512x1024 .bf16)
    (v9 : FVec Ideal S512x1024 .f32) (v10 : FVec Ideal S1x1024 .f32) (r : Fin 512) (j : Fin 1024) :
    k0_pay2 (F := Ideal) v0 v1 v4 v5 v9 v10 (ix2 r j) = v9 (ix2 r j)
      + norm (halves (fun k => v0 (ix2 r k)) (fun k => v4 (ix2 r k)) (fun k j => v1 (ix2 k j)) (fun k j => v5 (ix2 k j))) (fun j => v10 (ix2 0 j)) j := by
  unfold norm factor halves
  pointwise [k0_pay2]

/-- The normed rows before the weights. -/
theorem pay4_apply (v0 : FVec Ideal S512x512 .bf16) (v1 : FVec Ideal S512x1024 .bf16) (v4 : FVec Ideal S512x512 .bf16) (v5 : FVec Ideal S512x1024 .bf16)
    (v9 : FVec Ideal S512x1024 .f32) (v10 : FVec Ideal S1x1024 .f32) (r : Fin 512) (j : Fin 1024) :
    k0_pay4 (F := Ideal) v0 v1 v4 v5 v9 v10 (ix2 r j) = k0_pay2 (F := Ideal) v0 v1 v4 v5 v9 v10 (ix2 r j)
      * factor (fun j => k0_pay2 (F := Ideal) v0 v1 v4 v5 v9 v10 (ix2 r j)) := by
  unfold factor k0_pay4
  generalize k0_pay2 (F := Ideal) v0 v1 v4 v5 v9 v10 = x
  pointwise []

/-- The rows fed to the hidden layer. -/
theorem pay5_apply (v25 : FVec Ideal S1x1024 .f32) (v36 : FVec Ideal S512x1024 .f32) (r : Fin 512) (j : Fin 1024) :
    k0_pay5 (F := Ideal) (k0_pay3 (F := Ideal) v25) v36 (ix2 r j) = v36 (ix2 r j) * v25 (ix2 0 j) := by
  pointwise [k0_pay5, k0_pay3]

/-- A hidden unit: the rectified product of a row with the unit's weights, squared. -/
def unit (h u : Fin 1024 → EReal) : EReal := max (∑ k, h k * u k) 0 * max (∑ k, h k * u k) 0

/-- A run of 1024 hidden units' share of the result. -/
def share (h : Fin 1024 → EReal) (up down : Fin 1024 → Fin 1024 → EReal) (j : Fin 1024) : EReal :=
  ∑ f, unit h (fun k => up k f) * down f j

/-- The first three runs of hidden units. -/
theorem pay6_apply (v26 : FVec Ideal S1x1024 .f32) (v36 : FVec Ideal S512x1024 .f32) (u0 d0 u1 d1 u2 d2 : FVec Ideal S1024x1024 .bf16)
    (r : Fin 512) (j : Fin 1024) :
    k0_pay6 (F := Ideal) v26 v36 u0 d0 u1 d1 u2 d2 (ix2 r j)
      = share (fun k => k0_pay5 (F := Ideal) v26 v36 (ix2 r k)) (fun k f => u0 (ix2 k f)) (fun f j => d0 (ix2 f j)) j
        + share (fun k => k0_pay5 (F := Ideal) v26 v36 (ix2 r k)) (fun k f => u1 (ix2 k f)) (fun f j => d1 (ix2 f j)) j
        + share (fun k => k0_pay5 (F := Ideal) v26 v36 (ix2 r k)) (fun k f => u2 (ix2 k f)) (fun f j => d2 (ix2 f j)) j := by
  unfold share unit k0_pay6
  generalize k0_pay5 (F := Ideal) v26 v36 = x
  pointwise []

/-- The block: the rows plus the normed feed-forward. -/
theorem pay1_apply (v24 : FVec Ideal S512x1024 .f32) (v39 : FVec Ideal S512x1024 .bf16) (v73 : FVec Ideal S512x1024 .f32)
    (u3 d3 : FVec Ideal S1024x1024 .bf16) (w : FVec Ideal S1x1024 .f32) (r : Fin 512) (j : Fin 1024) :
    k0_pay1 (F := Ideal) v24 v39 v73 u3 d3 w (ix2 r j) = v24 (ix2 r j)
      + norm (fun j => v73 (ix2 r j) + share (fun k => v39 (ix2 r k)) (fun k f => u3 (ix2 k f)) (fun f j => d3 (ix2 f j)) j)
          (fun j => w (ix2 0 j)) j := by
  unfold norm factor share unit
  pointwise [k0_pay1]

end Cert.MlpPay

end
-- ==== Proof.MlpValue.lean ====
/- The block the output projection and feed-forward kernel stores, row by row over the extended reals: each row is a layer's row, its
   hidden units summed over all four runs. -/
module

public import proofs.«01_k».proof.Proof.MlpPay
public import proofs.«01_k».proof.Proof.Gen.MlpIdeal.Value
public import Idealize.ShloMosaic.Lib.Pipeline.ValueKit.Tiles

@[expose] public section

set_option maxRecDepth 16384

noncomputable section

namespace Cert.MlpValue

open Cert.MlpIdeal Cert.MlpIdeal.Gen Cert.MlpPay Idealize.ShloMosaic.View
open Idealize.ShloMosaic Idealize.ShloMosaic.TcCoe Idealize.SL.Sem

/-- A row after the first residual: the input row plus the normed output projection of its two halves. -/
def mid (x : Fin 1024 → EReal) (a b : Fin 512 → EReal) (wa wb : Fin 512 → Fin 1024 → EReal) (n1 : Fin 1024 → EReal) (j : Fin 1024) : EReal :=
  x j + norm (halves a b wa wb) n1 j

/-- The feed-forward of a row: its 4096 hidden units, weighted. -/
def ffn (h : Fin 1024 → EReal) (up : Fin 1024 → Fin 4096 → EReal) (down : Fin 4096 → Fin 1024 → EReal) (j : Fin 1024) : EReal :=
  ∑ f, unit h (fun k => up k f) * down f j

/-- A row after the second residual: the row, plus the normed feed-forward of the normed row. -/
def second (y n2 : Fin 1024 → EReal) (up : Fin 1024 → Fin 4096 → EReal) (down : Fin 4096 → Fin 1024 → EReal) (n3 : Fin 1024 → EReal)
    (j : Fin 1024) : EReal := y j + norm (ffn (norm y n2) up down) n3 j

/-- Hidden unit `f` of the run beginning at `o`. -/
def at_ (o : ℕ) (f : Fin 1024) : Fin 4096 := Fin.ofNat 4096 (o + f.val)

/-- The four runs' shares add to the feed-forward. -/
theorem ffn_runs (h : Fin 1024 → EReal) (up : Fin 1024 → Fin 4096 → EReal) (down : Fin 4096 → Fin 1024 → EReal) (j : Fin 1024) :
    ffn h up down j = share h (fun k f => up k (at_ 0 f)) (fun f j => down (at_ 0 f) j) j
      + share h (fun k f => up k (at_ 1024 f)) (fun f j => down (at_ 1024 f) j) j
      + share h (fun k f => up k (at_ 2048 f)) (fun f j => down (at_ 2048 f) j) j
      + share h (fun k f => up k (at_ 3072 f)) (fun f j => down (at_ 3072 f) j) j := by
  unfold ffn share
  generalize hF : (fun f : Fin 4096 => unit h (fun k => up k f) * down f j) = F
  have e : ∀ f : Fin 4096, unit h (fun k => up k f) * down f j = F f := fun f => congrFun hF f
  simp only [e]
  have s : ∑ f : Fin 4096, F f = ∑ f : Fin (1024 + 1024 + 1024 + 1024), F f := rfl
  rw [s, Fin.sum_univ_add, Fin.sum_univ_add, Fin.sum_univ_add]
  have g : ∀ (G : Fin 1024 → Fin 4096) (o : ℕ), (∀ f, (G f).val = (o + f.val) % 4096) → ∑ f, F (G f) = ∑ f, F (at_ o f) :=
    fun G o hG => Finset.sum_congr rfl fun f _ => congrArg F (Fin.ext (hG f))
  refine congrArg₂ (· + ·) (congrArg₂ (· + ·) (congrArg₂ (· + ·) (g _ 0 fun f => ?_) (g _ 1024 fun f => ?_)) (g _ 2048 fun f => ?_)) (g _ 3072 fun f => ?_)
  · have := f.isLt; show f.val = _; omega
  · have := f.isLt; show 1024 + f.val = _; omega
  · have := f.isLt; show 1024 + 1024 + f.val = _; omega
  · have := f.isLt; show 1024 + 1024 + 1024 + f.val = _; omega

variable (x0 : Vec Ideal S512x1024 .f32) (x1 x2 : Vec Ideal S512x512 .bf16) (x3 x4 : Vec Ideal S512x1024 .bf16)
  (x5 x6 : Vec Ideal S1x1024 .f32) (x7 : Vec Ideal S1024x4096 .bf16) (x8 : Vec Ideal S4096x1024 .bf16) (x9 : Vec Ideal S1x1024 .f32)

/-- A block's row after the first residual. -/
def brow (r : Fin 512) : Fin 1024 → EReal :=
  mid (fun j => x0 (ix2 r j)) (fun k => x1 (ix2 r k)) (fun k => x2 (ix2 r k)) (fun k j => x3 (ix2 k j)) (fun k j => x4 (ix2 k j))
    (fun j => x5 (ix2 0 j))

theorem ld_up (o : ℕ) (inb : ∀ a, (![0, o] : Fin 2 → ℕ) a + S1024x1024.size a ≤ S1024x4096.size a) (k f : Fin 1024) :
    View.ld (Val := Elt Ideal) (e' := .bf16) x7 (Rect.unit (s := S1024x4096) ![0, o] S1024x1024.size inb) (ix2 k f : S1024x1024.Idx) = x7 (ix2 k (at_ o f)) := by
  have h : o + 1024 ≤ 4096 := inb 1
  have hf := f.isLt
  refine ld_unit_apply_of _ _ _ _ _ _ fun a => ?_
  match a with
  | ⟨0, _⟩ => show k.val = 0 + k.val; omega
  | ⟨1, _⟩ => show (o + f.val) % 4096 = o + f.val; omega

theorem ld_down (o : ℕ) (inb : ∀ a, (![o, 0] : Fin 2 → ℕ) a + S1024x1024.size a ≤ S4096x1024.size a) (f j : Fin 1024) :
    View.ld (Val := Elt Ideal) (e' := .bf16) x8 (Rect.unit (s := S4096x1024) ![o, 0] S1024x1024.size inb) (ix2 f j) = x8 (ix2 (at_ o f) j) := by
  have h : o + 1024 ≤ 4096 := inb 0
  have hf := f.isLt
  refine ld_unit_apply_of _ _ _ _ _ _ fun a => ?_
  match a with
  | ⟨0, _⟩ => show (o + f.val) % 4096 = o + f.val; omega
  | ⟨1, _⟩ => show j.val = 0 + j.val; omega

/-- The block stored, at an index. -/
theorem block_apply (r : Fin 512) (j : Fin 1024) : out0_10 x0 x1 x2 x3 x4 x5 x6 x7 x8 x9 (ix2 r j)
    = second (brow x0 x1 x2 x3 x4 x5 r) (fun j => x6 (ix2 0 j)) (fun k f => x7 (ix2 k f)) (fun f j => x8 (ix2 f j)) (fun j => x9 (ix2 0 j)) j := by
  unfold out0_10
  have z2 : ∀ a : Fin 2, (![0, 0] : Fin 2 → ℕ) a = 0 := by decide
  rw [canon_cons_unit_zero (funext z2), pay1_apply]
  have b2 : ∀ j, k0_pay2 (F := Ideal) x1 x3 x2 x4 x0 x5 (ix2 r j) = brow x0 x1 x2 x3 x4 x5 r j := fun j => pay2_apply ..
  have b5 : ∀ k, k0_pay5 (F := Ideal) (k0_pay3 (F := Ideal) x6) (k0_pay4 (F := Ideal) x1 x3 x2 x4 x0 x5) (ix2 r k)
      = norm (brow x0 x1 x2 x3 x4 x5 r) (fun j => x6 (ix2 0 j)) k := by
    intro k
    rw [pay5_apply, pay4_apply]
    simp only [b2]
    rfl
  simp only [k0_pay7, k0_pay8, ld_unit_zero (S := S512x512) (funext z2), ld_unit_zero (S := S512x1024) (funext z2), ld_unit_zero (S := S1x1024) (funext z2), pay6_apply, b2, b5, ld_up, ld_down]
  unfold second
  refine congrArg (brow x0 x1 x2 x3 x4 x5 r j + ·) (congrFun (congrArg₂ MlpPay.norm (funext fun j => ?_) (funext fun j => ?_)) j)
  · refine Eq.trans ?_ (ffn_runs _ (fun k f => x7 (ix2 k f)) (fun f j => x8 (ix2 f j)) j).symm
    refine congrArg₂ (· + ·) (congrArg₂ (· + ·) (congrArg₂ (· + ·) ?_ ?_) ?_) ?_
    · exact congrFun (congrArg₂ (share _) (funext fun k => funext fun f => ld_up x7 0 _ k f) (funext fun f => funext fun j => ld_down x8 0 _ f j)) j
    · exact congrFun (congrArg₂ (share _) (funext fun k => funext fun f => ld_up x7 1024 _ k f) (funext fun f => funext fun j => ld_down x8 1024 _ f j)) j
    · exact congrFun (congrArg₂ (share _) (funext fun k => funext fun f => ld_up x7 2048 _ k f) (funext fun f => funext fun j => ld_down x8 2048 _ f j)) j
    · exact congrFun (congrArg₂ (share _) (funext fun k => funext fun f => ld_up x7 3072 _ k f) (funext fun f => funext fun j => ld_down x8 3072 _ f j)) j
  · exact congrFun (ld_unit_zero (Val := Elt Ideal) (S := S1x1024) (e := .f32) (funext z2) _ x9) _

end Cert.MlpValue

end
-- ==== Proof.MlpHost.lean ====
/- What the output projection and feed-forward kernel's host part hands its pallas call, at an index over the extended reals: the
   two halves of the output projection, the norms' weights as rows, and the feed-forward's weights. -/
module

public import proofs.«01_k».proof.Proof.Gen.MlpIdeal.Value
public import Idealize.ShloMosaic.Lib.Pointwise

@[expose] public section

set_option maxRecDepth 16384

noncomputable section

namespace Cert.MlpHost

open Cert.MlpIdeal Cert.MlpIdeal.Gen
open Idealize.ShloMosaic Idealize.ShloMosaic.TcCoe Idealize.SL.Sem Idealize.ShloMosaic.StableHlo

variable (m : (ℓ : Loc nD τ sig) → Buf (Elt Ideal) ℓ)

/-- The first half of the output projection: its first 512 rows. -/
theorem v1 (c : Dev nD) (k : Fin 512) (j : Fin 1024) (i : S1024x1024.Idx) (h0 : (i 0).val = k.val) (h1 : (i 1).val = j.val) :
    (V m c main_v1 : Vec Ideal S512x1024 .bf16) (ix2 k j) = m ((c : Thread nD τ).loc main_arg3) i := by
  unfold V
  after_results_simp
  refine congrArg (m ((c : Thread nD τ).loc main_arg3)) (funext fun a => Fin.ext ?_)
  match a with
  | ⟨0, _⟩ => show 0 + k.val = (i 0).val; omega
  | ⟨1, _⟩ => show 0 + j.val = (i 1).val; omega

/-- The second half: its last 512 rows. -/
theorem v3 (c : Dev nD) (k : Fin 512) (j : Fin 1024) (i : S1024x1024.Idx) (h0 : (i 0).val = 512 + k.val) (h1 : (i 1).val = j.val) :
    (V m c main_v3 : Vec Ideal S512x1024 .bf16) (ix2 k j) = m ((c : Thread nD τ).loc main_arg3) i := by
  unfold V
  after_results_simp
  refine congrArg (m ((c : Thread nD τ).loc main_arg3)) (funext fun a => Fin.ext ?_)
  match a with
  | ⟨0, _⟩ => show 512 + k.val = (i 0).val; omega
  | ⟨1, _⟩ => show 0 + j.val = (i 1).val; omega

/-- A row of weights is the vector it was reshaped from. -/
theorem row (w : Vec Ideal S1024 .f32) (j : Fin 1024) : shapeCast S1x1024 w shapeCasts_S1024_S1x1024 (ix2 0 j) = w (ix1 j) := by
  pointwise []

theorem v4 (c : Dev nD) (j : Fin 1024) : (V m c main_v4 : Vec Ideal S1x1024 .f32) (ix2 0 j) = m ((c : Thread nD τ).loc main_arg4) (ix1 j) := by
  unfold V
  after_results_simp
  exact row _ j

theorem v5 (c : Dev nD) (j : Fin 1024) : (V m c main_v5 : Vec Ideal S1x1024 .f32) (ix2 0 j) = m ((c : Thread nD τ).loc main_arg5) (ix1 j) := by
  unfold V
  after_results_simp
  exact row _ j

theorem v8 (c : Dev nD) (j : Fin 1024) : (V m c main_v8 : Vec Ideal S1x1024 .f32) (ix2 0 j) = m ((c : Thread nD τ).loc main_arg8) (ix1 j) := by
  unfold V
  after_results_simp
  exact row _ j

theorem v6 (c : Dev nD) : (V m c main_v6 : Vec Ideal S1024x4096 .bf16) = m ((c : Thread nD τ).loc main_arg6) := by
  unfold V
  after_results_simp
  rfl

theorem v7 (c : Dev nD) : (V m c main_v7 : Vec Ideal S4096x1024 .bf16) = m ((c : Thread nD τ).loc main_arg7) := by
  unfold V
  after_results_simp
  rfl

end Cert.MlpHost

end
-- ==== Proof.MlpArr.lean ====
/- What the output projection and feed-forward kernel's result array holds over the extended reals, index by index: row `r` is the
   layer's row of the input's row `r` and the two head groups' rows `r`. -/
module

public import proofs.«01_k».proof.Proof.MlpValue
public import proofs.«01_k».proof.Proof.MlpHost

@[expose] public section

set_option maxRecDepth 16384

noncomputable section

namespace Cert.MlpArr

open Cert.MlpIdeal Cert.MlpIdeal.Gen Cert.MlpPay Cert.MlpValue
open Idealize.ShloMosaic Idealize.ShloMosaic.TcCoe Idealize.SL.Sem
open Idealize.ShloMosaic.Pipeline (Dat)

section
variable (x : Vec Ideal S65536x1024 .f32) (a b : Vec Ideal S65536x512 .bf16) (wo : Vec Ideal S1024x1024 .f32) (n1 n2 : Vec Ideal S1024 .f32)
  (up : Vec Ideal S1024x4096 .f32) (down : Vec Ideal S4096x1024 .f32) (n3 : Vec Ideal S1024 .f32)

/-- A row after the first residual. -/
def first (r : Fin 65536) : Fin 1024 → EReal :=
  mid (fun j => x (ix2 r j)) (fun k => a (ix2 r k)) (fun k => b (ix2 r k)) (fun k j => wo (ix2 (Fin.castAdd 512 k : Fin 1024) j))
    (fun k j => wo (ix2 (Fin.natAdd 512 k : Fin 1024) j)) (fun j => n1 (ix1 j))

/-- The layer's result. -/
def mlp : Vec Ideal S65536x1024 .f32 := fun i =>
  second (first x a b wo n1 (i 0)) (fun j => n2 (ix1 j)) (fun k f => up (ix2 k f)) (fun f j => down (ix2 f j)) (fun j => n3 (ix1 j)) (i 1)
end

variable (m : (ℓ : Loc nD τ sig) → Buf (Elt Ideal) ℓ)

/-! ## The blocks' places -/

theorem idx_lt : ∀ t : Fin cfg0.N, win0_10.index t 0 < 128 ∧ win0_10.index t 1 = 0 :=
  (by decide +kernel : ∀ t : Fin grid0.N, win0_10.index t 0 < 128 ∧ win0_10.index t 1 = 0)
theorem idx_onto : ∀ b : Fin 128, ∃ t : Fin cfg0.N, win0_10.index t 0 = b.val :=
  (by decide +kernel : ∀ b : Fin 128, ∃ t : Fin grid0.N, win0_10.index t 0 = b.val)

section
variable (c : Dev nD) (t : Fin cfg0.N)

/-- The array row a block's row is. -/
def arow (r : Fin 512) : Fin 65536 := ⟨win0_10.index t 0 * 512 + r.val, by have := idx_lt t; have := r.isLt; omega⟩

theorem iblk0 (r : Fin 512) (j : Fin 1024) : (iblk m c 0 t : Vec Ideal S512x1024 .f32) (ix2 r j)
    = m ((c : Thread nD τ).loc main_arg0) (ix2 (arow t r) j) := by
  unfold iblk
  rw [View.read_apply]
  refine (congrFun (V_main_arg0 m c) _).trans (congrArg _ (funext fun a => Fin.ext ?_))
  match a with
  | ⟨0, _⟩ => show win0_10.index t 0 * 512 + 1 * r.val = win0_10.index t 0 * 512 + r.val; omega
  | ⟨1, _⟩ => show 0 * 1024 + 1 * j.val = j.val; omega

theorem iblk1 (r k : Fin 512) : (iblk m c 1 t : Vec Ideal S512x512 .bf16) (ix2 r k)
    = m ((c : Thread nD τ).loc main_arg1) (ix2 (arow t r) k) := by
  unfold iblk
  rw [View.read_apply]
  refine (congrFun (V_main_arg1 m c) _).trans (congrArg _ (funext fun a => Fin.ext ?_))
  match a with
  | ⟨0, _⟩ => show win0_10.index t 0 * 512 + 1 * r.val = win0_10.index t 0 * 512 + r.val; omega
  | ⟨1, _⟩ => show 0 * 512 + 1 * k.val = k.val; omega

theorem iblk2 (r k : Fin 512) : (iblk m c 2 t : Vec Ideal S512x512 .bf16) (ix2 r k)
    = m ((c : Thread nD τ).loc main_arg2) (ix2 (arow t r) k) := by
  unfold iblk
  rw [View.read_apply]
  refine (congrFun (V_main_arg2 m c) _).trans (congrArg _ (funext fun a => Fin.ext ?_))
  match a with
  | ⟨0, _⟩ => show win0_10.index t 0 * 512 + 1 * r.val = win0_10.index t 0 * 512 + r.val; omega
  | ⟨1, _⟩ => show 0 * 512 + 1 * k.val = k.val; omega

theorem iblk3 (k : Fin 512) (j : Fin 1024) : (iblk m c 3 t : Vec Ideal S512x1024 .bf16) (ix2 k j)
    = m ((c : Thread nD τ).loc main_arg3) (ix2 (Fin.castAdd 512 k : Fin 1024) j) := by
  refine Eq.trans ?_ (MlpHost.v1 m c k j _ rfl rfl)
  unfold iblk
  rw [View.read_apply]
  refine congrArg (V m c main_v1) (funext fun a => Fin.ext ?_)
  match a with
  | ⟨0, _⟩ => show 0 * 512 + 1 * k.val = k.val; omega
  | ⟨1, _⟩ => show 0 * 1024 + 1 * j.val = j.val; omega

theorem iblk4 (k : Fin 512) (j : Fin 1024) : (iblk m c 4 t : Vec Ideal S512x1024 .bf16) (ix2 k j)
    = m ((c : Thread nD τ).loc main_arg3) (ix2 (Fin.natAdd 512 k : Fin 1024) j) := by
  refine Eq.trans ?_ (MlpHost.v3 m c k j _ rfl rfl)
  unfold iblk
  rw [View.read_apply]
  refine congrArg (V m c main_v3) (funext fun a => Fin.ext ?_)
  match a with
  | ⟨0, _⟩ => show 0 * 512 + 1 * k.val = k.val; omega
  | ⟨1, _⟩ => show 0 * 1024 + 1 * j.val = j.val; omega

theorem iblk5 (j : Fin 1024) : (iblk m c 5 t : Vec Ideal S1x1024 .f32) (ix2 0 j) = m ((c : Thread nD τ).loc main_arg4) (ix1 j) := by
  refine Eq.trans ?_ (MlpHost.v4 m c j)
  unfold iblk
  rw [View.read_apply]
  refine congrArg (V m c main_v4) (funext fun a => Fin.ext ?_)
  match a with
  | ⟨0, _⟩ => rfl
  | ⟨1, _⟩ => show 0 * 1024 + 1 * j.val = j.val; omega

theorem iblk6 (j : Fin 1024) : (iblk m c 6 t : Vec Ideal S1x1024 .f32) (ix2 0 j) = m ((c : Thread nD τ).loc main_arg5) (ix1 j) := by
  refine Eq.trans ?_ (MlpHost.v5 m c j)
  unfold iblk
  rw [View.read_apply]
  refine congrArg (V m c main_v5) (funext fun a => Fin.ext ?_)
  match a with
  | ⟨0, _⟩ => rfl
  | ⟨1, _⟩ => show 0 * 1024 + 1 * j.val = j.val; omega

theorem iblk7 (k : Fin 1024) (f : Fin 4096) : (iblk m c 7 t : Vec Ideal S1024x4096 .bf16) (ix2 k f)
    = m ((c : Thread nD τ).loc main_arg6) (ix2 k f) := by
  refine Eq.trans ?_ (congrFun (MlpHost.v6 m c) _)
  unfold iblk
  rw [View.read_apply]
  refine congrArg (V m c main_v6) (funext fun a => Fin.ext ?_)
  match a with
  | ⟨0, _⟩ => show 0 * 1024 + 1 * k.val = k.val; omega
  | ⟨1, _⟩ => show 0 * 4096 + 1 * f.val = f.val; omega

theorem iblk8 (f : Fin 4096) (j : Fin 1024) : (iblk m c 8 t : Vec Ideal S4096x1024 .bf16) (ix2 f j)
    = m ((c : Thread nD τ).loc main_arg7) (ix2 f j) := by
  refine Eq.trans ?_ (congrFun (MlpHost.v7 m c) _)
  unfold iblk
  rw [View.read_apply]
  refine congrArg (V m c main_v7) (funext fun a => Fin.ext ?_)
  match a with
  | ⟨0, _⟩ => show 0 * 4096 + 1 * f.val = f.val; omega
  | ⟨1, _⟩ => show 0 * 1024 + 1 * j.val = j.val; omega

theorem iblk9 (j : Fin 1024) : (iblk m c 9 t : Vec Ideal S1x1024 .f32) (ix2 0 j) = m ((c : Thread nD τ).loc main_arg8) (ix1 j) := by
  refine Eq.trans ?_ (MlpHost.v8 m c j)
  unfold iblk
  rw [View.read_apply]
  refine congrArg (V m c main_v8) (funext fun a => Fin.ext ?_)
  match a with
  | ⟨0, _⟩ => rfl
  | ⟨1, _⟩ => show 0 * 1024 + 1 * j.val = j.val; omega
end

variable (c : Dev nD)

/-- The layer's result on what the launch was given. -/
abbrev result : Vec Ideal S65536x1024 .f32 :=
  mlp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What a point writes back is its block of the layer's result. -/
theorem flushed_eq (t : Fin cfg0.N) : (dats m 0 c).flushed 10 t = ((cfg0.win 10).blk t).view.read (Elt Ideal) (result m c) := by
  rw [Value.flushed10]
  funext (y : S512x1024.Idx)
  obtain ⟨l0, l1⟩ := idx_lt t
  have y0 : (y 0).val < 512 := (y 0).isLt
  have y1 : (y 1).val < 1024 := (y 1).isLt
  rw [View.read_apply]
  have e : ((cfg0.win 10).blk t).view.emb y = (ix2 (arow t (y 0)) (y 1) : S65536x1024.Idx) := by
    refine funext fun a => Fin.ext ?_
    match a with
    | ⟨0, _⟩ => show win0_10.index t 0 * 512 + 1 * (y 0).val = win0_10.index t 0 * 512 + (y 0).val; omega
    | ⟨1, _⟩ => show win0_10.index t 1 * 1024 + 1 * (y 1).val = (y 1).val; omega
  rw [e]
  have ey : y = (ix2 (y 0) (y 1) : S512x1024.Idx) := by
    refine funext fun a => ?_
    match a with
    | ⟨0, _⟩ => rfl
    | ⟨1, _⟩ => rfl
  refine (congrArg (out0_10 (iblk m c 0 t) (iblk m c 1 t) (iblk m c 2 t) (iblk m c 3 t) (iblk m c 4 t) (iblk m c 5 t) (iblk m c 6 t)
    (iblk m c 7 t) (iblk m c 8 t) (iblk m c 9 t)) ey).trans ?_
  refine (block_apply _ _ _ _ _ _ _ _ _ _ (⟨(y 0).val, y0⟩ : Fin 512) (⟨(y 1).val, y1⟩ : Fin 1024)).trans ?_
  unfold brow
  simp only [iblk0 m c t, iblk1 m c t, iblk2 m c t, iblk3 m c t, iblk4 m c t, iblk5 m c t, iblk6 m c t, iblk7 m c t, iblk8 m c t, iblk9 m c t]
  rfl

/-- Every index of the result is in some point's block. -/
theorem covered (i : S65536x1024.Idx) : ∃ t : Fin cfg0.N, (cfg0.win 10).flush t = true ∧ i ∈ ((cfg0.win 10).blk t).view.set := by
  have h0 : (i 0).val < 65536 := (i 0).isLt
  have h1 : (i 1).val < 1024 := (i 1).isLt
  obtain ⟨t, e0⟩ := idx_onto ⟨(i 0).val / 512, by omega⟩
  dsimp only at e0
  obtain ⟨l0, l1⟩ := idx_lt t
  refine ⟨t, flush0_10 t, ?_⟩
  have h := ((cfg0.win 10).blk t).view.emb_mem_set (ix2 (⟨(i 0).val % 512, Nat.mod_lt _ (by decide)⟩ : Fin 512) (⟨(i 1).val, h1⟩ : Fin 1024))
  refine (congrArg (· ∈ ((cfg0.win 10).blk t).view.set) (funext fun a => Fin.ext ?_)).mp h
  match a with
  | ⟨0, _⟩ => show win0_10.index t 0 * 512 + 1 * ((i 0).val % 512) = (i 0).val; omega
  | ⟨1, _⟩ => show win0_10.index t 1 * 1024 + 1 * (i 1).val = (i 1).val; omega

/-- So the result array ends holding the layer's result. -/
theorem final : (dats m 0 c).arrAt 10 cfg0.N = result m c :=
  (dats m 0 c).arrAt_eq_of_cover 10 _ (fun t _ => flushed_eq m c t) covered

end Cert.MlpArr

end
-- ==== Proof.MlpRefValue.lean ====
/- What the output projection and feed-forward reference computes over the extended reals, index by index: the same rows as the
   kernel's. -/
module

public import proofs.«01_k».proof.Proof.MlpArr
public import proofs.«01_k».proof.Proof.Gen.MlpRefIdeal.Read

@[expose] public section

set_option maxRecDepth 16384

noncomputable section

namespace Cert.MlpRefValue

open Cert.MlpRefIdeal Cert.MlpRefIdeal.Gen Cert.MlpRefIdeal.Read Cert.MlpArr Cert.MlpValue Cert.MlpPay
open Idealize.ShloMosaic

variable (x0 : Vec Ideal S65536x1024 .f32) (x1 x2 : Vec Ideal S65536x512 .bf16) (x3 : Vec Ideal S1024x1024 .f32) (x4 x5 : Vec Ideal S1024 .f32)
  (x6 : Vec Ideal S1024x4096 .f32) (x7 : Vec Ideal S4096x1024 .f32) (x8 : Vec Ideal S1024 .f32)

/-- An index of two coordinates from their values. -/
theorem ix2_of {A B : ℕ} (i : (⟨2, ![A, B]⟩ : Shape).Idx) (a : Fin A) (b : Fin B) (h0 : (i 0).val = a.val) (h1 : (i 1).val = b.val) :
    i = ix2 a b := funext fun e => Fin.ext (by
  match e with
  | ⟨0, _⟩ => exact h0
  | ⟨1, _⟩ => exact h1)

/-- An index of one coordinate from its value. -/
theorem ix1_of {A : ℕ} (i : (⟨1, ![A]⟩ : Shape).Idx) (a : Fin A) (h0 : (i 0).val = a.val) : i = ix1 a := funext fun e => Fin.ext (by
  match e with
  | ⟨0, _⟩ => exact h0)

/-- The joined heads: the first group's columns … -/
theorem cat_left (r : Fin 65536) (k : Fin 512) : val_main_v0 (F := Ideal) x1 x2 (ix2 r (Fin.castAdd 512 k : Fin 1024)) = x1 (ix2 r k) := by
  unfold val_main_v0
  refine concatenate_pair_apply_left (t := S65536x1024) (1 : Fin 2) x1 x2 _ _ rfl (ix2 r k) ?_
  intro b
  match b with
  | ⟨0, _⟩ => rfl
  | ⟨1, _⟩ => rfl

/-- … then the second group's. -/
theorem cat_right (r : Fin 65536) (k : Fin 512) : val_main_v0 (F := Ideal) x1 x2 (ix2 r (Fin.natAdd 512 k : Fin 1024)) = x2 (ix2 r k) := by
  unfold val_main_v0
  refine concatenate_pair_apply_right (t := S65536x1024) (1 : Fin 2) x1 x2 _ _ rfl rfl (ix2 r k) ?_ ?_
  · intro b hb
    match b, hb with
    | ⟨0, _⟩, _ => rfl
    | ⟨1, _⟩, hb => exact absurd rfl hb
  · exact Nat.add_comm _ _

/-- The output projection. -/
theorem mix_apply (r : Fin 65536) (j : Fin 1024) : val_main_v2 (F := Ideal) x1 x2 x3 (ix2 r j)
    = halves (fun k => x1 (ix2 r k)) (fun k => x2 (ix2 r k)) (fun k j => x3 (ix2 (Fin.castAdd 512 k : Fin 1024) j))
        (fun k j => x3 (ix2 (Fin.natAdd 512 k : Fin 1024) j)) j := by
  rw [val_main_v2_apply]
  have e : ∀ k : Fin 1024, val_main_v1 (F := Ideal) x1 x2 (lidx_main_v2 (ix2 r j) k) * x3 (ridx_main_v2 (ix2 r j) k)
      = val_main_v0 (F := Ideal) x1 x2 (ix2 r k) * x3 (ix2 k j) := by
    intro k
    rw [val_main_v1_apply]
    exact congrArg₂ (· * ·) (congrArg (val_main_v0 (F := Ideal) x1 x2) (ix2_of _ r k rfl rfl)) (congrArg x3 (ix2_of _ k j rfl rfl))
  rw [Finset.sum_congr rfl fun k _ => e k]
  refine (Fin.sum_univ_add (a := 512) (b := 512) (fun k : Fin (512 + 512) => val_main_v0 (F := Ideal) x1 x2 (ix2 r (k : Fin 1024)) * x3 (ix2 (k : Fin 1024) j))).trans ?_
  unfold halves
  exact congrArg₂ (· + ·) (Finset.sum_congr rfl fun k _ => congrArg (· * _) (cat_left x1 x2 r k))
    (Finset.sum_congr rfl fun k _ => congrArg (· * _) (cat_right x1 x2 r k))

/-- A row after the first residual. -/
theorem first_apply (r : Fin 65536) (j : Fin 1024) : val_main_v16 (F := Ideal) x0 x1 x2 x3 x4 (ix2 r j) = first x0 x1 x2 x3 x4 r j := by
  unfold first mid MlpPay.norm factor
  rw [val_main_v16_apply, val_main_v15_apply, val_main_v12_apply, val_main_v11_apply, val_main_v10_apply, val_main_v9_apply, val_main_v7_apply,
    val_main_v5_apply, val_main_v4_apply, val_main_v14_apply, val_main_v13_apply, mix_apply, val_main_v6_apply, val_main_v8_apply,
    val_main_cst_0_apply, val_main_cst_1_apply, val_main_cst_apply]
  rw [show (FloatOps.ofBits .f32 0x00000000#32 : Ideal .f32) = (0 : EReal) from Ideal.ofBits_zero_f32, zero_add]
  have s : ∀ k, val_main_v3 (F := Ideal) x1 x2 x3 (idx_main_v4 (idx_main_v5 (idx_main_v11 (ix2 r j))) k)
      = halves (fun k => x1 (ix2 r k)) (fun k => x2 (ix2 r k)) (fun k j => x3 (ix2 (Fin.castAdd 512 k : Fin 1024) j))
          (fun k j => x3 (ix2 (Fin.natAdd 512 k : Fin 1024) j)) k
        * halves (fun k => x1 (ix2 r k)) (fun k => x2 (ix2 r k)) (fun k j => x3 (ix2 (Fin.castAdd 512 k : Fin 1024) j))
          (fun k j => x3 (ix2 (Fin.natAdd 512 k : Fin 1024) j)) k := by
    intro k
    rw [val_main_v3_apply, ix2_of (idx_main_v4 (idx_main_v5 (idx_main_v11 (ix2 r j))) k) r k rfl rfl, mix_apply]
    rfl
  rw [Finset.sum_congr rfl fun k _ => s k, ix1_of (idx_main_v13 (idx_main_v14 (ix2 r j))) j rfl]
  rfl

/-- A row fed to the hidden layer. -/
theorem normed_apply (r : Fin 65536) (j : Fin 1024) : val_main_v29 (F := Ideal) x0 x1 x2 x3 x4 x5 (ix2 r j)
    = MlpPay.norm (first x0 x1 x2 x3 x4 r) (fun j => x5 (ix1 j)) j := by
  unfold MlpPay.norm factor
  rw [val_main_v29_apply, val_main_v26_apply, val_main_v25_apply, val_main_v24_apply, val_main_v23_apply, val_main_v21_apply,
    val_main_v19_apply, val_main_v18_apply, val_main_v28_apply, val_main_v27_apply, first_apply, val_main_v20_apply, val_main_v22_apply,
    val_main_cst_3_apply, val_main_cst_4_apply, val_main_cst_2_apply]
  rw [show (FloatOps.ofBits .f32 0x00000000#32 : Ideal .f32) = (0 : EReal) from Ideal.ofBits_zero_f32, zero_add]
  have s : ∀ k, val_main_v17 (F := Ideal) x0 x1 x2 x3 x4 (idx_main_v18 (idx_main_v19 (idx_main_v25 (ix2 r j))) k)
      = first x0 x1 x2 x3 x4 r k * first x0 x1 x2 x3 x4 r k := by
    intro k
    rw [val_main_v17_apply, ix2_of (idx_main_v18 (idx_main_v19 (idx_main_v25 (ix2 r j))) k) r k rfl rfl, first_apply]
    rfl
  rw [Finset.sum_congr rfl fun k _ => s k, ix1_of (idx_main_v27 (idx_main_v28 (ix2 r j))) j rfl]
  rfl

/-- A hidden unit of a row. -/
theorem unit_apply (r : Fin 65536) (f : Fin 4096) : val_main_v32 (F := Ideal) x0 x1 x2 x3 x4 x5 x6 (ix2 r f)
    = MlpPay.unit (MlpPay.norm (first x0 x1 x2 x3 x4 r) (fun j => x5 (ix1 j))) (fun k => x6 (ix2 k f)) := by
  unfold MlpPay.unit
  rw [val_main_v32_apply, val_main_v31_apply, val_main_v30_apply, val_main_call0_v0_apply, val_main_call0_cst_apply]
  rw [show (FloatOps.ofBits .f32 0x00000000#32 : Ideal .f32) = (0 : EReal) from Ideal.ofBits_zero_f32]
  have s : ∀ k, val_main_v29 (F := Ideal) x0 x1 x2 x3 x4 x5 (lidx_main_v30 (ix2 r f) k) * x6 (ridx_main_v30 (ix2 r f) k)
      = MlpPay.norm (first x0 x1 x2 x3 x4 r) (fun j => x5 (ix1 j)) k * x6 (ix2 k f) := by
    intro k
    rw [ix2_of (lidx_main_v30 (ix2 r f) k) r k rfl rfl, normed_apply, ix2_of (ridx_main_v30 (ix2 r f) k) k f rfl rfl]
  rw [Finset.sum_congr rfl fun k _ => s k]
  rfl

/-- The feed-forward of a row. -/
theorem ffn_apply (r : Fin 65536) (j : Fin 1024) : val_main_v33 (F := Ideal) x0 x1 x2 x3 x4 x5 x6 x7 (ix2 r j)
    = ffn (MlpPay.norm (first x0 x1 x2 x3 x4 r) (fun j => x5 (ix1 j))) (fun k f => x6 (ix2 k f)) (fun f j => x7 (ix2 f j)) j := by
  rw [val_main_v33_apply]
  unfold ffn
  refine Finset.sum_congr rfl fun f _ => ?_
  rw [ix2_of (lidx_main_v33 (ix2 r j) f) r f rfl rfl, unit_apply, ix2_of (ridx_main_v33 (ix2 r j) f) f j rfl rfl]

/-- The reference's result is the layer's. -/
theorem result_eq : val_main_v47 (F := Ideal) x0 x1 x2 x3 x4 x5 x6 x7 x8 = mlp x0 x1 x2 x3 x4 x5 x6 x7 x8 := by
  funext i
  obtain ⟨r, j, rfl⟩ : ∃ (r : Fin 65536) (j : Fin 1024), i = ix2 r j := ⟨i 0, i 1, ix2_of i _ _ rfl rfl⟩
  show _ = second (first x0 x1 x2 x3 x4 r) _ _ _ _ j
  unfold second
  rw [val_main_v47_apply, first_apply, val_main_v46_apply, val_main_v43_apply, val_main_v42_apply, val_main_v41_apply, val_main_v40_apply,
    val_main_v38_apply, val_main_v36_apply, val_main_v35_apply, val_main_v45_apply, val_main_v44_apply, ffn_apply, val_main_v37_apply,
    val_main_v39_apply, val_main_cst_6_apply, val_main_cst_7_apply, val_main_cst_5_apply]
  rw [show (FloatOps.ofBits .f32 0x00000000#32 : Ideal .f32) = (0 : EReal) from Ideal.ofBits_zero_f32, zero_add]
  generalize hF : ffn (MlpPay.norm (first x0 x1 x2 x3 x4 r) fun j => x5 (ix1 j)) (fun k f => x6 (ix2 k f)) (fun f j => x7 (ix2 f j)) = F
  have s : ∀ k, val_main_v34 (F := Ideal) x0 x1 x2 x3 x4 x5 x6 x7 (idx_main_v35 (idx_main_v36 (idx_main_v42 (ix2 r j))) k) = F k * F k := by
    intro k
    rw [val_main_v34_apply, ix2_of (idx_main_v35 (idx_main_v36 (idx_main_v42 (ix2 r j))) k) r k rfl rfl, ffn_apply, hF]
    rfl
  rw [Finset.sum_congr rfl fun k _ => s k, ix1_of (idx_main_v44 (idx_main_v45 (ix2 r j))) j rfl]
  rfl

end Cert.MlpRefValue

end
-- ==== Proof.MlpPair.lean ====
/- The output projection and feed-forward claims: the reference's frame, and that kernel and reference leave the same array. -/
module

public import proofs.«01_k».proof.Defs
public import proofs.«01_k».proof.Proof.MlpRefValue
public import proofs.«01_k».proof.Proof.Gen.MlpRefIdeal.Run
public import Idealize.ShloMosaic.Lib.Quiescent

@[expose] public section

noncomputable section

namespace Cert.MlpPair

open Idealize.ShloMosaic Idealize.ShloMosaic.TcCoe Idealize.SL.Sem

/-- The reference's frame. -/
theorem ref_frame : Cert.quiescent_MlpRefIdeal := fun m g _ =>
  (θ_run _ _ _).mono (fun r h => ⟨fun c => (h c).2, Idealize.ShloMosaic.sem_eq_zero_of_no_sems (by decide) r.2⟩)
    (Cert.MlpRefIdeal.Value.run m g)

/-- Kernel and reference end with the same array. -/
theorem algebraic : Cert.algebraic_MlpIdeal_MlpRefIdeal := by
  intro m g m' g' hpre hagree
  refine ⟨fun c => Cert.MlpArr.result m c, ?_, ?_⟩
  · exact (θ_run _ _ _).mono (fun r h c => ⟨(h c).1.trans (Cert.MlpArr.final m c), (h c).2⟩) (Cert.MlpIdeal.Value.run_blocks m g)
  · refine (θ_run _ _ _).mono (fun r h c => ⟨(h c).1.trans ?_, (h c).2⟩) (Cert.MlpRefIdeal.Value.run m' g')
    obtain ⟨e0, e1, e2, e3, e4, e5, e6, e7, e8⟩ := hagree c
    rw [Cert.MlpRefIdeal.Read.val_main_v47_eq, Cert.MlpRefValue.result_eq, e0, e1, e2, e3, e4, e5, e6, e7, e8]

end Cert.MlpPair

end
-- ==== Proof.MlpBits.lean ====
/- The output projection and feed-forward kernel's frame as printed: the same program as the one read over the extended reals, at
   machine words. -/
module

public import proofs.«01_k».proof.Defs
public import proofs.«01_k».proof.Proof.Gen.Mlp
public import proofs.«01_k».proof.Proof.Gen.MlpIdeal.Value

@[expose] public section

set_option maxRecDepth 16384

noncomputable section

namespace Cert.MlpBits

open Idealize.ShloMosaic Idealize.ShloMosaic.TcCoe Idealize.ShloMosaic.Tactic Idealize.SL.Sem

/-- The frame claim of the program read at any floats, at machine words. -/
def Framed : Prop :=
  ∀ (m : (ℓ : Loc Cert.MlpIdeal.nD Cert.MlpIdeal.τ Cert.MlpIdeal.sig) → Buf (Elt Bits) ℓ) (g : Dev Cert.MlpIdeal.nD → PrngReg), True →
    θ_run (Cert.MlpIdeal.defs (F := Bits)) (onTc (τ := Cert.MlpIdeal.τ) (Cert.MlpIdeal.main (F := Bits))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

theorem framed : Framed := fun m g _ => Cert.MlpIdeal.Gen.frame m g

/-- The two printed programs are one and the same. -/
theorem same : Framed = Cert.quiescent_Mlp := by sl_kernel_rfl

/-- The printed kernel's frame. -/
theorem frame : Cert.quiescent_Mlp := same ▸ framed

end Cert.MlpBits

end
-- ==== Proof.InPay.lean ====
/- The vector expressions of the input projection kernel over the extended reals, read at an index: the normed rows, the projections,
   and the norm and rotary positions of a head. -/
module

public import proofs.«01_k».proof.Proof.Gen.InProjIdeal.Skeleton
public import Idealize.ShloMosaic.Lib.Pointwise

@[expose] public section

set_option maxRecDepth 16384

noncomputable section

namespace Cert.InPay

open Cert.InProjIdeal Cert.InProjIdeal.Gen
open Idealize.ShloMosaic

/-- A row of `n` numbers over its root mean square, times the weights; `c` is the row's length. -/
def rms {n : ℕ} (c : EReal) (x w : Fin n → EReal) (j : Fin n) : EReal :=
  x j * Ideal.rsqrt (Ideal.div (∑ k, x k * x k) c + Ideal.ofBits .f32 0x358637BD#32) * w j

/-- The two row lengths. -/
def c1024 : EReal := Ideal.ofBits .f32 0x44800000#32
def c128 : EReal := Ideal.ofBits .f32 0x43000000#32

/-- The normed rows. -/
theorem pay2_apply (v0 : FVec Ideal S256x1024 .f32) (v1 : FVec Ideal S1x1024 .f32) (r : Fin 256) (k : Fin 1024) :
    k0_pay2 (F := Ideal) v0 v1 (ix2 r k) = rms c1024 (fun k => v0 (ix2 r k)) (fun k => v1 (ix2 0 k)) k := by
  unfold rms c1024
  pointwise [k0_pay2]

/-- The projection to the columns of queries, keys and values of group A. -/
theorem pay3_apply (v0 : FVec Ideal S256x1024 .f32) (v1 : FVec Ideal S1x1024 .f32) (w : FVec Ideal S1024x1536 .bf16) (r : Fin 256) (c : Fin 1536) :
    k0_pay3 (F := Ideal) v0 v1 w (ix2 r c) = ∑ k, rms c1024 (fun k => v0 (ix2 r k)) (fun k => v1 (ix2 0 k)) k * w (ix2 k c) := by
  simp only [← pay2_apply]
  unfold k0_pay3
  generalize k0_pay2 (F := Ideal) v0 v1 = h
  pointwise []

/-- The projection to the output gate. -/
theorem pay4_apply (v0 : FVec Ideal S256x1024 .f32) (v1 : FVec Ideal S1x1024 .f32) (w : FVec Ideal S1024x512 .bf16) (r : Fin 256) (c : Fin 512) :
    k0_pay4 (F := Ideal) v0 v1 w (ix2 r c) = ∑ k, rms c1024 (fun k => v0 (ix2 r k)) (fun k => v1 (ix2 0 k)) k * w (ix2 k c) := by
  simp only [← pay2_apply]
  unfold k0_pay4
  generalize k0_pay2 (F := Ideal) v0 v1 = h
  pointwise []

/-- The values, transposed. -/
theorem pay5_apply (v0 : FVec Ideal S256x1024 .f32) (v1 : FVec Ideal S1x1024 .f32) (w : FVec Ideal S256x1024 .bf16) (c r : Fin 256) :
    k0_pay5 (F := Ideal) v0 v1 w (ix2 c r) = ∑ k, w (ix2 c k) * rms c1024 (fun k => v0 (ix2 r k)) (fun k => v1 (ix2 0 k)) k := by
  simp only [← pay2_apply]
  unfold k0_pay5
  generalize k0_pay2 (F := Ideal) v0 v1 = h
  pointwise []

/-- The projections to the queries and to the keys of group B. -/
theorem pay14_apply (v0 : FVec Ideal S256x1024 .f32) (v1 : FVec Ideal S1x1024 .f32) (w : FVec Ideal S1024x512 .bf16) (r : Fin 256) (c : Fin 512) :
    k0_pay14 (F := Ideal) (k0_pay2 (F := Ideal) v0 v1) w (ix2 r c)
      = ∑ k, rms c1024 (fun k => v0 (ix2 r k)) (fun k => v1 (ix2 0 k)) k * w (ix2 k c) := by
  simp only [← pay2_apply]
  unfold k0_pay14
  generalize k0_pay2 (F := Ideal) v0 v1 = h
  pointwise []
theorem pay26_apply (v0 : FVec Ideal S256x1024 .f32) (v1 : FVec Ideal S1x1024 .f32) (w : FVec Ideal S1024x256 .bf16) (r : Fin 256) (c : Fin 256) :
    k0_pay26 (F := Ideal) (k0_pay2 (F := Ideal) v0 v1) w (ix2 r c)
      = ∑ k, rms c1024 (fun k => v0 (ix2 r k)) (fun k => v1 (ix2 0 k)) k * w (ix2 k c) := by
  simp only [← pay2_apply]
  unfold k0_pay26
  generalize k0_pay2 (F := Ideal) v0 v1 = h
  pointwise []

/-! ## One head -/

section
variable (cos sin y : FVec Ideal S256x128 .f32) (w : FVec Ideal S1x128 .f32)

/-- A head's rows, normed. -/
def headNorm : FVec Ideal S256x128 .f32 :=
  mulf (mulf y (broadcastTo S256x128 (rsqrt (addf (divf (shapeCast S256x1
      (multiReduction .add [1] S256 (mulf y y) 0x00000000#32 reduces_S256x128_S256 (.inl rfl) rfl) shapeCasts_S256_S256x1)
      (broadcast S256x1 (Scalar.ofBits .f32 0x43000000#32))) (broadcast S256x1 (Scalar.ofBits .f32 0x358637BD#32))))
      broadcasts_S256x1_S256x128))
    (broadcastTo S256x128 (shapeCast S1x128 w shapeCasts_S1x128_S1x128) broadcasts_S1x128_S256x128)

/-- A head's rows, normed and given their rotary positions. -/
def headRope : FVec Ideal S256x128 .f32 :=
  addf (mulf (headNorm y w) (shapeCast S256x128 cos shapeCasts_S256x128_S256x128))
    (mulf (dynamicRotate 1 64#32 none (headNorm y w) rotates_S256x128_d1) (shapeCast S256x128 sin shapeCasts_S256x128_S256x128))

/-- A query head as stored, and a key head. -/
def headQ : FVec Ideal S256x128 .bf16 :=
  truncf .bf16 (mulf (headRope cos sin y w) (broadcast S256x128 (Named.named κ "q_scale" 0x3E0293EE#32))) bitsLt_bf16_f32
def headK : FVec Ideal S256x128 .bf16 := truncf .bf16 (headRope cos sin y w) bitsLt_bf16_f32

theorem headNorm_apply (r : Fin 256) (d : Fin 128) :
    headNorm y w (ix2 r d) = rms c128 (fun d => y (ix2 r d)) (fun d => w (ix2 0 d)) d := by
  unfold rms c128
  pointwise [headNorm]

/-- The column half a head away. -/
def across (d : Fin 128) : Fin 128 := ⟨(d.val + 64) % 128, Nat.mod_lt _ (by decide)⟩

/-- A head's row with its rotary positions. -/
def rope (y w cos sin : Fin 128 → EReal) (d : Fin 128) : EReal :=
  rms c128 y w d * cos d + rms c128 y w (across d) * sin d

theorem headRope_apply (r : Fin 256) (d : Fin 128) : headRope cos sin y w (ix2 r d)
    = rope (fun d => y (ix2 r d)) (fun d => w (ix2 0 d)) (fun d => cos (ix2 r d)) (fun d => sin (ix2 r d)) d := by
  unfold rope
  simp only [← headNorm_apply]
  have e : dynamicRotate 1 64#32 none (headNorm y w) rotates_S256x128_d1 (ix2 r d) = headNorm y w (ix2 r (across d)) := by
    rw [Pointwise.dynamicRotate_apply]
    refine congrArg (headNorm y w) (funext fun b => Fin.ext ?_)
    match b with
    | ⟨0, _⟩ => rfl
    | ⟨1, _⟩ => rfl
  unfold headRope
  show _ * _ + dynamicRotate 1 64#32 none (headNorm y w) rotates_S256x128_d1 (ix2 r d) * _ = _
  rw [e]
  generalize headNorm y w = n
  pointwise []
end

/-- The factor of the queries. -/
def qscale : EReal := Named.named (F := Ideal) κ "q_scale" (φ := .f32) 0x3E0293EE#32

theorem headQ_apply (cos sin y : FVec Ideal S256x128 .f32) (w : FVec Ideal S1x128 .f32) (r : Fin 256) (d : Fin 128) : headQ cos sin y w (ix2 r d)
    = rope (fun d => y (ix2 r d)) (fun d => w (ix2 0 d)) (fun d => cos (ix2 r d)) (fun d => sin (ix2 r d)) d * qscale :=
  congrArg (· * qscale) (headRope_apply cos sin y w r d)
theorem headK_apply (cos sin y : FVec Ideal S256x128 .f32) (w : FVec Ideal S1x128 .f32) (r : Fin 256) (d : Fin 128) : headK cos sin y w (ix2 r d)
    = rope (fun d => y (ix2 r d)) (fun d => w (ix2 0 d)) (fun d => cos (ix2 r d)) (fun d => sin (ix2 r d)) d :=
  headRope_apply cos sin y w r d

end Cert.InPay

end
-- ==== Proof.InValue.lean ====
/- The blocks the input projection kernel stores, index by index over the extended reals: its four runs of 256 rows and its heads are each
   the same function of the rows they read. -/
module

public import proofs.«01_k».proof.Proof.InPay
public import proofs.«01_k».proof.Proof.Gen.InProjIdeal.Frame
public import Idealize.ShloMosaic.Lib.Pipeline.ValueKit.Tiles

@[expose] public section

set_option maxRecDepth 16384

noncomputable section

namespace Cert.InValue

open Cert.InProjIdeal Cert.InProjIdeal.Gen Cert.InPay Idealize.ShloMosaic.View
open Idealize.ShloMosaic Idealize.ShloMosaic.TcCoe Idealize.SL.Sem

variable (x0 : Vec Ideal S1024x1024 .f32) (x1 : Vec Ideal S1x1024 .f32) (x2 : Vec Ideal S1024x1536 .bf16) (x3 : Vec Ideal S1024x512 .bf16)
  (x4 : Vec Ideal S32x1024 .bf16) (x5 : Vec Ideal S1024x512 .bf16) (x6 : Vec Ideal S1024x256 .bf16) (x7 : Vec Ideal S256x1024 .bf16)
  (x8 x9 : Vec Ideal S32x1 .f32) (x10 x11 : Vec Ideal S256x256 .bf16) (x12 x13 : Vec Ideal S1024x128 .f32) (x14 x15 : Vec Ideal S1x128 .f32)

/-- A row of the block, normed. -/
def hid (R : Fin 1024) (k : Fin 1024) : EReal := rms c1024 (fun k => x0 (ix2 R k)) (fun k => x1 (ix2 0 k)) k

theorem z2 : (![0, 0] : Fin 2 → ℕ) = fun _ => 0 := by decide

/-- The rows a run loads. -/
theorem ld_rows (o : ℕ) (inb : ∀ a, (![o, 0] : Fin 2 → ℕ) a + S256x1024.size a ≤ S1024x1024.size a) (r : Fin 256) (k : Fin 1024) (R : Fin 1024)
    (hR : R.val = o + r.val) :
    View.ld (Val := Elt Ideal) (e' := .f32) x0 (Rect.unit (s := S1024x1024) ![o, 0] S256x1024.size inb) (ix2 r k : S256x1024.Idx) = x0 (ix2 R k) := by
  refine ld_unit_apply_of _ _ _ _ _ _ fun a => ?_
  match a with
  | ⟨0, _⟩ => exact hR
  | ⟨1, _⟩ => show k.val = 0 + k.val; omega
theorem ld_angles (x : Vec Ideal S1024x128 .f32) (o : ℕ) (inb : ∀ a, (![o, 0] : Fin 2 → ℕ) a + S256x128.size a ≤ S1024x128.size a) (r : Fin 256)
    (k : Fin 128) (R : Fin 1024) (hR : R.val = o + r.val) :
    View.ld (Val := Elt Ideal) (e' := .f32) x (Rect.unit (s := S1024x128) ![o, 0] S256x128.size inb) (ix2 r k : S256x128.Idx) = x (ix2 R k) := by
  refine ld_unit_apply_of _ _ _ _ _ _ fun a => ?_
  match a with
  | ⟨0, _⟩ => exact hR
  | ⟨1, _⟩ => show k.val = 0 + k.val; omega

section
variable (o : ℕ) (inb : ∀ a, (![o, 0] : Fin 2 → ℕ) a + S256x1024.size a ≤ S1024x1024.size a)

/-- The rows of the run beginning at `o`. -/
abbrev rows : Vec Ideal S256x1024 .f32 := View.ld (Val := Elt Ideal) x0 (Rect.unit (s := S1024x1024) ![o, 0] S256x1024.size inb)
abbrev nw : Vec Ideal S1x1024 .f32 := View.ld (Val := Elt Ideal) x1 r0_1

theorem hid_rows (r : Fin 256) (R : Fin 1024) (hR : R.val = o + r.val) :
    rms c1024 (fun k => rows x0 o inb (ix2 r k)) (fun k => nw x1 (ix2 0 k)) = hid x0 x1 R := by
  refine congrArg₂ (rms c1024) (funext fun k => ld_rows x0 o inb r k R hR) (funext fun k => ?_)
  exact congrFun (ld_unit_zero (Val := Elt Ideal) (S := S1x1024) (e := .f32) z2 _ x1) _

/-- A run's rows of the projection to group A, of the output gate, and of the transposed values. -/
theorem piece3 (ho : ∀ a, (![o, 0] : Fin 2 → ℕ) a + S256x1536.size a ≤ S1024x1536.size a) (x : S256x1536.Idx) :
    k0_pay3 (F := Ideal) (rows x0 o inb) (nw x1) (View.ld (Val := Elt Ideal) x2 r0_2) x
      = (fun y : S1024x1536.Idx => ∑ k, hid x0 x1 (y 0) k * x2 (ix2 k (y 1))) ((Rect.unit (s := S1024x1536) ![o, 0] S256x1536.size ho).emb x) := by
  have e : x = ix2 (x 0) (x 1) := eq_ix2 x
  refine (congrArg (k0_pay3 (F := Ideal) (rows x0 o inb) (nw x1) (View.ld (Val := Elt Ideal) x2 r0_2)) e).trans ?_
  refine (pay3_apply _ _ _ (x 0) (x 1)).trans ?_
  rw [hid_rows x0 x1 o inb (x 0) (((Rect.unit (s := S1024x1536) ![o, 0] S256x1536.size ho).emb x) 0) (by show o + 1 * (x 0).val = _; omega)]
  refine Finset.sum_congr rfl fun k _ => congrArg (hid x0 x1 _ k * ·) ?_
  refine (congrFun (ld_unit_zero (Val := Elt Ideal) (S := S1024x1536) (e := .bf16) z2 _ x2) _).trans ?_
  exact congrArg (fun a => x2 (ix2 k a)) (Fin.ext (by show (x 1).val = 0 + 1 * (x 1).val; omega))

theorem piece4 (ho : ∀ a, (![o, 0] : Fin 2 → ℕ) a + S256x512.size a ≤ S1024x512.size a) (x : S256x512.Idx) :
    k0_pay4 (F := Ideal) (rows x0 o inb) (nw x1) (View.ld (Val := Elt Ideal) x3 r0_4) x
      = (fun y : S1024x512.Idx => ∑ k, hid x0 x1 (y 0) k * x3 (ix2 k (y 1))) ((Rect.unit (s := S1024x512) ![o, 0] S256x512.size ho).emb x) := by
  have e : x = ix2 (x 0) (x 1) := eq_ix2 x
  refine (congrArg (k0_pay4 (F := Ideal) (rows x0 o inb) (nw x1) (View.ld (Val := Elt Ideal) x3 r0_4)) e).trans ?_
  refine (pay4_apply _ _ _ (x 0) (x 1)).trans ?_
  rw [hid_rows x0 x1 o inb (x 0) (((Rect.unit (s := S1024x512) ![o, 0] S256x512.size ho).emb x) 0) (by show o + 1 * (x 0).val = _; omega)]
  refine Finset.sum_congr rfl fun k _ => congrArg (hid x0 x1 _ k * ·) ?_
  refine (congrFun (ld_unit_zero (Val := Elt Ideal) (S := S1024x512) (e := .bf16) z2 _ x3) _).trans ?_
  exact congrArg (fun a => x3 (ix2 k a)) (Fin.ext (by show (x 1).val = 0 + 1 * (x 1).val; omega))

theorem piece5 (ho : ∀ a, (![0, o] : Fin 2 → ℕ) a + S256x256.size a ≤ S256x1024.size a) (x : S256x256.Idx) :
    k0_pay5 (F := Ideal) (rows x0 o inb) (nw x1) (View.ld (Val := Elt Ideal) x7 r0_6) x
      = (fun y : S256x1024.Idx => ∑ k, x7 (ix2 (y 0) k) * hid x0 x1 (y 1) k) ((Rect.unit (s := S256x1024) ![0, o] S256x256.size ho).emb x) := by
  have e : x = ix2 (x 0) (x 1) := eq_ix2 x
  refine (congrArg (k0_pay5 (F := Ideal) (rows x0 o inb) (nw x1) (View.ld (Val := Elt Ideal) x7 r0_6)) e).trans ?_
  refine (pay5_apply _ _ _ (x 0) (x 1)).trans ?_
  rw [hid_rows x0 x1 o inb (x 1) (((Rect.unit (s := S256x1024) ![0, o] S256x256.size ho).emb x) 1) (by show o + 1 * (x 1).val = _; omega)]
  refine Finset.sum_congr rfl fun k _ => congrArg (· * hid x0 x1 _ k) ?_
  refine (congrFun (ld_unit_zero (Val := Elt Ideal) (S := S256x1024) (e := .bf16) z2 _ x7) _).trans ?_
  exact congrArg (fun a => x7 (ix2 a k)) (Fin.ext (by show (x 0).val = 0 + 1 * (x 0).val; omega))

/-- Column `d` of the head that column `c` belongs to, and a column's place in its head. -/
def col512 (c : Fin 512) (d : Fin 128) : Fin 512 := ⟨c.val / 128 * 128 + d.val, by have := c.isLt; have := d.isLt; omega⟩
def col256 (c : Fin 256) (d : Fin 128) : Fin 256 := ⟨c.val / 128 * 128 + d.val, by have := c.isLt; have := d.isLt; omega⟩
def place (n : ℕ) : Fin 128 := ⟨n % 128, Nat.mod_lt _ (by decide)⟩

/-- A query and a key of the block. -/
def query (y : S1024x512.Idx) : EReal :=
  rope (fun d => ∑ k, hid x0 x1 (y 0) k * x5 (ix2 k (col512 (y 1) d))) (fun d => x14 (ix2 0 d)) (fun d => x12 (ix2 (y 0) d))
    (fun d => x13 (ix2 (y 0) d)) (place (y 1).val) * qscale
def key (y : S1024x256.Idx) : EReal :=
  rope (fun d => ∑ k, hid x0 x1 (y 0) k * x6 (ix2 k (col256 (y 1) d))) (fun d => x15 (ix2 0 d)) (fun d => x12 (ix2 (y 0) d))
    (fun d => x13 (ix2 (y 0) d)) (place (y 1).val)

section
variable (ina : ∀ a, (![o, 0] : Fin 2 → ℕ) a + S256x128.size a ≤ S1024x128.size a)
/-- The angles' cosines or sines of the run beginning at `o`. -/
abbrev angles (x : Vec Ideal S1024x128 .f32) : Vec Ideal S256x128 .f32 := View.ld (Val := Elt Ideal) x (Rect.unit (s := S1024x128) ![o, 0] S256x128.size ina)

theorem pieceQ (h : ℕ) (p : ℕ) (hp : p = 128 * h) (hh : h < 4) (sl : S256x512.Slices ![0, p] S256x128)
    (ho : ∀ a, (![o, p] : Fin 2 → ℕ) a + S256x128.size a ≤ S1024x512.size a) (x : S256x128.Idx) :
    headQ (angles o ina x12) (angles o ina x13) (extractStridedSlice S256x128 ![0, p] (k0_pay14 (F := Ideal)
        (k0_pay2 (F := Ideal) (rows x0 o inb) (nw x1)) (View.ld (Val := Elt Ideal) x5 r0_4)) sl) (View.ld (Val := Elt Ideal) x14 r0_13) x
      = query x0 x1 x5 x12 x13 x14 ((Rect.unit (s := S1024x512) ![o, p] S256x128.size ho).emb x) := by
  have e : x = ix2 (x 0) (x 1) := eq_ix2 x
  have h1 : (x 1).val < 128 := (x 1).isLt
  obtain ⟨R, hR⟩ : ∃ R : Fin 1024, R = ((Rect.unit (s := S1024x512) ![o, p] S256x128.size ho).emb x) 0 := ⟨_, rfl⟩
  have hR' : R.val = o + (x 0).val := by rw [hR]; show o + 1 * (x 0).val = _; omega
  refine (congrArg (headQ _ _ _ _) e).trans ?_
  refine (headQ_apply _ _ _ _ (x 0) (x 1)).trans ?_
  unfold query
  rw [← hR]
  refine congrArg (· * qscale) ?_
  have a1 : ∀ d : Fin 128, extractStridedSlice S256x128 ![0, p] (k0_pay14 (F := Ideal) (k0_pay2 (F := Ideal) (rows x0 o inb) (nw x1))
        (View.ld (Val := Elt Ideal) x5 r0_4)) sl (ix2 (x 0) d)
      = ∑ k, hid x0 x1 R k * x5 (ix2 k (col512 (((Rect.unit (s := S1024x512) ![o, p] S256x128.size ho).emb x) 1) d)) := by
    intro d
    have hd := d.isLt
    refine Eq.trans (b := k0_pay14 (F := Ideal) (k0_pay2 (F := Ideal) (rows x0 o inb) (nw x1)) (View.ld (Val := Elt Ideal) x5 r0_4)
      (ix2 (x 0) (⟨p + d.val, by omega⟩ : Fin 512))) ?_ ?_
    · refine congrArg (k0_pay14 (F := Ideal) (k0_pay2 (F := Ideal) (rows x0 o inb) (nw x1)) (View.ld (Val := Elt Ideal) x5 r0_4)) (funext fun a => Fin.ext ?_)
      match a with
      | ⟨0, _⟩ => show 0 + (x 0).val = (x 0).val; omega
      | ⟨1, _⟩ => rfl
    refine (pay14_apply _ _ _ _ _).trans ?_
    rw [hid_rows x0 x1 o inb (x 0) R hR']
    refine Finset.sum_congr rfl fun k _ => congrArg (hid x0 x1 _ k * ·) ?_
    refine (congrFun (ld_unit_zero (Val := Elt Ideal) (S := S1024x512) (e := .bf16) z2 _ x5) _).trans ?_
    exact congrArg (fun a => x5 (ix2 k a)) (Fin.ext (by show p + d.val = (p + 1 * (x 1).val) / 128 * 128 + d.val; omega))
  rw [funext a1, funext fun d => ld_angles x12 o ina (x 0) d R hR', funext fun d => ld_angles x13 o ina (x 0) d R hR']
  have a2 : (fun d => View.ld (Val := Elt Ideal) x14 r0_13 (ix2 0 d)) = fun d => x14 (ix2 0 d) :=
    funext fun d => congrFun (ld_unit_zero (Val := Elt Ideal) (S := S1x128) (e := .f32) z2 _ x14) _
  rw [a2]
  exact congrArg _ (Fin.ext (by show (x 1).val = (p + 1 * (x 1).val) % 128; omega))

theorem pieceK (h : ℕ) (p : ℕ) (hp : p = 128 * h) (hh : h < 2) (sl : S256x256.Slices ![0, p] S256x128)
    (ho : ∀ a, (![o, p] : Fin 2 → ℕ) a + S256x128.size a ≤ S1024x256.size a) (x : S256x128.Idx) :
    headK (angles o ina x12) (angles o ina x13) (extractStridedSlice S256x128 ![0, p] (k0_pay26 (F := Ideal)
        (k0_pay2 (F := Ideal) (rows x0 o inb) (nw x1)) (View.ld (Val := Elt Ideal) x6 r0_18)) sl) (View.ld (Val := Elt Ideal) x15 r0_13) x
      = key x0 x1 x6 x12 x13 x15 ((Rect.unit (s := S1024x256) ![o, p] S256x128.size ho).emb x) := by
  have e : x = ix2 (x 0) (x 1) := eq_ix2 x
  have h1 : (x 1).val < 128 := (x 1).isLt
  obtain ⟨R, hR⟩ : ∃ R : Fin 1024, R = ((Rect.unit (s := S1024x256) ![o, p] S256x128.size ho).emb x) 0 := ⟨_, rfl⟩
  have hR' : R.val = o + (x 0).val := by rw [hR]; show o + 1 * (x 0).val = _; omega
  refine (congrArg (headK _ _ _ _) e).trans ?_
  refine (headK_apply _ _ _ _ (x 0) (x 1)).trans ?_
  unfold key
  rw [← hR]
  have a1 : ∀ d : Fin 128, extractStridedSlice S256x128 ![0, p] (k0_pay26 (F := Ideal) (k0_pay2 (F := Ideal) (rows x0 o inb) (nw x1))
        (View.ld (Val := Elt Ideal) x6 r0_18)) sl (ix2 (x 0) d)
      = ∑ k, hid x0 x1 R k * x6 (ix2 k (col256 (((Rect.unit (s := S1024x256) ![o, p] S256x128.size ho).emb x) 1) d)) := by
    intro d
    have hd := d.isLt
    refine Eq.trans (b := k0_pay26 (F := Ideal) (k0_pay2 (F := Ideal) (rows x0 o inb) (nw x1)) (View.ld (Val := Elt Ideal) x6 r0_18)
      (ix2 (x 0) (⟨p + d.val, by omega⟩ : Fin 256))) ?_ ?_
    · refine congrArg (k0_pay26 (F := Ideal) (k0_pay2 (F := Ideal) (rows x0 o inb) (nw x1)) (View.ld (Val := Elt Ideal) x6 r0_18)) (funext fun a => Fin.ext ?_)
      match a with
      | ⟨0, _⟩ => show 0 + (x 0).val = (x 0).val; omega
      | ⟨1, _⟩ => rfl
    refine (pay26_apply _ _ _ _ _).trans ?_
    rw [hid_rows x0 x1 o inb (x 0) R hR']
    refine Finset.sum_congr rfl fun k _ => congrArg (hid x0 x1 _ k * ·) ?_
    refine (congrFun (ld_unit_zero (Val := Elt Ideal) (S := S1024x256) (e := .bf16) z2 _ x6) _).trans ?_
    exact congrArg (fun a => x6 (ix2 k a)) (Fin.ext (by show p + d.val = (p + 1 * (x 1).val) / 128 * 128 + d.val; omega))
  rw [funext a1, funext fun d => ld_angles x12 o ina (x 0) d R hR', funext fun d => ld_angles x13 o ina (x 0) d R hR']
  have a2 : (fun d => View.ld (Val := Elt Ideal) x15 r0_13 (ix2 0 d)) = fun d => x15 (ix2 0 d) :=
    funext fun d => congrFun (ld_unit_zero (Val := Elt Ideal) (S := S1x128) (e := .f32) z2 _ x15) _
  rw [a2]
  exact congrArg _ (Fin.ext (by show (x 1).val = (p + 1 * (x 1).val) % 128; omega))
end
end

/-! ## The blocks -/

theorem block16 (y : S1024x1536.Idx) : out0_16 x0 x1 x2 x3 x4 x5 x6 x7 x8 x9 x10 x11 x12 x13 x14 x15 y
    = ∑ k, hid x0 x1 (y 0) k * x2 (ix2 k (y 1)) := by
  unfold out0_16
  refine View.canon_apply_of_pieces (Val := Elt Ideal) (e := .bf16) (fun y : S1024x1536.Idx => ∑ k, hid x0 x1 (y 0) k * x2 (ix2 k (y 1)))
    _ ?_ y (cover0_16 _ _ _ _ y)
  intro pc hpc
  rcases List.mem_cons.mp hpc with rfl | hpc
  · exact piece3 x0 x1 x2 768 inb_S1024x1024_S256x1024_768_0 inb_S1024x1536_S256x1536_768_0
  rcases List.mem_cons.mp hpc with rfl | hpc
  · exact piece3 x0 x1 x2 512 inb_S1024x1024_S256x1024_512_0 inb_S1024x1536_S256x1536_512_0
  rcases List.mem_cons.mp hpc with rfl | hpc
  · exact piece3 x0 x1 x2 256 inb_S1024x1024_S256x1024_256_0 inb_S1024x1536_S256x1536_256_0
  rcases List.mem_cons.mp hpc with rfl | hpc
  · exact piece3 x0 x1 x2 0 inb_S1024x1024_S256x1024_0_0 inb_S1024x1536_S256x1536_0_0
  nomatch hpc

theorem block17 (y : S1024x512.Idx) : out0_17 x0 x1 x2 x3 x4 x5 x6 x7 x8 x9 x10 x11 x12 x13 x14 x15 y
    = ∑ k, hid x0 x1 (y 0) k * x3 (ix2 k (y 1)) := by
  unfold out0_17
  refine View.canon_apply_of_pieces (Val := Elt Ideal) (e := .bf16) (fun y : S1024x512.Idx => ∑ k, hid x0 x1 (y 0) k * x3 (ix2 k (y 1)))
    _ ?_ y (cover0_17 _ _ _ _ y)
  intro pc hpc
  rcases List.mem_cons.mp hpc with rfl | hpc
  · exact piece4 x0 x1 x3 768 inb_S1024x1024_S256x1024_768_0 inb_S1024x512_S256x512_768_0
  rcases List.mem_cons.mp hpc with rfl | hpc
  · exact piece4 x0 x1 x3 512 inb_S1024x1024_S256x1024_512_0 inb_S1024x512_S256x512_512_0
  rcases List.mem_cons.mp hpc with rfl | hpc
  · exact piece4 x0 x1 x3 256 inb_S1024x1024_S256x1024_256_0 inb_S1024x512_S256x512_256_0
  rcases List.mem_cons.mp hpc with rfl | hpc
  · exact piece4 x0 x1 x3 0 inb_S1024x1024_S256x1024_0_0 inb_S1024x512_S256x512_0_0
  nomatch hpc

theorem block21 (y : S256x1024.Idx) : out0_21 x0 x1 x2 x3 x4 x5 x6 x7 x8 x9 x10 x11 x12 x13 x14 x15 y
    = ∑ k, x7 (ix2 (y 0) k) * hid x0 x1 (y 1) k := by
  unfold out0_21
  refine View.canon_apply_of_pieces (Val := Elt Ideal) (e := .bf16) (fun y : S256x1024.Idx => ∑ k, x7 (ix2 (y 0) k) * hid x0 x1 (y 1) k)
    _ ?_ y (cover0_21 _ _ _ _ y)
  intro pc hpc
  rcases List.mem_cons.mp hpc with rfl | hpc
  · exact piece5 x0 x1 x7 768 inb_S1024x1024_S256x1024_768_0 inb_S256x1024_S256x256_0_768
  rcases List.mem_cons.mp hpc with rfl | hpc
  · exact piece5 x0 x1 x7 512 inb_S1024x1024_S256x1024_512_0 inb_S256x1024_S256x256_0_512
  rcases List.mem_cons.mp hpc with rfl | hpc
  · exact piece5 x0 x1 x7 256 inb_S1024x1024_S256x1024_256_0 inb_S256x1024_S256x256_0_256
  rcases List.mem_cons.mp hpc with rfl | hpc
  · exact piece5 x0 x1 x7 0 inb_S1024x1024_S256x1024_0_0 inb_S256x1024_S256x256_0_0
  nomatch hpc

theorem block19 (y : S1024x512.Idx) : out0_19 x0 x1 x2 x3 x4 x5 x6 x7 x8 x9 x10 x11 x12 x13 x14 x15 y
    = query x0 x1 x5 x12 x13 x14 y := by
  unfold out0_19
  refine View.canon_apply_of_pieces (Val := Elt Ideal) (e := .bf16) (fun y : S1024x512.Idx => query x0 x1 x5 x12 x13 x14 y)
    _ ?_ y (cover0_19 _ _ _ _ _ _ _ _ _ _ _ _ _ _ _ _ y)
  intro pc hpc
  rcases List.mem_cons.mp hpc with rfl | hpc
  · exact pieceQ x0 x1 x5 x12 x13 x14 768 inb_S1024x1024_S256x1024_768_0 inb_S1024x128_S256x128_768_0 3 384 rfl (by decide) slices_S256x512_o0_384_S256x128 inb_S1024x512_S256x128_768_384
  rcases List.mem_cons.mp hpc with rfl | hpc
  · exact pieceQ x0 x1 x5 x12 x13 x14 768 inb_S1024x1024_S256x1024_768_0 inb_S1024x128_S256x128_768_0 2 256 rfl (by decide) slices_S256x512_o0_256_S256x128 inb_S1024x512_S256x128_768_256
  rcases List.mem_cons.mp hpc with rfl | hpc
  · exact pieceQ x0 x1 x5 x12 x13 x14 768 inb_S1024x1024_S256x1024_768_0 inb_S1024x128_S256x128_768_0 1 128 rfl (by decide) slices_S256x512_o0_128_S256x128 inb_S1024x512_S256x128_768_128
  rcases List.mem_cons.mp hpc with rfl | hpc
  · exact pieceQ x0 x1 x5 x12 x13 x14 768 inb_S1024x1024_S256x1024_768_0 inb_S1024x128_S256x128_768_0 0 0 rfl (by decide) slices_S256x512_o0_0_S256x128 inb_S1024x512_S256x128_768_0
  rcases List.mem_cons.mp hpc with rfl | hpc
  · exact pieceQ x0 x1 x5 x12 x13 x14 512 inb_S1024x1024_S256x1024_512_0 inb_S1024x128_S256x128_512_0 3 384 rfl (by decide) slices_S256x512_o0_384_S256x128 inb_S1024x512_S256x128_512_384
  rcases List.mem_cons.mp hpc with rfl | hpc
  · exact pieceQ x0 x1 x5 x12 x13 x14 512 inb_S1024x1024_S256x1024_512_0 inb_S1024x128_S256x128_512_0 2 256 rfl (by decide) slices_S256x512_o0_256_S256x128 inb_S1024x512_S256x128_512_256
  rcases List.mem_cons.mp hpc with rfl | hpc
  · exact pieceQ x0 x1 x5 x12 x13 x14 512 inb_S1024x1024_S256x1024_512_0 inb_S1024x128_S256x128_512_0 1 128 rfl (by decide) slices_S256x512_o0_128_S256x128 inb_S1024x512_S256x128_512_128
  rcases List.mem_cons.mp hpc with rfl | hpc
  · exact pieceQ x0 x1 x5 x12 x13 x14 512 inb_S1024x1024_S256x1024_512_0 inb_S1024x128_S256x128_512_0 0 0 rfl (by decide) slices_S256x512_o0_0_S256x128 inb_S1024x512_S256x128_512_0
  rcases List.mem_cons.mp hpc with rfl | hpc
  · exact pieceQ x0 x1 x5 x12 x13 x14 256 inb_S1024x1024_S256x1024_256_0 inb_S1024x128_S256x128_256_0 3 384 rfl (by decide) slices_S256x512_o0_384_S256x128 inb_S1024x512_S256x128_256_384
  rcases List.mem_cons.mp hpc with rfl | hpc
  · exact pieceQ x0 x1 x5 x12 x13 x14 256 inb_S1024x1024_S256x1024_256_0 inb_S1024x128_S256x128_256_0 2 256 rfl (by decide) slices_S256x512_o0_256_S256x128 inb_S1024x512_S256x128_256_256
  rcases List.mem_cons.mp hpc with rfl | hpc
  · exact pieceQ x0 x1 x5 x12 x13 x14 256 inb_S1024x1024_S256x1024_256_0 inb_S1024x128_S256x128_256_0 1 128 rfl (by decide) slices_S256x512_o0_128_S256x128 inb_S1024x512_S256x128_256_128
  rcases List.mem_cons.mp hpc with rfl | hpc
  · exact pieceQ x0 x1 x5 x12 x13 x14 256 inb_S1024x1024_S256x1024_256_0 inb_S1024x128_S256x128_256_0 0 0 rfl (by decide) slices_S256x512_o0_0_S256x128 inb_S1024x512_S256x128_256_0
  rcases List.mem_cons.mp hpc with rfl | hpc
  · exact pieceQ x0 x1 x5 x12 x13 x14 0 inb_S1024x1024_S256x1024_0_0 inb_S1024x128_S256x128_0_0 3 384 rfl (by decide) slices_S256x512_o0_384_S256x128 inb_S1024x512_S256x128_0_384
  rcases List.mem_cons.mp hpc with rfl | hpc
  · exact pieceQ x0 x1 x5 x12 x13 x14 0 inb_S1024x1024_S256x1024_0_0 inb_S1024x128_S256x128_0_0 2 256 rfl (by decide) slices_S256x512_o0_256_S256x128 inb_S1024x512_S256x128_0_256
  rcases List.mem_cons.mp hpc with rfl | hpc
  · exact pieceQ x0 x1 x5 x12 x13 x14 0 inb_S1024x1024_S256x1024_0_0 inb_S1024x128_S256x128_0_0 1 128 rfl (by decide) slices_S256x512_o0_128_S256x128 inb_S1024x512_S256x128_0_128
  rcases List.mem_cons.mp hpc with rfl | hpc
  · exact pieceQ x0 x1 x5 x12 x13 x14 0 inb_S1024x1024_S256x1024_0_0 inb_S1024x128_S256x128_0_0 0 0 rfl (by decide) slices_S256x512_o0_0_S256x128 inb_S1024x512_S256x128_0_0
  nomatch hpc

theorem block20 (y : S1024x256.Idx) : out0_20 x0 x1 x2 x3 x4 x5 x6 x7 x8 x9 x10 x11 x12 x13 x14 x15 y
    = key x0 x1 x6 x12 x13 x15 y := by
  unfold out0_20
  refine View.canon_apply_of_pieces (Val := Elt Ideal) (e := .bf16) (fun y : S1024x256.Idx => key x0 x1 x6 x12 x13 x15 y)
    _ ?_ y (cover0_20 _ _ _ _ _ _ _ _ y)
  intro pc hpc
  rcases List.mem_cons.mp hpc with rfl | hpc
  · exact pieceK x0 x1 x6 x12 x13 x15 768 inb_S1024x1024_S256x1024_768_0 inb_S1024x128_S256x128_768_0 1 128 rfl (by decide) slices_S256x256_o0_128_S256x128 inb_S1024x256_S256x128_768_128
  rcases List.mem_cons.mp hpc with rfl | hpc
  · exact pieceK x0 x1 x6 x12 x13 x15 768 inb_S1024x1024_S256x1024_768_0 inb_S1024x128_S256x128_768_0 0 0 rfl (by decide) slices_S256x256_o0_0_S256x128 inb_S1024x256_S256x128_768_0
  rcases List.mem_cons.mp hpc with rfl | hpc
  · exact pieceK x0 x1 x6 x12 x13 x15 512 inb_S1024x1024_S256x1024_512_0 inb_S1024x128_S256x128_512_0 1 128 rfl (by decide) slices_S256x256_o0_128_S256x128 inb_S1024x256_S256x128_512_128
  rcases List.mem_cons.mp hpc with rfl | hpc
  · exact pieceK x0 x1 x6 x12 x13 x15 512 inb_S1024x1024_S256x1024_512_0 inb_S1024x128_S256x128_512_0 0 0 rfl (by decide) slices_S256x256_o0_0_S256x128 inb_S1024x256_S256x128_512_0
  rcases List.mem_cons.mp hpc with rfl | hpc
  · exact pieceK x0 x1 x6 x12 x13 x15 256 inb_S1024x1024_S256x1024_256_0 inb_S1024x128_S256x128_256_0 1 128 rfl (by decide) slices_S256x256_o0_128_S256x128 inb_S1024x256_S256x128_256_128
  rcases List.mem_cons.mp hpc with rfl | hpc
  · exact pieceK x0 x1 x6 x12 x13 x15 256 inb_S1024x1024_S256x1024_256_0 inb_S1024x128_S256x128_256_0 0 0 rfl (by decide) slices_S256x256_o0_0_S256x128 inb_S1024x256_S256x128_256_0
  rcases List.mem_cons.mp hpc with rfl | hpc
  · exact pieceK x0 x1 x6 x12 x13 x15 0 inb_S1024x1024_S256x1024_0_0 inb_S1024x128_S256x128_0_0 1 128 rfl (by decide) slices_S256x256_o0_128_S256x128 inb_S1024x256_S256x128_0_128
  rcases List.mem_cons.mp hpc with rfl | hpc
  · exact pieceK x0 x1 x6 x12 x13 x15 0 inb_S1024x1024_S256x1024_0_0 inb_S1024x128_S256x128_0_0 0 0 rfl (by decide) slices_S256x256_o0_0_S256x128 inb_S1024x256_S256x128_0_0
  nomatch hpc

end Cert.InValue

end
-- ==== Proof.InSum.lean ====
/- Running sums over the extended reals, as the input projection kernel takes them: a row split into three parts that add to it, each
   times a matrix of ones and zeros. -/
module

public import proofs.«01_k».proof.Proof.InPay

@[expose] public section

set_option maxRecDepth 16384

noncomputable section

namespace Cert.InSum

open Cert.InProjIdeal Cert.InProjIdeal.Gen Cert.InPay
open Idealize.ShloMosaic

/-! ## The log decay is never plus infinity -/

theorem exp_nonneg (x : EReal) : 0 ≤ Ideal.exp x := by
  induction x using EReal.rec with
  | bot => exact le_of_eq rfl
  | coe x => exact EReal.coe_nonneg.mpr (Real.exp_pos x).le
  | top => exact le_top

theorem log1p_nonneg {x : EReal} (h : 0 ≤ x) : 0 ≤ Ideal.log1p x := by
  induction x using EReal.rec with
  | bot => exact absurd h (not_le.mpr EReal.bot_lt_zero)
  | coe x =>
    have hx : (0 : ℝ) ≤ x := EReal.coe_nonneg.mp h
    have e : Ideal.log1p (x : EReal) = Ideal.log (((1 + x : ℝ)) : EReal) := by unfold Ideal.log1p; norm_cast
    rw [e]
    show (0 : EReal) ≤ if (1 + x : ℝ) ≤ 0 then ⊥ else ((Real.log (1 + x) : ℝ) : EReal)
    rw [if_neg (by linarith)]
    exact EReal.coe_nonneg.mpr (Real.log_nonneg (by linarith))
  | top => exact le_top

/-- The smooth maximum of a number and zero, as written. -/
def softplus (a : EReal) : EReal := max a 0 + Ideal.log1p (Ideal.exp (-max a (-a)))

theorem softplus_nonneg (a : EReal) : 0 ≤ softplus a :=
  add_nonneg (le_max_right _ _) (log1p_nonneg (exp_nonneg _))

/-- A log decay. -/
def decay (alog a : EReal) : EReal := -Ideal.exp alog * softplus a

theorem decay_ne_top (alog a : EReal) : decay alog a ≠ ⊤ := by
  unfold decay
  rw [EReal.neg_mul]
  intro h
  have h0 : 0 ≤ Ideal.exp alog * softplus a := mul_nonneg (exp_nonneg _) (softplus_nonneg _)
  rw [EReal.neg_eq_top_iff] at h
  rw [h] at h0
  exact absurd h0 (by simp)

/-! ## Three parts -/

/-- A number that is not plus infinity is the sum of the three parts taken off it in turn; times one or zero. -/
theorem three (g c : EReal) (hg : g ≠ ⊤) (hc : c = 0 ∨ c = 1) : g * c + (g - g) * c + ((g - g) - (g - g)) * c = g * c := by
  rcases hc with rfl | rfl
  · simp
  · simp only [mul_one]
    induction g using EReal.rec with
    | bot => simp
    | coe x => norm_cast; simp
    | top => exact absurd rfl hg

section
variable (g : FVec Ideal S32x256 .f32) (c : FVec Ideal S256x256 .bf16)

/-- The three parts of the rows, one over the other. -/
def parts : FVec Ideal S96x256 .bf16 :=
  concatenate S96x256 0 [⟨S32x256, truncf .bf16 g bitsLt_bf16_f32⟩,
    ⟨S32x256, truncf .bf16 (subf g (extf .f32 (truncf .bf16 g bitsLt_bf16_f32) bitsLt_bf16_f32)) bitsLt_bf16_f32⟩,
    ⟨S32x256, truncf .bf16 (subf (subf g (extf .f32 (truncf .bf16 g bitsLt_bf16_f32) bitsLt_bf16_f32))
      (extf .f32 (truncf .bf16 (subf g (extf .f32 (truncf .bf16 g bitsLt_bf16_f32) bitsLt_bf16_f32)) bitsLt_bf16_f32) bitsLt_bf16_f32)) bitsLt_bf16_f32⟩]
    concatenates_S32x256_S32x256_S32x256_S96x256_d0

def prod : FVec Ideal S96x256 .f32 :=
  matmul dot_S96x256_S256x256_S96x256_1_0_0_1_n_n none (parts g) (shapeCast S256x256 c shapeCasts_S256x256_S256x256) (constant S96x256 .f32 0x00000000#32)

/-- The parts' products with the matrix, added. -/
def sums : FVec Ideal S32x256 .f32 :=
  addf (addf (extractStridedSlice S32x256 ![0, 0] (prod g c) slices_S96x256_o0_0_S32x256)
    (extractStridedSlice S32x256 ![32, 0] (prod g c) slices_S96x256_o32_0_S32x256))
    (extractStridedSlice S32x256 ![64, 0] (prod g c) slices_S96x256_o64_0_S32x256)

theorem prod_apply (q : Fin 96) (t : Fin 256) : prod g c (ix2 q t) = ∑ u : Fin 256, parts g (ix2 q u) * c (ix2 u t) := by
  unfold prod
  generalize parts g = p
  pointwise []

theorem parts0 (r : Fin 32) (u : Fin 256) (q : Fin 96) (hq : q.val = r.val) : parts g (ix2 q u) = g (ix2 r u) := by
  unfold parts
  refine concatenate_apply_piece (t := S96x256) 0 _ _ (ix2 q u) 0 ?_ S32x256 _ ?_ rfl 0 ?_ (ix2 r u) (fun b hb => ?_) ?_
  · show 0 < 3; decide
  · rfl
  · rfl
  · match b with
    | ⟨0, _⟩ => exact absurd rfl hb
    | ⟨1, _⟩ => rfl
  · show 0 + r.val = q.val; omega
theorem parts1 (r : Fin 32) (u : Fin 256) (q : Fin 96) (hq : q.val = 32 + r.val) : parts g (ix2 q u) = g (ix2 r u) - g (ix2 r u) := by
  unfold parts
  refine concatenate_apply_piece (t := S96x256) 0 _ _ (ix2 q u) 1 ?_ S32x256 (fun i => g i - g i) ?_ rfl 32 ?_ (ix2 r u) (fun b hb => ?_) ?_
  · show 1 < 3; decide
  · rfl
  · rfl
  · match b with
    | ⟨0, _⟩ => exact absurd rfl hb
    | ⟨1, _⟩ => rfl
  · show 32 + r.val = q.val; omega
theorem parts2 (r : Fin 32) (u : Fin 256) (q : Fin 96) (hq : q.val = 64 + r.val) :
    parts g (ix2 q u) = (g (ix2 r u) - g (ix2 r u)) - (g (ix2 r u) - g (ix2 r u)) := by
  unfold parts
  refine concatenate_apply_piece (t := S96x256) 0 _ _ (ix2 q u) 2 ?_ S32x256 (fun i => (g i - g i) - (g i - g i)) ?_ rfl 64 ?_ (ix2 r u) (fun b hb => ?_) ?_
  · show 2 < 3; decide
  · rfl
  · rfl
  · match b with
    | ⟨0, _⟩ => exact absurd rfl hb
    | ⟨1, _⟩ => rfl
  · show 64 + r.val = q.val; omega

theorem sums_apply (r : Fin 32) (t : Fin 256) (hg : ∀ u, g (ix2 r u) ≠ ⊤) (hc : ∀ u t, c (ix2 u t) = 0 ∨ c (ix2 u t) = 1) :
    sums g c (ix2 r t) = ∑ u : Fin 256, g (ix2 r u) * c (ix2 u t) := by
  have hr := r.isLt
  have e : ∀ (o : ℕ) (ho : o ≤ 64) (sl : S96x256.Slices ![o, 0] S32x256), extractStridedSlice S32x256 ![o, 0] (prod g c) sl (ix2 r t)
      = prod g c (ix2 (⟨o + r.val, by omega⟩ : Fin 96) t) := by
    intro o ho sl
    refine congrArg (prod g c) (funext fun a => Fin.ext ?_)
    match a with
    | ⟨0, _⟩ => rfl
    | ⟨1, _⟩ => show 0 + t.val = t.val; omega
  refine Eq.trans (congrArg₂ (· + ·) (congrArg₂ (· + ·) (e 0 (by omega) _) (e 32 (by omega) _)) (e 64 (by omega) _)) ?_
  rw [prod_apply, prod_apply, prod_apply, ← Finset.sum_add_distrib, ← Finset.sum_add_distrib]
  refine Finset.sum_congr rfl fun u _ => ?_
  rw [parts0 g r u _ (by show 0 + r.val = _; omega), parts1 g r u _ rfl, parts2 g r u _ rfl]
  exact three _ _ (hg u) (hc u t)
end

/-! ## The gates -/

section
variable (h : FVec Ideal S256x1024 .bf16) (wg : FVec Ideal S32x1024 .bf16) (dtb alog : FVec Ideal S32x1 .f32) (cf cb : FVec Ideal S256x256 .bf16)

/-- The gates' rows as stored. -/
def gates : FVec Ideal S32x256 .f32 :=
  k0_pay11 (F := Ideal) k0_pay7 (k0_pay8 (F := Ideal) h wg) (k0_pay9 (F := Ideal) h wg dtb) (k0_pay10 (F := Ideal) alog) cf cb

/-- The log decay of a row at a token. -/
def dec (r : Fin 32) (t : Fin 256) : EReal := decay (alog (ix2 r 0)) ((∑ k, wg (ix2 r k) * h (ix2 t k)) + dtb (ix2 r 0))

theorem kind_apply (r : Fin 32) (t : Fin 256) : k0_pay7 (ix2 r t) = BitVec.ofNat 32 (r.val % 8) := by
  have e : k0_pay7 (ix2 r t) = k0_pay7 (ix2 r 0) := rfl
  rw [e]
  exact (by decide +kernel : ∀ r : Fin 32, k0_pay7 (ix2 r 0) = BitVec.ofNat 32 (r.val % 8)) r

theorem sel {α : Type} {s : Shape} (c : IVec s 1) (a b : s.Idx → α) (i : s.Idx) : select c a b i = Scalar.select (c i) (a i) (b i) := rfl

/-- The rows whose running sums are taken: those of the decays. -/
def decs : FVec Ideal S32x256 .f32 :=
  select (cmpi .sge k0_pay7 (broadcast S32x256 2#32))
    (mulf (broadcastTo S32x256 (k0_pay10 (F := Ideal) alog) broadcasts_S32x1_S32x256) (k0_pay9 (F := Ideal) h wg dtb))
    (broadcast S32x256 (Scalar.ofBits .f32 0x00000000#32))

theorem gates_eq : gates h wg dtb alog cf cb = select (cmpi .slt k0_pay7 (broadcast S32x256 2#32)) (k0_pay8 (F := Ideal) h wg)
    (select (cmpi .eq k0_pay7 (broadcast S32x256 2#32)) (sums (decs h wg dtb alog) cf)
      (select (cmpi .eq k0_pay7 (broadcast S32x256 3#32)) (sums (decs h wg dtb alog) cb) (broadcast S32x256 (Scalar.ofBits .f32 0x00000000#32)))) := rfl

theorem beta_apply (r : Fin 32) (t : Fin 256) : k0_pay8 (F := Ideal) h wg (ix2 r t) = Ideal.logistic (∑ k, wg (ix2 r k) * h (ix2 t k)) := by
  have e : k0_pay6 (F := Ideal) h wg (ix2 r t) = ∑ k, wg (ix2 r k) * h (ix2 t k) := by
    pointwise [k0_pay6]
  rw [← e]
  unfold k0_pay8 Ideal.logistic
  generalize k0_pay6 (F := Ideal) h wg = x
  show Ideal.div (Ideal.ofBits .f32 0x3F800000#32) (Ideal.ofBits .f32 0x3F800000#32 + Ideal.exp (Ideal.ofBits .f32 0x00000000#32 - x (ix2 r t))) = _
  rw [Ideal.ofBits_one_f32, Ideal.ofBits_zero_f32, zero_sub]

theorem decs_apply (r : Fin 32) (t : Fin 256) (hr : 2 ≤ r.val % 8) : decs h wg dtb alog (ix2 r t) = dec h wg dtb alog r t := by
  have e : k0_pay6 (F := Ideal) h wg (ix2 r t) = ∑ k, wg (ix2 r k) * h (ix2 t k) := by
    pointwise [k0_pay6]
  have hk : cmpi .sge k0_pay7 (broadcast S32x256 2#32) (ix2 r t) = 1#1 := by
    show IntOp.cmpi .sge (k0_pay7 (ix2 r t)) 2#32 = 1#1
    rw [kind_apply]
    exact (by decide +kernel : ∀ r : Fin 32, 2 ≤ r.val % 8 → IntOp.cmpi .sge (BitVec.ofNat 32 (r.val % 8)) 2#32 = 1#1) r hr
  have hs : k0_pay9 (F := Ideal) h wg dtb (ix2 r t) = softplus ((∑ k, wg (ix2 r k) * h (ix2 t k)) + dtb (ix2 r 0)) := by
    rw [← e]
    unfold k0_pay9 softplus
    generalize k0_pay6 (F := Ideal) h wg = x
    show max (x (ix2 r t) + broadcastTo S32x256 (shapeCast S32x1 dtb shapeCasts_S32x1_S32x1) broadcasts_S32x1_S32x256 (ix2 r t)) (Ideal.ofBits .f32 0x00000000#32) + Ideal.log1p (Ideal.exp (Ideal.ofBits .f32 0x00000000#32
      - max (x (ix2 r t) + broadcastTo S32x256 (shapeCast S32x1 dtb shapeCasts_S32x1_S32x1) broadcasts_S32x1_S32x256 (ix2 r t)) (-(x (ix2 r t) + broadcastTo S32x256 (shapeCast S32x1 dtb shapeCasts_S32x1_S32x1) broadcasts_S32x1_S32x256 (ix2 r t))))) = _
    have b : broadcastTo S32x256 (shapeCast S32x1 dtb shapeCasts_S32x1_S32x1) broadcasts_S32x1_S32x256 (ix2 r t) = dtb (ix2 r 0) := by
      pointwise []
    rw [b, Ideal.ofBits_zero_f32, zero_sub]
  unfold decs
  refine (sel _ _ _ _).trans ?_
  rw [hk]
  show (broadcastTo S32x256 (k0_pay10 (F := Ideal) alog) broadcasts_S32x1_S32x256) (ix2 r t) * k0_pay9 (F := Ideal) h wg dtb (ix2 r t) = _
  rw [hs]
  unfold dec decay
  refine congrArg (· * _) (Eq.trans ?_ (zero_sub _))
  pointwise [k0_pay10]

theorem gates_apply (hcf : ∀ u t, cf (ix2 u t) = 0 ∨ cf (ix2 u t) = 1) (hcb : ∀ u t, cb (ix2 u t) = 0 ∨ cb (ix2 u t) = 1)
    (r : Fin 32) (t : Fin 256) : gates h wg dtb alog cf cb (ix2 r t)
      = if r.val % 8 < 2 then Ideal.logistic (∑ k, wg (ix2 r k) * h (ix2 t k))
        else if r.val % 8 = 2 then ∑ u, dec h wg dtb alog r u * cf (ix2 u t)
        else if r.val % 8 = 3 then ∑ u, dec h wg dtb alog r u * cb (ix2 u t) else 0 := by
  have k2 : cmpi .slt k0_pay7 (broadcast S32x256 2#32) (ix2 r t) = if r.val % 8 < 2 then 1#1 else 0#1 := by
    show IntOp.cmpi .slt (k0_pay7 (ix2 r t)) 2#32 = _
    rw [kind_apply]
    exact (by decide +kernel : ∀ r : Fin 32, IntOp.cmpi .slt (BitVec.ofNat 32 (r.val % 8)) 2#32 = if r.val % 8 < 2 then 1#1 else 0#1) r
  have k3 : cmpi .eq k0_pay7 (broadcast S32x256 2#32) (ix2 r t) = if r.val % 8 = 2 then 1#1 else 0#1 := by
    show IntOp.cmpi .eq (k0_pay7 (ix2 r t)) 2#32 = _
    rw [kind_apply]
    exact (by decide +kernel : ∀ r : Fin 32, IntOp.cmpi .eq (BitVec.ofNat 32 (r.val % 8)) 2#32 = if r.val % 8 = 2 then 1#1 else 0#1) r
  have k4 : cmpi .eq k0_pay7 (broadcast S32x256 3#32) (ix2 r t) = if r.val % 8 = 3 then 1#1 else 0#1 := by
    show IntOp.cmpi .eq (k0_pay7 (ix2 r t)) 3#32 = _
    rw [kind_apply]
    exact (by decide +kernel : ∀ r : Fin 32, IntOp.cmpi .eq (BitVec.ofNat 32 (r.val % 8)) 3#32 = if r.val % 8 = 3 then 1#1 else 0#1) r
  rw [gates_eq, sel, sel, sel, k2, k3, k4]
  have s : ∀ c : FVec Ideal S256x256 .bf16, (∀ u t, c (ix2 u t) = 0 ∨ c (ix2 u t) = 1) → 2 ≤ r.val % 8 →
      sums (decs h wg dtb alog) c (ix2 r t) = ∑ u, dec h wg dtb alog r u * c (ix2 u t) := by
    intro c hc hr
    rw [sums_apply _ _ r t (fun u => by rw [decs_apply _ _ _ _ _ _ hr]; exact decay_ne_top _ _) hc]
    exact Finset.sum_congr rfl fun u _ => by rw [decs_apply _ _ _ _ _ _ hr]
  by_cases a : r.val % 8 < 2
  · rw [if_pos a, if_pos a, beta_apply]; rfl
  · rw [if_neg a, if_neg a]
    show Scalar.select _ _ _ = _
    by_cases b : r.val % 8 = 2
    · rw [if_pos b, if_pos b, ← s cf hcf (by omega)]; rfl
    · rw [if_neg b, if_neg b]
      show Scalar.select _ _ _ = _
      by_cases d : r.val % 8 = 3
      · rw [if_pos d, if_pos d, ← s cb hcb (by omega)]; rfl
      · rw [if_neg d, if_neg d]
        exact Ideal.ofBits_zero_f32
end

end Cert.InSum

end
-- ==== Proof.InGate.lean ====
/- The gates block the input projection kernel stores, index by index over the extended reals. -/
module

public import proofs.«01_k».proof.Proof.InValue
public import proofs.«01_k».proof.Proof.InSum

@[expose] public section

set_option maxRecDepth 16384

noncomputable section

namespace Cert.InGate

open Cert.InProjIdeal Cert.InProjIdeal.Gen Cert.InPay Cert.InValue Cert.InSum Idealize.ShloMosaic.View
open Idealize.ShloMosaic Idealize.ShloMosaic.TcCoe Idealize.SL.Sem

variable (x0 : Vec Ideal S1024x1024 .f32) (x1 : Vec Ideal S1x1024 .f32) (x2 : Vec Ideal S1024x1536 .bf16) (x3 : Vec Ideal S1024x512 .bf16)
  (x4 : Vec Ideal S32x1024 .bf16) (x5 : Vec Ideal S1024x512 .bf16) (x6 : Vec Ideal S1024x256 .bf16) (x7 : Vec Ideal S256x1024 .bf16)
  (x8 x9 : Vec Ideal S32x1 .f32) (x10 x11 : Vec Ideal S256x256 .bf16) (x12 x13 : Vec Ideal S1024x128 .f32) (x14 x15 : Vec Ideal S1x128 .f32)

/-- A gate's row of weights against a row of the block, and its log decay. -/
def raw (r : Fin 32) (R : Fin 1024) : EReal := ∑ k, x4 (ix2 r k) * hid x0 x1 R k
def dk (r : Fin 32) (R : Fin 1024) : EReal := decay (x8 (ix2 r 0)) (raw x0 x1 x4 r R + x9 (ix2 r 0))

/-- Row `u` of the run of 256 rows that row `R` is in, and a row's place in its run. -/
def run (R : Fin 1024) (u : Fin 256) : Fin 1024 := ⟨R.val / 256 * 256 + u.val, by have := R.isLt; have := u.isLt; omega⟩
def pl (n : ℕ) : Fin 256 := ⟨n % 256, Nat.mod_lt _ (by decide)⟩

/-- A gate of the block. -/
def gate (y : S32x1024.Idx) : EReal :=
  if (y 0).val % 8 < 2 then Ideal.logistic (raw x0 x1 x4 (y 0) (y 1))
  else if (y 0).val % 8 = 2 then ∑ u, dk x0 x1 x4 x8 x9 (y 0) (run (y 1) u) * x10 (ix2 u (pl (y 1).val))
  else if (y 0).val % 8 = 3 then ∑ u, dk x0 x1 x4 x8 x9 (y 0) (run (y 1) u) * x11 (ix2 u (pl (y 1).val)) else 0

theorem pieceG (h10 : ∀ u t, x10 (ix2 u t) = 0 ∨ x10 (ix2 u t) = 1) (h11 : ∀ u t, x11 (ix2 u t) = 0 ∨ x11 (ix2 u t) = 1)
    (s o : ℕ) (hs : o = 256 * s) (inb : ∀ a, (![o, 0] : Fin 2 → ℕ) a + S256x1024.size a ≤ S1024x1024.size a)
    (ho : ∀ a, (![0, o] : Fin 2 → ℕ) a + S32x256.size a ≤ S32x1024.size a) (x : S32x256.Idx) :
    gates (k0_pay2 (F := Ideal) (rows x0 o inb) (nw x1)) (View.ld (Val := Elt Ideal) x4 r0_8) (View.ld (Val := Elt Ideal) x9 r0_9)
        (View.ld (Val := Elt Ideal) x8 r0_9) (View.ld (Val := Elt Ideal) x10 r0_10) (View.ld (Val := Elt Ideal) x11 r0_10) x
      = gate x0 x1 x4 x8 x9 x10 x11 ((Rect.unit (s := S32x1024) ![0, o] S32x256.size ho).emb x) := by
  have l4 : View.ld (Val := Elt Ideal) x4 r0_8 = x4 := ld_unit_zero (Val := Elt Ideal) (S := S32x1024) (e := .bf16) z2 _ x4
  have l8 : View.ld (Val := Elt Ideal) x8 r0_9 = x8 := ld_unit_zero (Val := Elt Ideal) (S := S32x1) (e := .f32) z2 _ x8
  have l9 : View.ld (Val := Elt Ideal) x9 r0_9 = x9 := ld_unit_zero (Val := Elt Ideal) (S := S32x1) (e := .f32) z2 _ x9
  have l10 : View.ld (Val := Elt Ideal) x10 r0_10 = x10 := ld_unit_zero (Val := Elt Ideal) (S := S256x256) (e := .bf16) z2 _ x10
  have l11 : View.ld (Val := Elt Ideal) x11 r0_10 = x11 := ld_unit_zero (Val := Elt Ideal) (S := S256x256) (e := .bf16) z2 _ x11
  rw [l4, l8, l9, l10, l11]
  have e : x = ix2 (x 0) (x 1) := eq_ix2 x
  have h0 : (x 0).val < 32 := (x 0).isLt
  have h1 : (x 1).val < 256 := (x 1).isLt
  have hb : o + 256 ≤ 1024 := inb 0
  obtain ⟨y, hy⟩ : ∃ y : S32x1024.Idx, y = (Rect.unit (s := S32x1024) ![0, o] S32x256.size ho).emb x := ⟨_, rfl⟩
  have y0 : y 0 = x 0 := by rw [hy]; exact Fin.ext (by show 0 + 1 * (x 0).val = (x 0).val; omega)
  have y1 : (y 1).val = o + (x 1).val := by rw [hy]; show o + 1 * (x 1).val = _; omega
  rw [← hy]
  refine (congrArg (gates _ _ _ _ _ _) e).trans ?_
  refine (gates_apply _ _ _ _ _ _ h10 h11 (x 0) (x 1)).trans ?_
  unfold gate
  rw [y0]
  have hp : pl (y 1).val = x 1 := Fin.ext (by show (y 1).val % 256 = (x 1).val; omega)
  have er : ∀ (t : Fin 256) (R : Fin 1024), R.val = o + t.val →
      ∑ k, x4 (ix2 (x 0) k) * k0_pay2 (F := Ideal) (rows x0 o inb) (nw x1) (ix2 t k) = raw x0 x1 x4 (x 0) R := by
    intro t R hR
    unfold raw
    refine Finset.sum_congr rfl fun k _ => congrArg (x4 _ * ·) ?_
    exact (pay2_apply _ _ t k).trans (congrFun (hid_rows x0 x1 o inb t R hR) k)
  have ed : ∀ u : Fin 256, dec (k0_pay2 (F := Ideal) (rows x0 o inb) (nw x1)) x4 x9 x8 (x 0) u = dk x0 x1 x4 x8 x9 (x 0) (run (y 1) u) := by
    intro u
    unfold dec dk
    rw [er u (run (y 1) u) (by show (y 1).val / 256 * 256 + u.val = o + u.val; omega)]
  rw [hp, er (x 1) (y 1) y1]
  simp only [ed]

theorem block18 (h10 : ∀ u t, x10 (ix2 u t) = 0 ∨ x10 (ix2 u t) = 1) (h11 : ∀ u t, x11 (ix2 u t) = 0 ∨ x11 (ix2 u t) = 1) (y : S32x1024.Idx) :
    out0_18 x0 x1 x2 x3 x4 x5 x6 x7 x8 x9 x10 x11 x12 x13 x14 x15 y = gate x0 x1 x4 x8 x9 x10 x11 y := by
  unfold out0_18
  refine View.canon_apply_of_pieces (Val := Elt Ideal) (e := .f32) (gate x0 x1 x4 x8 x9 x10 x11) _ ?_ y (cover0_18 _ _ _ _ y)
  intro pc hpc
  rcases List.mem_cons.mp hpc with rfl | hpc
  · exact pieceG x0 x1 x4 x8 x9 x10 x11 h10 h11 3 768 rfl inb_S1024x1024_S256x1024_768_0 inb_S32x1024_S32x256_0_768
  rcases List.mem_cons.mp hpc with rfl | hpc
  · exact pieceG x0 x1 x4 x8 x9 x10 x11 h10 h11 2 512 rfl inb_S1024x1024_S256x1024_512_0 inb_S32x1024_S32x256_0_512
  rcases List.mem_cons.mp hpc with rfl | hpc
  · exact pieceG x0 x1 x4 x8 x9 x10 x11 h10 h11 1 256 rfl inb_S1024x1024_S256x1024_256_0 inb_S32x1024_S32x256_0_256
  rcases List.mem_cons.mp hpc with rfl | hpc
  · exact pieceG x0 x1 x4 x8 x9 x10 x11 h10 h11 0 0 rfl inb_S1024x1024_S256x1024_0_0 inb_S32x1024_S32x256_0_0
  nomatch hpc

end Cert.InGate

end
-- ==== Proof.InRes.lean ====
/- What the input projection computes, index by index over the extended reals: the normed rows against the columns of one matrix, the gates
   with their running sums over runs of 128 rows, and the heads turned by their positions. -/
module

public import proofs.«01_k».proof.Proof.InGate

@[expose] public section

set_option maxRecDepth 16384

noncomputable section

namespace Cert.InRes

open Cert.InProjIdeal Cert.InPay Cert.InSum
open Idealize.ShloMosaic

variable (x0 : Vec Ideal S65536x1024 .f32) (x1 : Vec Ideal S1024 .f32) (x2 : Vec Ideal S1024x3088 .f32)
  (x3 x4 x5 x6 : Vec Ideal S4 .f32) (x7 x8 : Vec Ideal S128 .f32) (x9 x10 : Vec Ideal S8192x32 .f32)

/-- A normed row, and its product with a column of the projection. -/
def normed (i : Fin 65536) (k : Fin 1024) : EReal := rms c1024 (fun k => x0 (ix2 i k)) (fun k => x1 (ix1 k)) k
def proj (i : Fin 65536) (c : Fin 3088) : EReal := ∑ k, normed x0 x1 i k * x2 (ix2 k c)

/-- The columns that begin at `o`, and those of head `h` of the heads that begin there. -/
def col {n : ℕ} (o : ℕ) (ho : o + n ≤ 3088) (c : Fin n) : Fin 3088 := ⟨o + c.val, by have := c.isLt; omega⟩
def hcol {n : ℕ} (o : ℕ) (ho : o + 128 * n ≤ 3088) (h : Fin n) (d : Fin 128) : Fin 3088 :=
  ⟨o + (128 * h.val + d.val), by have := h.isLt; have := d.isLt; omega⟩

/-- The rows of group A, of the output gate, and of the transposed values. -/
def qkv (y : S65536x1536.Idx) : EReal := proj x0 x1 x2 (y 0) (col (n := 1536) 0 (by decide) (y 1))
def zed (y : S65536x512.Idx) : EReal := proj x0 x1 x2 (y 0) (col (n := 512) 1536 (by decide) (y 1))
def vt (y : S256x65536.Idx) : EReal := proj x0 x1 x2 (y 1) (col (n := 256) 2832 (by decide) (y 0))

/-- A log decay of row `i` and head `h`, from the columns that begin at `o`. -/
def dec (alog dt : Vec Ideal S4 .f32) (o : ℕ) (ho : o + 4 ≤ 3088) (h : Fin 4) (i : Fin 65536) : EReal :=
  decay (alog (ix1 h)) (proj x0 x1 x2 i (col o ho h) + dt (ix1 h))

/-- Row `j` of the run of 128 rows that row `i` is in. -/
def chunk (i : Fin 65536) (j : Fin 128) : Fin 65536 := ⟨i.val / 128 * 128 + j.val, by have := i.isLt; have := j.isLt; omega⟩

/-- A gate: head `h`, kind `c`. Kinds 0 and 1 are sigmoids, kinds 2 and 3 running sums from the run's start and from its end. -/
def gateAt (h : Fin 4) (c : Fin 8) (i : Fin 65536) : EReal :=
  if c.val = 0 then Ideal.logistic (proj x0 x1 x2 i (col 2048 (by decide) h))
  else if c.val = 1 then Ideal.logistic (proj x0 x1 x2 i (col 2052 (by decide) h))
  else if c.val = 2 then ∑ j : Fin 128, if j.val ≤ i.val % 128 then dec x0 x1 x2 x3 x5 2056 (by decide) h (chunk i j) else 0
  else if c.val = 3 then ∑ j : Fin 128, if i.val % 128 ≤ j.val then dec x0 x1 x2 x4 x6 2060 (by decide) h (chunk i j) else 0
  else 0
def gates (y : S32x65536.Idx) : EReal :=
  gateAt x0 x1 x2 x3 x4 x5 x6 ⟨(y 0).val / 8, by have : (y 0).val < 32 := (y 0).isLt; omega⟩ ⟨(y 0).val % 8, by omega⟩ (y 1)

/-- Place `e` of quarter `p` of a head's 128. -/
def seat (p : Fin 4) (e : Fin 32) : Fin 128 := ⟨32 * p.val + e.val, by have := p.isLt; have := e.isLt; omega⟩

/-- A head `n` turned by the row angles `c`, `s` in its first half and the column angles `c'`, `s'` in its second; the two first halves of the turned pairs
    come first. -/
def turned (n : Fin 128 → EReal) (c s c' s' : Fin 32 → EReal) (p : Fin 4) (e : Fin 32) : EReal :=
  match p with
  | 0 => n (seat 0 e) * c e - n (seat 1 e) * s e
  | 1 => n (seat 2 e) * c' e - n (seat 3 e) * s' e
  | 2 => n (seat 0 e) * s e + n (seat 1 e) * c e
  | 3 => n (seat 2 e) * s' e + n (seat 3 e) * c' e

/-- A cosine and a sine of an angle. -/
def cosOf (x : Vec Ideal S8192x32 .f32) (s : Fin 8192) (e : Fin 32) : EReal := FloatOps.hostUnary (F := Ideal) (φ := .f32) .cos (x (ix2 s e))
def sinOf (x : Vec Ideal S8192x32 .f32) (s : Fin 8192) (e : Fin 32) : EReal := FloatOps.hostUnary (F := Ideal) (φ := .f32) .sin (x (ix2 s e))

/-- A row's position in its batch. -/
def pos (i : Fin 65536) : Fin 8192 := ⟨i.val % 8192, Nat.mod_lt _ (by decide)⟩

/-- A turned head of row `i`, of the heads that begin at column `o`. -/
def head {n : ℕ} (w : Vec Ideal S128 .f32) (o : ℕ) (ho : o + 128 * n ≤ 3088) (i : Fin 65536) (h : Fin n) (p : Fin 4) (e : Fin 32) : EReal :=
  turned (rms c128 (fun d => proj x0 x1 x2 i (hcol o ho h d)) (fun d => w (ix1 d))) (cosOf x9 (pos i)) (sinOf x9 (pos i)) (cosOf x10 (pos i))
    (sinOf x10 (pos i)) p e

/-- The quarter a column is in, and its place there. -/
def quarter (n : ℕ) : Fin 4 := ⟨n % 128 / 32, by omega⟩
def place (n : ℕ) : Fin 32 := ⟨n % 32, Nat.mod_lt _ (by decide)⟩

/-- The queries, over the square root of the head's length and the logarithm of two, and the keys. -/
def queries (y : S65536x512.Idx) : EReal :=
  Ideal.div (Ideal.div (head x0 x1 x2 x9 x10 x7 (n := 4) 2064 (by decide) (y 0) ⟨(y 1).val / 128, by have : (y 1).val < 512 := (y 1).isLt; omega⟩
    (quarter (y 1).val) (place (y 1).val)) (Ideal.sqrt (Ideal.ofBits .f32 0x43000000#32))) (Ideal.log (Ideal.ofBits .f32 0x40000000#32))
def keys (y : S65536x256.Idx) : EReal :=
  head x0 x1 x2 x9 x10 x8 (n := 2) 2576 (by decide) (y 0) ⟨(y 1).val / 128, by have : (y 1).val < 256 := (y 1).isLt; omega⟩
    (quarter (y 1).val) (place (y 1).val)

end Cert.InRes

end
-- ==== Proof.InHost.lean ====
/- What the input projection kernel's host part hands its pallas call, at an index over the extended reals: the norm's weights as a row, the
   columns of the projection by group, the gates' rows, and the two matrices of ones. -/
module

public import proofs.«01_k».proof.Proof.InRes
public import proofs.«01_k».proof.Proof.Gen.InProjIdeal.Value
public import Idealize.ShloMosaic.Lib.Pointwise
public import Idealize.ShloMosaic.Lib.StableHlo.Predicate

@[expose] public section

set_option maxRecDepth 16384

noncomputable section

namespace Cert.InHost

open Cert.InProjIdeal Cert.InProjIdeal.Gen Cert.InRes
open Idealize.ShloMosaic Idealize.ShloMosaic.TcCoe Idealize.SL.Sem Idealize.ShloMosaic.StableHlo

variable (m : (ℓ : Loc nD τ sig) → Buf (Elt Ideal) ℓ) (c : Dev nD)

/-- The norm's weights. -/
theorem v64 (j : Fin 1024) : (V m c main_v64 : Vec Ideal S1x1024 .f32) (ix2 0 j) = m ((c : Thread nD τ).loc main_arg1) (ix1 j) := by
  have row : ∀ w : Vec Ideal S1024 .f32, shapeCast S1x1024 w shapeCasts_S1024_S1x1024 (ix2 0 j) = w (ix1 j) := by intro w; pointwise []
  unfold V
  simp only [hostOps0, hostOps0_1, hostOps0_2, hostOps0_3, hostOps0_4, List.flatten_cons, List.flatten_nil, List.append_nil, List.cons_append, List.nil_append]
  after_results_simp
  exact row _

/-- The columns of group A, of the output gate and of the values. -/
theorem v65 (k : Fin 1024) (j : Fin 1536) : (V m c main_v65 : Vec Ideal S1024x1536 .bf16) (ix2 k j)
    = m ((c : Thread nD τ).loc main_arg2) (ix2 k (col 0 (by decide) j)) := by
  unfold V
  simp only [hostOps0, hostOps0_1, hostOps0_2, hostOps0_3, hostOps0_4, List.flatten_cons, List.flatten_nil, List.append_nil, List.cons_append, List.nil_append]
  after_results_simp
  refine congrArg (m ((c : Thread nD τ).loc main_arg2)) (funext fun a => Fin.ext ?_)
  match a with
  | ⟨0, _⟩ => show 0 + k.val = k.val; omega
  | ⟨1, _⟩ => rfl
theorem v66 (k : Fin 1024) (j : Fin 512) : (V m c main_v66 : Vec Ideal S1024x512 .bf16) (ix2 k j)
    = m ((c : Thread nD τ).loc main_arg2) (ix2 k (col 1536 (by decide) j)) := by
  unfold V
  simp only [hostOps0, hostOps0_1, hostOps0_2, hostOps0_3, hostOps0_4, List.flatten_cons, List.flatten_nil, List.append_nil, List.cons_append, List.nil_append]
  after_results_simp
  refine congrArg (m ((c : Thread nD τ).loc main_arg2)) (funext fun a => Fin.ext ?_)
  match a with
  | ⟨0, _⟩ => show 0 + k.val = k.val; omega
  | ⟨1, _⟩ => rfl
theorem v85 (j : Fin 256) (k : Fin 1024) : (V m c main_v85 : Vec Ideal S256x1024 .bf16) (ix2 j k)
    = m ((c : Thread nD τ).loc main_arg2) (ix2 k (col 2832 (by decide) j)) := by
  unfold V
  simp only [hostOps0, hostOps0_1, hostOps0_2, hostOps0_3, hostOps0_4, List.flatten_cons, List.flatten_nil, List.append_nil, List.cons_append, List.nil_append]
  after_results_simp
  refine congrArg (m ((c : Thread nD τ).loc main_arg2)) (funext fun a => Fin.ext ?_)
  match a with
  | ⟨0, _⟩ => show 0 + k.val = k.val; omega
  | ⟨1, _⟩ => rfl

/-! ## The matrices of ones -/

/-- The quotient by 128 of a row's and of a column's number, rounded down as the host writes it. -/
theorem floor0 : ∀ u : Fin 256, (select (andi (cmpi .ne (signi (broadcastInDim S256x1 ![0] bcast_S256_S256x1_0 (iotaInDim S256 32 0))) (broadcastInDim S256x1 ![] bcast_S_S256x1 (signi (id (constantI S_ 32 128#32)))))
      (cmpi .ne (Host.remsi (broadcastInDim S256x1 ![0] bcast_S256_S256x1_0 (iotaInDim S256 32 0)) (broadcastInDim S256x1 ![] bcast_S_S256x1 (id (constantI S_ 32 128#32)))) (broadcastInDim S256x1 ![] bcast_S_S256x1 (constantI S_ 32 0#32))))
    (subi (Host.divsi (broadcastInDim S256x1 ![0] bcast_S256_S256x1_0 (iotaInDim S256 32 0)) (broadcastInDim S256x1 ![] bcast_S_S256x1 (id (constantI S_ 32 128#32)))) (broadcastInDim S256x1 ![] bcast_S_S256x1 (constantI S_ 32 1#32)))
    (Host.divsi (broadcastInDim S256x1 ![0] bcast_S256_S256x1_0 (iotaInDim S256 32 0)) (broadcastInDim S256x1 ![] bcast_S_S256x1 (id (constantI S_ 32 128#32)))) : IVec S256x1 32) (ix2 u 0) = BitVec.ofNat 32 (u.val / 128) := by
  decide +kernel
theorem floor1 : ∀ u : Fin 256, (select (andi (cmpi .ne (signi (broadcastInDim S1x256 ![1] bcast_S256_S1x256_1 (iotaInDim S256 32 0))) (broadcastInDim S1x256 ![] bcast_S_S1x256 (signi (id (constantI S_ 32 128#32)))))
      (cmpi .ne (Host.remsi (broadcastInDim S1x256 ![1] bcast_S256_S1x256_1 (iotaInDim S256 32 0)) (broadcastInDim S1x256 ![] bcast_S_S1x256 (id (constantI S_ 32 128#32)))) (broadcastInDim S1x256 ![] bcast_S_S1x256 (constantI S_ 32 0#32))))
    (subi (Host.divsi (broadcastInDim S1x256 ![1] bcast_S256_S1x256_1 (iotaInDim S256 32 0)) (broadcastInDim S1x256 ![] bcast_S_S1x256 (id (constantI S_ 32 128#32)))) (broadcastInDim S1x256 ![] bcast_S_S1x256 (constantI S_ 32 1#32)))
    (Host.divsi (broadcastInDim S1x256 ![1] bcast_S256_S1x256_1 (iotaInDim S256 32 0)) (broadcastInDim S1x256 ![] bcast_S_S1x256 (id (constantI S_ 32 128#32)))) : IVec S1x256 32) (ix2 0 u) = BitVec.ofNat 32 (u.val / 128) := by
  decide +kernel

theorem v44 (u : Fin 256) : (V m c main_v44 : IVec S256x1 32) (ix2 u 0) = BitVec.ofNat 32 (u.val / 128) := by
  unfold V
  simp only [hostOps0, hostOps0_1, hostOps0_2, hostOps0_3, hostOps0_4, List.flatten_cons, List.flatten_nil, List.append_nil, List.cons_append, List.nil_append]
  simp only [TRef.nullary, TRef.ternary, TRef.unary, TRef.binary, TRef.toBuf, TRef.ofBuf, cast_eq]
  after_results_simp
  exact floor0 u
theorem v46 (u : Fin 256) : (V m c main_v46 : IVec S1x256 32) (ix2 0 u) = BitVec.ofNat 32 (u.val / 128) := by
  unfold V
  simp only [hostOps0, hostOps0_1, hostOps0_2, hostOps0_3, hostOps0_4, List.flatten_cons, List.flatten_nil, List.append_nil, List.cons_append, List.nil_append]
  simp only [TRef.nullary, TRef.ternary, TRef.unary, TRef.binary, TRef.toBuf, TRef.ofBuf, cast_eq]
  after_results_simp
  exact floor1 u

theorem over0 {α : Type} (a : S256x1.Idx → α) (u t : Fin 256) :
    broadcastInDim S256x256 ![0, 1] bcast_S256x1_S256x256_0_1 a (ix2 u t) = a (ix2 u 0) :=
  broadcastInDim_apply _ bcast_S256x1_S256x256_0_1 a (ix2 u t) (ix2 u 0) fun d => match d with
    | ⟨0, _⟩ => rfl
    | ⟨1, _⟩ => rfl
theorem over1 {α : Type} (a : S1x256.Idx → α) (u t : Fin 256) :
    broadcastInDim S256x256 ![0, 1] bcast_S1x256_S256x256_0_1 a (ix2 u t) = a (ix2 0 t) :=
  broadcastInDim_apply _ bcast_S1x256_S256x256_0_1 a (ix2 u t) (ix2 0 t) fun d => match d with
    | ⟨0, _⟩ => rfl
    | ⟨1, _⟩ => rfl
theorem down (u : Fin 256) : broadcastInDim S256x1 ![0] bcast_S256_S256x1_0 (iotaInDim S256 32 0) (ix2 u 0) = BitVec.ofNat 32 u.val := by
  revert u; decide +kernel
theorem right (u : Fin 256) : broadcastInDim S1x256 ![1] bcast_S256_S1x256_1 (iotaInDim S256 32 0) (ix2 0 u) = BitVec.ofNat 32 u.val := by
  revert u; decide +kernel

/-- Two small words are equal when their values are, and in order when theirs are. -/
theorem eq_word (a b : ℕ) (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  refine congrArg BitVec.ofBool (Bool.eq_iff_iff.mpr ?_)
  rw [beq_iff_eq, decide_eq_true_eq]
  refine ⟨fun h => ?_, fun h => by rw [h]⟩
  have := congrArg BitVec.toNat h
  rw [BitVec.toNat_ofNat, BitVec.toNat_ofNat, Nat.mod_eq_of_lt (by omega), Nat.mod_eq_of_lt (by omega)] at this
  exact this
theorem le_word (a b : ℕ) (ha : a < 2 ^ 31) (hb : b < 2 ^ 31) :
    (BitVec.ofNat 32 a).sle (BitVec.ofNat 32 b) = decide (a ≤ b) := by
  rw [BitVec.sle, StableHlo.Predicate.toInt_ofNat_small _ ha, StableHlo.Predicate.toInt_ofNat_small _ hb]
  exact decide_eq_decide.mpr (by omega)

/-- A pair of decided bits, as a number. -/
theorem bit (p q : Prop) [Decidable p] [Decidable q] :
    FloatOps.uitofp (F := Ideal) .bf16 (BitVec.ofBool (decide p) &&& BitVec.ofBool (decide q)) = (if p ∧ q then 1 else 0 : EReal) := by
  have u : ∀ b : BitVec 1, FloatOps.uitofp (F := Ideal) .bf16 b = (((b.toNat : ℕ) : ℝ) : EReal) := fun b => rfl
  rw [u]
  by_cases hp : p <;> by_cases hq : q <;> simp [hp, hq]

/-- The matrices of the running sums: one where the column's run of 128 is the row's and the row is not after it (not before it). -/
theorem v62 (u t : Fin 256) : (V m c main_v62 : Vec Ideal S256x256 .bf16) (ix2 u t)
    = if u.val / 128 = t.val / 128 ∧ u.val ≤ t.val then (1 : EReal) else (0 : EReal) := by
  have hu := u.isLt
  have ht := t.isLt
  have e : V m c main_v62 = uitofp (F := Ideal) .bf16 (andi (cmpi .eq (broadcastInDim S256x256 ![0, 1] bcast_S256x1_S256x256_0_1 (V m c main_v44 : IVec S256x1 32))
      (broadcastInDim S256x256 ![0, 1] bcast_S1x256_S256x256_0_1 (V m c main_v46 : IVec S1x256 32)))
      (cmpi .sle (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0))))) := by
    unfold V
    simp only [hostOps0, hostOps0_1, hostOps0_2, hostOps0_3, hostOps0_4, List.flatten_cons, List.flatten_nil, List.append_nil, List.cons_append, List.nil_append]
    simp only [TRef.nullary, TRef.ternary, TRef.unary, TRef.binary, TRef.toBuf, TRef.ofBuf, cast_eq]
    after_results_simp
  rw [e]
  show FloatOps.uitofp (F := Ideal) .bf16 (IntOp.cmpi .eq (broadcastInDim S256x256 ![0, 1] bcast_S256x1_S256x256_0_1 (V m c main_v44 : IVec S256x1 32) (ix2 u t))
      (broadcastInDim S256x256 ![0, 1] bcast_S1x256_S256x256_0_1 (V m c main_v46 : IVec S1x256 32) (ix2 u t))
    &&& BitVec.ofBool ((broadcastInDim S256x256 ![0, 1] bcast_S256x1_S256x256_0_1 (broadcastInDim S256x1 ![0] bcast_S256_S256x1_0 (iotaInDim S256 32 0)) (ix2 u t)).sle
      (broadcastInDim S256x256 ![0, 1] bcast_S1x256_S256x256_0_1 (broadcastInDim S1x256 ![1] bcast_S256_S1x256_1 (iotaInDim S256 32 0)) (ix2 u t)))) = _
  rw [over0, over1, over0, over1, v44, v46, down, right, eq_word _ _ (by omega) (by omega), le_word _ _ (by omega) (by omega)]
  exact bit _ _
theorem v63 (u t : Fin 256) : (V m c main_v63 : Vec Ideal S256x256 .bf16) (ix2 u t)
    = if u.val / 128 = t.val / 128 ∧ t.val ≤ u.val then (1 : EReal) else (0 : EReal) := by
  have hu := u.isLt
  have ht := t.isLt
  have e : V m c main_v63 = uitofp (F := Ideal) .bf16 (andi (cmpi .eq (broadcastInDim S256x256 ![0, 1] bcast_S256x1_S256x256_0_1 (V m c main_v44 : IVec S256x1 32))
      (broadcastInDim S256x256 ![0, 1] bcast_S1x256_S256x256_0_1 (V m c main_v46 : IVec S1x256 32)))
      (cmpi .sge (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0))))) := by
    unfold V
    simp only [hostOps0, hostOps0_1, hostOps0_2, hostOps0_3, hostOps0_4, List.flatten_cons, List.flatten_nil, List.append_nil, List.cons_append, List.nil_append]
    simp only [TRef.nullary, TRef.ternary, TRef.unary, TRef.binary, TRef.toBuf, TRef.ofBuf, cast_eq]
    after_results_simp
  rw [e]
  show FloatOps.uitofp (F := Ideal) .bf16 (IntOp.cmpi .eq (broadcastInDim S256x256 ![0, 1] bcast_S256x1_S256x256_0_1 (V m c main_v44 : IVec S256x1 32) (ix2 u t))
      (broadcastInDim S256x256 ![0, 1] bcast_S1x256_S256x256_0_1 (V m c main_v46 : IVec S1x256 32) (ix2 u t))
    &&& BitVec.ofBool ((broadcastInDim S256x256 ![0, 1] bcast_S1x256_S256x256_0_1 (broadcastInDim S1x256 ![1] bcast_S256_S1x256_1 (iotaInDim S256 32 0)) (ix2 u t)).sle
      (broadcastInDim S256x256 ![0, 1] bcast_S256x1_S256x256_0_1 (broadcastInDim S256x1 ![0] bcast_S256_S256x1_0 (iotaInDim S256 32 0)) (ix2 u t)))) = _
  rw [over0, over1, over0, over1, v44, v46, down, right, eq_word _ _ (by omega) (by omega), le_word _ _ (by omega) (by omega)]
  exact bit _ _

end Cert.InHost

end
-- ==== Proof.InHostHead.lean ====
/- What the input projection kernel's host part hands its pallas call, at an index over the extended reals, concluded: the heads' columns and
   weights in the kernel's order, the middle two quarters of a head exchanged. -/
module

public import proofs.«01_k».proof.Proof.InHost
public import Idealize.ShloMosaic.Lib.Routing.OpsSet
public import Idealize.ShloMosaic.Lib.ValueIdxCore

@[expose] public section

set_option maxRecDepth 16384

noncomputable section

namespace Cert.InHostHead

open Cert.InProjIdeal Cert.InProjIdeal.Gen Cert.InRes
open Idealize.ShloMosaic Idealize.ShloMosaic.TcCoe Idealize.SL.Sem Idealize.ShloMosaic.StableHlo

variable (m : (ℓ : Loc nD τ sig) → Buf (Elt Ideal) ℓ) (c : Dev nD)

/-- Where a place of a head comes from. -/
def home (d : Fin 128) : Fin 128 := ⟨d.val / 32 % 2 * 64 + d.val / 64 * 32 + d.val % 32, by have := d.isLt; omega⟩

/-- The host's order of places. -/
abbrev order : IVec S128x1 32 := broadcastInDim S128x1 ![0] bcast_S128_S128x1_0 (select (constantI S128 1 0#1)
  (addi (fun i => lit0 (S128.rowMajor i)) (broadcastInDim S128 ![] bcast_S_S128 (constantI S_ 32 128#32))) fun i => lit0 (S128.rowMajor i))

theorem order_apply : ∀ d : Fin 128, order (ix2 d 0) = BitVec.ofNat 32 (home d).val := by decide +kernel

theorem order_toNat (d : Fin 128) : (order (ix2 d 0)).toInt.toNat = (home d).val := by
  rw [order_apply, StableHlo.Predicate.toInt_ofNat_small _ (by have := (home d).isLt; omega)]
  exact Int.toNat_natCast _

/-- The heads' weights. -/
theorem weights (w : Vec Ideal S128 .f32) (d : Fin 128) :
    shapeCast S1x128 (Host.gather gather_S128_S128x1_S128_n_0_n_n_0_1_1 w order) shapeCasts_S128_S1x128 (ix2 0 d) = w (ix1 (home d)) := by
  have e : ∀ y : Vec Ideal S128 .f32, shapeCast S1x128 y shapeCasts_S128_S1x128 (ix2 0 d) = y (ix1 d) := by intro y; pointwise []
  rw [e]
  exact Routing.gather_take1 (N := 128) (n := 128) gather_S128_S128x1_S128_n_0_n_n_0_1_1 rfl rfl rfl rfl w order d (home d) (order_apply d) (by decide)

theorem v99 (d : Fin 128) : (V m c main_v99 : Vec Ideal S1x128 .f32) (ix2 0 d) = m ((c : Thread nD τ).loc main_arg7) (ix1 (home d)) := by
  unfold V
  simp only [hostOps0, hostOps0_1, hostOps0_2, hostOps0_3, hostOps0_4, List.flatten_cons, List.flatten_nil, List.append_nil, List.cons_append, List.nil_append]
  after_results_simp
  exact weights _ d
theorem v105 (d : Fin 128) : (V m c main_v105 : Vec Ideal S1x128 .f32) (ix2 0 d) = m ((c : Thread nD τ).loc main_arg8) (ix1 (home d)) := by
  unfold V
  simp only [hostOps0, hostOps0_1, hostOps0_2, hostOps0_3, hostOps0_4, List.flatten_cons, List.flatten_nil, List.append_nil, List.cons_append, List.nil_append]
  after_results_simp
  exact weights _ d

/-- The gather along the last axis, of `H` heads. -/
abbrev lastDims (H : ℕ) (wf : GatherDims.WF ⟨3, ![1024, H, 128]⟩ S128x1 ⟨3, ![1024, H, 128]⟩ [0, 1] [2] [] [2] [] 1 ![1024, H, 1]) :
    GatherDims ⟨3, ![1024, H, 128]⟩ S128x1 ⟨3, ![1024, H, 128]⟩ where
  offsetDims := [0, 1]
  collapsedSliceDims := [2]
  operandBatchingDims := []
  startIndicesBatchingDims := []
  startIndexMap := [2]
  indexVectorDim := 1
  sliceSizes := ![1024, H, 1]
  wf := wf

theorem take (H : ℕ) (wf) (x : (⟨3, ![1024, H, 128]⟩ : Shape).Idx → EReal) (k : Fin 1024) (h : Fin H) (d : Fin 128) :
    Host.gather (lastDims H wf) x order (ix3 k h d) = x (ix3 k h (home d)) := by
  unfold Host.gather
  refine congrArg x (funext fun a => Fin.ext ?_)
  show (lastDims H wf).start (ix3 k h d) order a + (lastDims H wf).batchCoord (ix3 k h d) a + (lastDims H wf).offCoord (ix3 k h d) a = _
  rw [GatherDims.batchCoord_eq_zero _ _ _ List.not_mem_nil]
  match a with
  | 0 =>
    show _ + 0 + k.val = k.val
    unfold GatherDims.start
    rw [dif_neg (show (0 : Fin 3) ∉ ([2] : List (Fin 3)) by decide)]
    omega
  | 1 =>
    show _ + 0 + h.val = h.val
    unfold GatherDims.start
    rw [dif_neg (show (1 : Fin 3) ∉ ([2] : List (Fin 3)) by decide)]
    omega
  | 2 =>
    rw [GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims H wf).startIndexMap from List.mem_singleton.mpr rfl)]
    have hsi : (lastDims H wf).siIdx (ix3 k h d) ⟨List.idxOf (2 : Fin 3) (lastDims H wf).startIndexMap,
        List.idxOf_lt_length_iff.2 (List.mem_singleton.mpr rfl)⟩ = ix2 d 0 := by
      funext b; refine Fin.ext ?_
      match b with
      | ⟨0, _⟩ => rfl
      | ⟨1, _⟩ => rfl
    rw [hsi, order_toNat]
    have := (home d).isLt
    show min (home d).val 127 = (home d).val
    omega

/-- Narrowing leaves an entry as it is. -/
theorem narrowed {S : Shape} (x : S.Idx → EReal) (hb) (i : S.Idx) : truncf (F := Ideal) (φ := .f32) .bf16 x hb i = x i := rfl

/-- The heads' columns. -/
theorem v75 (k : Fin 1024) (h : Fin 4) (d : Fin 128) (j : Fin 512) (hj : j.val = 128 * h.val + d.val) :
    (V m c main_v75 : Vec Ideal S1024x512 .bf16) (ix2 k j)
      = m ((c : Thread nD τ).loc main_arg2) (ix2 k (hcol (n := 4) 2064 (by decide) h (home d))) := by
  unfold V
  simp only [hostOps0, hostOps0_1, hostOps0_2, hostOps0_3, hostOps0_4, List.flatten_cons, List.flatten_nil, List.append_nil, List.cons_append, List.nil_append]
  after_results_simp
  refine (narrowed _ _ _).trans ?_
  refine (shapeCast_apply _ shapeCasts_S1024x4x128_S1024x512 (ix2 k j) (ix3 k h d) ?_).trans ?_
  · rw [Shape.rowMajor_val_three, Shape.rowMajor_val_two]
    show (k.val * 4 + h.val) * 128 + d.val = k.val * 512 + j.val
    omega
  refine (take 4 _ _ k h d).trans ?_
  refine (shapeCast_apply _ shapeCasts_S1024x512_S1024x4x128 (ix3 k h (home d)) (ix2 k (⟨128 * h.val + (home d).val, by have := h.isLt; have := (home d).isLt; omega⟩ : Fin 512)) ?_).trans ?_
  · rw [Shape.rowMajor_val_three, Shape.rowMajor_val_two]
    show k.val * 512 + (128 * h.val + (home d).val) = (k.val * 4 + h.val) * 128 + (home d).val
    omega
  refine congrArg (m ((c : Thread nD τ).loc main_arg2)) (funext fun a => Fin.ext ?_)
  match a with
  | ⟨0, _⟩ => show 0 + k.val = k.val; omega
  | ⟨1, _⟩ => rfl
theorem v83 (k : Fin 1024) (h : Fin 2) (d : Fin 128) (j : Fin 256) (hj : j.val = 128 * h.val + d.val) :
    (V m c main_v83 : Vec Ideal S1024x256 .bf16) (ix2 k j)
      = m ((c : Thread nD τ).loc main_arg2) (ix2 k (hcol (n := 2) 2576 (by decide) h (home d))) := by
  unfold V
  simp only [hostOps0, hostOps0_1, hostOps0_2, hostOps0_3, hostOps0_4, List.flatten_cons, List.flatten_nil, List.append_nil, List.cons_append, List.nil_append]
  after_results_simp
  refine (narrowed _ _ _).trans ?_
  refine (shapeCast_apply _ shapeCasts_S1024x2x128_S1024x256 (ix2 k j) (ix3 k h d) ?_).trans ?_
  · rw [Shape.rowMajor_val_three, Shape.rowMajor_val_two]
    show (k.val * 2 + h.val) * 128 + d.val = k.val * 256 + j.val
    omega
  refine (take 2 _ _ k h d).trans ?_
  refine (shapeCast_apply _ shapeCasts_S1024x256_S1024x2x128 (ix3 k h (home d)) (ix2 k (⟨128 * h.val + (home d).val, by have := h.isLt; have := (home d).isLt; omega⟩ : Fin 256)) ?_).trans ?_
  · rw [Shape.rowMajor_val_three, Shape.rowMajor_val_two]
    show k.val * 256 + (128 * h.val + (home d).val) = (k.val * 2 + h.val) * 128 + (home d).val
    omega
  refine congrArg (m ((c : Thread nD τ).loc main_arg2)) (funext fun a => Fin.ext ?_)
  match a with
  | ⟨0, _⟩ => show 0 + k.val = k.val; omega
  | ⟨1, _⟩ => rfl

end Cert.InHostHead

end
-- ==== Proof.InTurn.lean ====
/- Two ways to turn a head: with the halves of its pairs apart, over reordered places, and pair by pair. And the two ways to sum over a run of 128 rows. -/
module

public import proofs.«01_k».proof.Proof.InRes
public import proofs.«01_k».proof.Proof.InHostHead

@[expose] public section

set_option maxRecDepth 16384

noncomputable section

namespace Cert.InTurn

open Cert.InProjIdeal Cert.InPay Cert.InRes
open Cert.InHostHead (home)
open Idealize.ShloMosaic

/-! ## Turned heads -/

theorem home_home : ∀ d : Fin 128, home (home d) = d := by decide +kernel
theorem home_sum (f : Fin 128 → EReal) : ∑ d, f (home d) = ∑ d, f d :=
  Equiv.sum_comp (⟨home, home, home_home, home_home⟩ : Fin 128 ≃ Fin 128) f

/-- A norm does not see the order of places. -/
theorem rms_home (y w : Fin 128 → EReal) (d : Fin 128) : rms c128 (fun d => y (home d)) (fun d => w (home d)) d = rms c128 y w (home d) := by
  unfold rms
  rw [home_sum fun k => y k * y k]

theorem home_seat0 : ∀ e : Fin 32, home (seat 0 e) = seat 0 e := by decide +kernel
theorem home_seat1 : ∀ e : Fin 32, home (seat 1 e) = seat 2 e := by decide +kernel
theorem home_seat2 : ∀ e : Fin 32, home (seat 2 e) = seat 1 e := by decide +kernel
theorem home_seat3 : ∀ e : Fin 32, home (seat 3 e) = seat 3 e := by decide +kernel
theorem across_seat0 : ∀ e : Fin 32, across (seat 0 e) = seat 2 e := by decide +kernel
theorem across_seat1 : ∀ e : Fin 32, across (seat 1 e) = seat 3 e := by decide +kernel
theorem across_seat2 : ∀ e : Fin 32, across (seat 2 e) = seat 0 e := by decide +kernel
theorem across_seat3 : ∀ e : Fin 32, across (seat 3 e) = seat 1 e := by decide +kernel

/-- A head over the reordered places, against cosines laid out in quarters and sines with the first two quarters' signs turned. -/
theorem turn (y w C S : Fin 128 → EReal) (c s c' s' : Fin 32 → EReal) (p : Fin 4) (e : Fin 32)
    (C0 : C (seat 0 e) = c e) (C1 : C (seat 1 e) = c' e) (C2 : C (seat 2 e) = c e) (C3 : C (seat 3 e) = c' e)
    (S0 : S (seat 0 e) = -s e) (S1 : S (seat 1 e) = -s' e) (S2 : S (seat 2 e) = s e) (S3 : S (seat 3 e) = s' e) :
    rope (fun d => y (home d)) (fun d => w (home d)) C S (seat p e) = turned (rms c128 y w) c s c' s' p e := by
  unfold rope
  rw [rms_home, rms_home]
  match p with
  | 0 => rw [across_seat0, home_seat0, home_seat2, C0, S0, mul_neg, ← sub_eq_add_neg]; rfl
  | 1 => rw [across_seat1, home_seat1, home_seat3, C1, S1, mul_neg, ← sub_eq_add_neg]; rfl
  | 2 => rw [across_seat2, home_seat2, home_seat0, C2, S2, add_comm]; rfl
  | 3 => rw [across_seat3, home_seat3, home_seat1, C3, S3, add_comm]; rfl

theorem ofBits_128 : Ideal.ofBits .f32 0x43000000#32 = ((128 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num

/-- The named scale is the two quotients. -/
theorem scaled (y : EReal) : y * qscale
    = Ideal.div (Ideal.div y (Ideal.sqrt (Ideal.ofBits .f32 0x43000000#32))) (Ideal.log (Ideal.ofBits .f32 0x40000000#32)) := by
  have q : qscale = (((Real.sqrt 128)⁻¹ * (Real.log 2)⁻¹ : ℝ) : EReal) := IdealRules.named_const.ideal_named_scalar _ _ _ _ rfl
  rw [q, ofBits_128, ofBits_2, Ideal.sqrt_coe, if_neg (show ¬(128 : ℝ) < 0 by norm_num), Ideal.log_coe, if_neg (show ¬(2 : ℝ) ≤ 0 by norm_num),
    Ideal.div_coe (show Real.sqrt 128 ≠ 0 from (Real.sqrt_pos.mpr (by norm_num)).ne'),
    Ideal.div_coe (show Real.log 2 ≠ 0 from (Real.log_pos (by norm_num)).ne'), one_div, one_div, EReal.coe_mul, mul_assoc]

/-! ## Running sums -/

/-- A sum over 256 rows that a mask keeps inside one half, term by term the half's. -/
theorem cum (F M : Fin 256 → EReal) (G : Fin 128 → EReal) (t : Fin 256)
    (h1 : ∀ (u : Fin 256) (j : Fin 128), u.val = t.val / 128 * 128 + j.val → F u * M u = G j)
    (h0 : ∀ u : Fin 256, u.val / 128 ≠ t.val / 128 → M u = 0) : ∑ u, F u * M u = ∑ j, G j := by
  have ht := t.isLt
  rw [Fin.sum_univ_add (a := 128) (b := 128) fun u => F u * M u]
  by_cases h : t.val < 128
  · have z : ∑ j : Fin 128, F (Fin.natAdd 128 j) * M (Fin.natAdd 128 j) = 0 := Finset.sum_eq_zero fun j _ => by
      rw [h0 _ (by show (128 + j.val) / 128 ≠ _; have := j.isLt; omega), mul_zero]
    rw [z, add_zero]
    exact Finset.sum_congr rfl fun j _ => h1 _ j (by show j.val = _; omega)
  · have z : ∑ j : Fin 128, F (Fin.castAdd 128 j) * M (Fin.castAdd 128 j) = 0 := Finset.sum_eq_zero fun j _ => by
      rw [h0 _ (by show j.val / 128 ≠ _; have := j.isLt; omega), mul_zero]
    rw [z, zero_add]
    exact Finset.sum_congr rfl fun j _ => h1 _ j (by show 128 + j.val = _; omega)

end Cert.InTurn

end
-- ==== Proof.InHostCat.lean ====
/- What the input projection kernel's host part hands its pallas call, at an index over the extended reals, continued: the stacked rows of the
   gates' weights and biases, and the cosines and sines side by side. -/
module

public import proofs.«01_k».proof.Proof.InHost

@[expose] public section

set_option maxRecDepth 16384

noncomputable section

namespace Cert.InHostCat

open Cert.InProjIdeal Cert.InProjIdeal.Gen Cert.InRes
open Idealize.ShloMosaic Idealize.ShloMosaic.TcCoe Idealize.SL.Sem Idealize.ShloMosaic.StableHlo

variable (m : (ℓ : Loc nD τ sig) → Buf (Elt Ideal) ℓ) (c : Dev nD)

/-- Row `8 h + k`: head `h`, kind `k`. -/
def row (h : Fin 4) (k : Fin 8) : Fin 32 := ⟨8 * h.val + k.val, by have := h.isLt; have := k.isLt; omega⟩

/-- One column for each kind, side by side, read down the rows. -/
theorem column (xs : List ((s : Shape) × (s.Idx → EReal))) (hc : Shape.Concatenates (xs.map (·.1)) S4x8 1) (h : Fin 4) (k : Fin 8) (hk : k.val < xs.length)
    (x : S4x1.Idx → EReal) (hx : xs[k.val] = ⟨S4x1, x⟩)
    (hp : (((xs.take k.val).map (·.1)).map fun s => if h : s.rank = S4x8.rank then s.size ((1 : Fin S4x8.rank).cast h.symm) else 0).sum = k.val) :
    shapeCast S32x1 (concatenate S4x8 1 xs hc) shapeCasts_S4x8_S32x1 (ix2 (row h k) 0) = x (ix2 h 0) := by
  refine (shapeCast_apply _ shapeCasts_S4x8_S32x1 (ix2 (row h k) 0) (ix2 h k) ?_).trans ?_
  · rw [Shape.rowMajor_val_two, Shape.rowMajor_val_two]
    show h.val * 8 + k.val = (8 * h.val + k.val) * 1 + 0
    omega
  · refine concatenate_apply_piece (t := S4x8) 1 xs hc (ix2 h k) k.val hk S4x1 x hx rfl k.val hp (ix2 h 0) (fun b hb => ?_) ?_
    · match b, hb with
      | ⟨0, _⟩, _ => rfl
      | ⟨1, _⟩, hb => exact absurd rfl hb
    · rfl

/-- A vector of four as a column. -/
theorem over (w : Vec Ideal S4 .f32) (h : Fin 4) : broadcastInDim S4x1 ![0] bcast_S4_S4x1_0 w (ix2 h 0) = w (ix1 h) :=
  broadcastInDim_apply _ bcast_S4_S4x1_0 w (ix2 h 0) (ix1 h) fun d => match d with
    | ⟨0, _⟩ => rfl

/-- The gates' decay rates and biases. -/
theorem v31_2 (h : Fin 4) : (V m c main_v31 : Vec Ideal S32x1 .f32) (ix2 (row h 2) 0) = m ((c : Thread nD τ).loc main_arg3) (ix1 h) := by
  unfold V
  simp only [hostOps0, hostOps0_1, hostOps0_2, hostOps0_3, hostOps0_4, List.flatten_cons, List.flatten_nil, List.append_nil, List.cons_append, List.nil_append]
  after_results_simp
  refine (column _ _ h 2 ?_ _ rfl ?_).trans ?_
  · show 2 < 8; decide
  · rfl
  · dsimp only [Matrix.cons_val]
    after_results_simp
    exact over _ h
theorem v31_3 (h : Fin 4) : (V m c main_v31 : Vec Ideal S32x1 .f32) (ix2 (row h 3) 0) = m ((c : Thread nD τ).loc main_arg4) (ix1 h) := by
  unfold V
  simp only [hostOps0, hostOps0_1, hostOps0_2, hostOps0_3, hostOps0_4, List.flatten_cons, List.flatten_nil, List.append_nil, List.cons_append, List.nil_append]
  after_results_simp
  refine (column _ _ h 3 ?_ _ rfl ?_).trans ?_
  · show 3 < 8; decide
  · rfl
  · dsimp only [Matrix.cons_val]
    after_results_simp
    exact over _ h
theorem v41_2 (h : Fin 4) : (V m c main_v41 : Vec Ideal S32x1 .f32) (ix2 (row h 2) 0) = m ((c : Thread nD τ).loc main_arg5) (ix1 h) := by
  unfold V
  simp only [hostOps0, hostOps0_1, hostOps0_2, hostOps0_3, hostOps0_4, List.flatten_cons, List.flatten_nil, List.append_nil, List.cons_append, List.nil_append]
  after_results_simp
  refine (column _ _ h 2 ?_ _ rfl ?_).trans ?_
  · show 2 < 8; decide
  · rfl
  · dsimp only [Matrix.cons_val]
    after_results_simp
    exact over _ h
theorem v41_3 (h : Fin 4) : (V m c main_v41 : Vec Ideal S32x1 .f32) (ix2 (row h 3) 0) = m ((c : Thread nD τ).loc main_arg6) (ix1 h) := by
  unfold V
  simp only [hostOps0, hostOps0_1, hostOps0_2, hostOps0_3, hostOps0_4, List.flatten_cons, List.flatten_nil, List.append_nil, List.cons_append, List.nil_append]
  after_results_simp
  refine (column _ _ h 3 ?_ _ rfl ?_).trans ?_
  · show 3 < 8; decide
  · rfl
  · dsimp only [Matrix.cons_val]
    after_results_simp
    exact over _ h

/-- The kinds' columns of the projection stacked, laid out head by head, and transposed. -/
theorem stacked (xs : List ((s : Shape) × (s.Idx → EReal))) (hc : Shape.Concatenates (xs.map (·.1)) S1024x4x8 2) (h : Fin 4) (k : Fin 8) (r : Fin 1024)
    (hk : k.val < xs.length) (x : S1024x4x1.Idx → EReal) (hx : xs[k.val] = ⟨S1024x4x1, x⟩)
    (hp : (((xs.take k.val).map (·.1)).map fun s => if h : s.rank = S1024x4x8.rank then s.size ((2 : Fin S1024x4x8.rank).cast h.symm) else 0).sum = k.val) :
    transpose S32x1024 [1, 0] (shapeCast S1024x32 (concatenate S1024x4x8 2 xs hc) shapeCasts_S1024x4x8_S1024x32) transposes_S1024x32_S32x1024_1_0
      (ix2 (row h k) r) = x (ix3 r h 0) := by
  have t : ∀ y : S1024x32.Idx → EReal, transpose S32x1024 [1, 0] y transposes_S1024x32_S32x1024_1_0 (ix2 (row h k) r) = y (ix2 r (row h k)) :=
    fun y => congrArg y (funext fun a => match a with
      | ⟨0, _⟩ => rfl
      | ⟨1, _⟩ => rfl)
  rw [t]
  refine (shapeCast_apply _ shapeCasts_S1024x4x8_S1024x32 (ix2 r (row h k)) (ix3 r h k) ?_).trans ?_
  · rw [Shape.rowMajor_val_three, Shape.rowMajor_val_two]
    show (r.val * 4 + h.val) * 8 + k.val = r.val * 32 + (8 * h.val + k.val)
    omega
  · refine concatenate_apply_piece (t := S1024x4x8) 2 xs hc (ix3 r h k) k.val hk S1024x4x1 x hx rfl k.val hp (ix3 r h 0) (fun b hb => ?_) ?_
    · match b, hb with
      | ⟨0, _⟩, _ => rfl
      | ⟨1, _⟩, _ => rfl
      | ⟨2, _⟩, hb => exact absurd rfl hb
    · rfl

/-- Narrowing leaves an entry as it is. -/
theorem narrowed {S : Shape} (x : S.Idx → EReal) (hb) (i : S.Idx) : truncf (F := Ideal) (φ := .f32) .bf16 x hb i = x i := rfl

/-- Four columns of the projection. -/
theorem columns (w : Vec Ideal S1024x3088 .f32) (o : ℕ) (sl : S1024x3088.Slices ![0, o] S1024x4) (ho : o + 4 ≤ 3088) (k : Fin 1024) (h : Fin 4) :
    broadcastInDim S1024x4x1 ![0, 1] bcast_S1024x4_S1024x4x1_0_1 (extractStridedSlice S1024x4 ![0, o] w sl) (ix3 k h 0) = w (ix2 k (col o ho h)) := by
  refine (broadcastInDim_apply _ bcast_S1024x4_S1024x4x1_0_1 _ (ix3 k h 0) (ix2 k h) fun d => match d with
    | ⟨0, _⟩ => rfl
    | ⟨1, _⟩ => rfl).trans ?_
  refine extractStridedSlice_apply ![0, o] w sl (ix2 k h) (ix2 k (col o ho h)) fun a => match a with
    | ⟨0, _⟩ => (Nat.zero_add _).symm
    | ⟨1, _⟩ => rfl

theorem v67_0 (h : Fin 4) (k : Fin 1024) : (V m c main_v67 : Vec Ideal S32x1024 .bf16) (ix2 (row h 0) k)
    = m ((c : Thread nD τ).loc main_arg2) (ix2 k (col 2048 (by decide) h)) := by
  unfold V
  simp only [hostOps0, hostOps0_1, hostOps0_2, hostOps0_3, hostOps0_4, List.flatten_cons, List.flatten_nil, List.append_nil, List.cons_append, List.nil_append]
  after_results_simp
  refine (narrowed _ _ _).trans ?_
  refine (stacked _ _ h 0 k ?_ _ rfl ?_).trans ?_
  · show 0 < 8; decide
  · rfl
  · dsimp only [Matrix.cons_val]
    after_results_simp
    exact columns _ 2048 _ (by decide) k h
theorem v67_1 (h : Fin 4) (k : Fin 1024) : (V m c main_v67 : Vec Ideal S32x1024 .bf16) (ix2 (row h 1) k)
    = m ((c : Thread nD τ).loc main_arg2) (ix2 k (col 2052 (by decide) h)) := by
  unfold V
  simp only [hostOps0, hostOps0_1, hostOps0_2, hostOps0_3, hostOps0_4, List.flatten_cons, List.flatten_nil, List.append_nil, List.cons_append, List.nil_append]
  after_results_simp
  refine (narrowed _ _ _).trans ?_
  refine (stacked _ _ h 1 k ?_ _ rfl ?_).trans ?_
  · show 1 < 8; decide
  · rfl
  · dsimp only [Matrix.cons_val]
    after_results_simp
    exact columns _ 2052 _ (by decide) k h
theorem v67_2 (h : Fin 4) (k : Fin 1024) : (V m c main_v67 : Vec Ideal S32x1024 .bf16) (ix2 (row h 2) k)
    = m ((c : Thread nD τ).loc main_arg2) (ix2 k (col 2056 (by decide) h)) := by
  unfold V
  simp only [hostOps0, hostOps0_1, hostOps0_2, hostOps0_3, hostOps0_4, List.flatten_cons, List.flatten_nil, List.append_nil, List.cons_append, List.nil_append]
  after_results_simp
  refine (narrowed _ _ _).trans ?_
  refine (stacked _ _ h 2 k ?_ _ rfl ?_).trans ?_
  · show 2 < 8; decide
  · rfl
  · dsimp only [Matrix.cons_val]
    after_results_simp
    exact columns _ 2056 _ (by decide) k h
theorem v67_3 (h : Fin 4) (k : Fin 1024) : (V m c main_v67 : Vec Ideal S32x1024 .bf16) (ix2 (row h 3) k)
    = m ((c : Thread nD τ).loc main_arg2) (ix2 k (col 2060 (by decide) h)) := by
  unfold V
  simp only [hostOps0, hostOps0_1, hostOps0_2, hostOps0_3, hostOps0_4, List.flatten_cons, List.flatten_nil, List.append_nil, List.cons_append, List.nil_append]
  after_results_simp
  refine (narrowed _ _ _).trans ?_
  refine (stacked _ _ h 3 k ?_ _ rfl ?_).trans ?_
  · show 3 < 8; decide
  · rfl
  · dsimp only [Matrix.cons_val]
    after_results_simp
    exact columns _ 2060 _ (by decide) k h

/-- Four quarters side by side. -/
theorem beside (xs : List ((s : Shape) × (s.Idx → EReal))) (hc : Shape.Concatenates (xs.map (·.1)) S8192x128 1) (s : Fin 8192) (p : Fin 4) (e : Fin 32)
    (hk : p.val < xs.length) (x : S8192x32.Idx → EReal) (hx : xs[p.val] = ⟨S8192x32, x⟩)
    (hp : (((xs.take p.val).map (·.1)).map fun s => if h : s.rank = S8192x128.rank then s.size ((1 : Fin S8192x128.rank).cast h.symm) else 0).sum = 32 * p.val) :
    concatenate S8192x128 1 xs hc (ix2 s (seat p e)) = x (ix2 s e) := by
  refine concatenate_apply_piece (t := S8192x128) 1 xs hc (ix2 s (seat p e)) p.val hk S8192x32 x hx rfl (32 * p.val) hp (ix2 s e) (fun b hb => ?_) ?_
  · match b, hb with
    | ⟨0, _⟩, _ => rfl
    | ⟨1, _⟩, hb => exact absurd rfl hb
  · rfl

/-- The cosines, and the sines with the first two quarters' signs turned. -/
theorem v90_0 (s : Fin 8192) (e : Fin 32) : (V m c main_v90 : Vec Ideal S8192x128 .f32) (ix2 s (seat 0 e)) = cosOf (m ((c : Thread nD τ).loc main_arg9)) s e := by
  unfold V
  simp only [hostOps0, hostOps0_1, hostOps0_2, hostOps0_3, hostOps0_4, List.flatten_cons, List.flatten_nil, List.append_nil, List.cons_append, List.nil_append]
  after_results_simp
  refine (beside _ _ s 0 e ?_ _ rfl ?_).trans ?_
  · show 0 < 4; decide
  · rfl
  · dsimp only [Matrix.cons_val]
    after_results_simp
    rfl
theorem v90_1 (s : Fin 8192) (e : Fin 32) : (V m c main_v90 : Vec Ideal S8192x128 .f32) (ix2 s (seat 1 e)) = cosOf (m ((c : Thread nD τ).loc main_arg10)) s e := by
  unfold V
  simp only [hostOps0, hostOps0_1, hostOps0_2, hostOps0_3, hostOps0_4, List.flatten_cons, List.flatten_nil, List.append_nil, List.cons_append, List.nil_append]
  after_results_simp
  refine (beside _ _ s 1 e ?_ _ rfl ?_).trans ?_
  · show 1 < 4; decide
  · rfl
  · dsimp only [Matrix.cons_val]
    after_results_simp
    rfl
theorem v90_2 (s : Fin 8192) (e : Fin 32) : (V m c main_v90 : Vec Ideal S8192x128 .f32) (ix2 s (seat 2 e)) = cosOf (m ((c : Thread nD τ).loc main_arg9)) s e := by
  unfold V
  simp only [hostOps0, hostOps0_1, hostOps0_2, hostOps0_3, hostOps0_4, List.flatten_cons, List.flatten_nil, List.append_nil, List.cons_append, List.nil_append]
  after_results_simp
  refine (beside _ _ s 2 e ?_ _ rfl ?_).trans ?_
  · show 2 < 4; decide
  · rfl
  · dsimp only [Matrix.cons_val]
    after_results_simp
    rfl
theorem v90_3 (s : Fin 8192) (e : Fin 32) : (V m c main_v90 : Vec Ideal S8192x128 .f32) (ix2 s (seat 3 e)) = cosOf (m ((c : Thread nD τ).loc main_arg10)) s e := by
  unfold V
  simp only [hostOps0, hostOps0_1, hostOps0_2, hostOps0_3, hostOps0_4, List.flatten_cons, List.flatten_nil, List.append_nil, List.cons_append, List.nil_append]
  after_results_simp
  refine (beside _ _ s 3 e ?_ _ rfl ?_).trans ?_
  · show 3 < 4; decide
  · rfl
  · dsimp only [Matrix.cons_val]
    after_results_simp
    rfl
theorem v93_0 (s : Fin 8192) (e : Fin 32) : (V m c main_v93 : Vec Ideal S8192x128 .f32) (ix2 s (seat 0 e)) = -sinOf (m ((c : Thread nD τ).loc main_arg9)) s e := by
  unfold V
  simp only [hostOps0, hostOps0_1, hostOps0_2, hostOps0_3, hostOps0_4, List.flatten_cons, List.flatten_nil, List.append_nil, List.cons_append, List.nil_append]
  after_results_simp
  refine (beside _ _ s 0 e ?_ _ rfl ?_).trans ?_
  · show 0 < 4; decide
  · rfl
  · dsimp only [Matrix.cons_val]
    after_results_simp
    rfl
theorem v93_1 (s : Fin 8192) (e : Fin 32) : (V m c main_v93 : Vec Ideal S8192x128 .f32) (ix2 s (seat 1 e)) = -sinOf (m ((c : Thread nD τ).loc main_arg10)) s e := by
  unfold V
  simp only [hostOps0, hostOps0_1, hostOps0_2, hostOps0_3, hostOps0_4, List.flatten_cons, List.flatten_nil, List.append_nil, List.cons_append, List.nil_append]
  after_results_simp
  refine (beside _ _ s 1 e ?_ _ rfl ?_).trans ?_
  · show 1 < 4; decide
  · rfl
  · dsimp only [Matrix.cons_val]
    after_results_simp
    rfl
theorem v93_2 (s : Fin 8192) (e : Fin 32) : (V m c main_v93 : Vec Ideal S8192x128 .f32) (ix2 s (seat 2 e)) = sinOf (m ((c : Thread nD τ).loc main_arg9)) s e := by
  unfold V
  simp only [hostOps0, hostOps0_1, hostOps0_2, hostOps0_3, hostOps0_4, List.flatten_cons, List.flatten_nil, List.append_nil, List.cons_append, List.nil_append]
  after_results_simp
  refine (beside _ _ s 2 e ?_ _ rfl ?_).trans ?_
  · show 2 < 4; decide
  · rfl
  · dsimp only [Matrix.cons_val]
    after_results_simp
    rfl
theorem v93_3 (s : Fin 8192) (e : Fin 32) : (V m c main_v93 : Vec Ideal S8192x128 .f32) (ix2 s (seat 3 e)) = sinOf (m ((c : Thread nD τ).loc main_arg10)) s e := by
  unfold V
  simp only [hostOps0, hostOps0_1, hostOps0_2, hostOps0_3, hostOps0_4, List.flatten_cons, List.flatten_nil, List.append_nil, List.cons_append, List.nil_append]
  after_results_simp
  refine (beside _ _ s 3 e ?_ _ rfl ?_).trans ?_
  · show 3 < 4; decide
  · rfl
  · dsimp only [Matrix.cons_val]
    after_results_simp
    rfl

end Cert.InHostCat

end
-- ==== Proof.InBlk.lean ====
/- What each block of the input projection kernel holds, from what the launch was given. -/
module

public import proofs.«01_k».proof.Proof.InTurn
public import proofs.«01_k».proof.Proof.InHost
public import proofs.«01_k».proof.Proof.InHostCat

@[expose] public section

set_option maxRecDepth 16384

noncomputable section

namespace Cert.InBlk

open Cert.InProjIdeal Cert.InProjIdeal.Gen Cert.InRes
open Idealize.ShloMosaic Idealize.ShloMosaic.TcCoe Idealize.SL.Sem

variable (m : (ℓ : Loc nD τ sig) → Buf (Elt Ideal) ℓ)

/-! ## The blocks' places -/

theorem places : ∀ t : Fin cfg0.N, win0_16.index t 0 < 64 ∧ win0_16.index t 1 = 0 ∧ win0_17.index t 0 = win0_16.index t 0 ∧ win0_17.index t 1 = 0
    ∧ win0_18.index t 0 = 0 ∧ win0_18.index t 1 = win0_16.index t 0 ∧ win0_19.index t 0 = win0_16.index t 0 ∧ win0_19.index t 1 = 0
    ∧ win0_20.index t 0 = win0_16.index t 0 ∧ win0_20.index t 1 = 0 ∧ win0_21.index t 0 = 0 ∧ win0_21.index t 1 = win0_16.index t 0 :=
  (by decide +kernel : ∀ t : Fin grid0.N, win0_16.index t 0 < 64 ∧ win0_16.index t 1 = 0 ∧ win0_17.index t 0 = win0_16.index t 0 ∧ win0_17.index t 1 = 0
    ∧ win0_18.index t 0 = 0 ∧ win0_18.index t 1 = win0_16.index t 0 ∧ win0_19.index t 0 = win0_16.index t 0 ∧ win0_19.index t 1 = 0
    ∧ win0_20.index t 0 = win0_16.index t 0 ∧ win0_20.index t 1 = 0 ∧ win0_21.index t 0 = 0 ∧ win0_21.index t 1 = win0_16.index t 0)
theorem inputs : ∀ t : Fin cfg0.N, win0_0.index t 0 = win0_16.index t 0 ∧ win0_0.index t 1 = 0 ∧ win0_12.index t 0 = win0_16.index t 0 % 8 ∧ win0_12.index t 1 = 0
    ∧ win0_13.index t 0 = win0_16.index t 0 % 8 ∧ win0_13.index t 1 = 0 :=
  (by decide +kernel : ∀ t : Fin grid0.N, win0_0.index t 0 = win0_16.index t 0 ∧ win0_0.index t 1 = 0 ∧ win0_12.index t 0 = win0_16.index t 0 % 8 ∧ win0_12.index t 1 = 0
    ∧ win0_13.index t 0 = win0_16.index t 0 % 8 ∧ win0_13.index t 1 = 0)
theorem onto : ∀ b : Fin 64, ∃ t : Fin cfg0.N, win0_16.index t 0 = b.val :=
  (by decide +kernel : ∀ b : Fin 64, ∃ t : Fin grid0.N, win0_16.index t 0 = b.val)

variable (c : Dev nD) (t : Fin cfg0.N)

/-- The row of the arrays that a block's row is. -/
def arow (R : Fin 1024) : Fin 65536 := ⟨win0_16.index t 0 * 1024 + R.val, by have := (places t).1; have := R.isLt; omega⟩

theorem iblk0 (R k : Fin 1024) : (iblk m c 0 t : Vec Ideal S1024x1024 .f32) (ix2 R k) = m ((c : Thread nD τ).loc main_arg0) (ix2 (arow t R) k) := by
  obtain ⟨e0, e1, -⟩ := inputs t
  unfold iblk
  rw [View.read_apply]
  refine (congrFun (V_main_arg0 m c) _).trans (congrArg _ (funext fun a => Fin.ext ?_))
  match a with
  | ⟨0, _⟩ => show win0_0.index t 0 * 1024 + 1 * R.val = win0_16.index t 0 * 1024 + R.val; omega
  | ⟨1, _⟩ => show win0_0.index t 1 * 1024 + 1 * k.val = k.val; omega

/-! ## The blocks that are whole arrays -/

theorem same1 (i : Fin 1) (j : Fin 1024) : (iblk m c 1 t : Vec Ideal S1x1024 .f32) (ix2 i j) = (V m c main_v64 : Vec Ideal S1x1024 .f32) (ix2 i j) := by
  unfold iblk
  rw [View.read_apply]
  refine congrArg (V m c main_v64) (funext fun a => Fin.ext ?_)
  match a with
  | ⟨0, _⟩ => show 0 * 1 + 1 * i.val = i.val; omega
  | ⟨1, _⟩ => show 0 * 1024 + 1 * j.val = j.val; omega
theorem same2 (i : Fin 1024) (j : Fin 1536) : (iblk m c 2 t : Vec Ideal S1024x1536 .bf16) (ix2 i j) = (V m c main_v65 : Vec Ideal S1024x1536 .bf16) (ix2 i j) := by
  unfold iblk
  rw [View.read_apply]
  refine congrArg (V m c main_v65) (funext fun a => Fin.ext ?_)
  match a with
  | ⟨0, _⟩ => show 0 * 1024 + 1 * i.val = i.val; omega
  | ⟨1, _⟩ => show 0 * 1536 + 1 * j.val = j.val; omega
theorem same3 (i : Fin 1024) (j : Fin 512) : (iblk m c 3 t : Vec Ideal S1024x512 .bf16) (ix2 i j) = (V m c main_v66 : Vec Ideal S1024x512 .bf16) (ix2 i j) := by
  unfold iblk
  rw [View.read_apply]
  refine congrArg (V m c main_v66) (funext fun a => Fin.ext ?_)
  match a with
  | ⟨0, _⟩ => show 0 * 1024 + 1 * i.val = i.val; omega
  | ⟨1, _⟩ => show 0 * 512 + 1 * j.val = j.val; omega
theorem same4 (i : Fin 32) (j : Fin 1024) : (iblk m c 4 t : Vec Ideal S32x1024 .bf16) (ix2 i j) = (V m c main_v67 : Vec Ideal S32x1024 .bf16) (ix2 i j) := by
  unfold iblk
  rw [View.read_apply]
  refine congrArg (V m c main_v67) (funext fun a => Fin.ext ?_)
  match a with
  | ⟨0, _⟩ => show 0 * 32 + 1 * i.val = i.val; omega
  | ⟨1, _⟩ => show 0 * 1024 + 1 * j.val = j.val; omega
theorem same5 (i : Fin 1024) (j : Fin 512) : (iblk m c 5 t : Vec Ideal S1024x512 .bf16) (ix2 i j) = (V m c main_v75 : Vec Ideal S1024x512 .bf16) (ix2 i j) := by
  unfold iblk
  rw [View.read_apply]
  refine congrArg (V m c main_v75) (funext fun a => Fin.ext ?_)
  match a with
  | ⟨0, _⟩ => show 0 * 1024 + 1 * i.val = i.val; omega
  | ⟨1, _⟩ => show 0 * 512 + 1 * j.val = j.val; omega
theorem same6 (i : Fin 1024) (j : Fin 256) : (iblk m c 6 t : Vec Ideal S1024x256 .bf16) (ix2 i j) = (V m c main_v83 : Vec Ideal S1024x256 .bf16) (ix2 i j) := by
  unfold iblk
  rw [View.read_apply]
  refine congrArg (V m c main_v83) (funext fun a => Fin.ext ?_)
  match a with
  | ⟨0, _⟩ => show 0 * 1024 + 1 * i.val = i.val; omega
  | ⟨1, _⟩ => show 0 * 256 + 1 * j.val = j.val; omega
theorem same7 (i : Fin 256) (j : Fin 1024) : (iblk m c 7 t : Vec Ideal S256x1024 .bf16) (ix2 i j) = (V m c main_v85 : Vec Ideal S256x1024 .bf16) (ix2 i j) := by
  unfold iblk
  rw [View.read_apply]
  refine congrArg (V m c main_v85) (funext fun a => Fin.ext ?_)
  match a with
  | ⟨0, _⟩ => show 0 * 256 + 1 * i.val = i.val; omega
  | ⟨1, _⟩ => show 0 * 1024 + 1 * j.val = j.val; omega
theorem same8 (i : Fin 32) (j : Fin 1) : (iblk m c 8 t : Vec Ideal S32x1 .f32) (ix2 i j) = (V m c main_v31 : Vec Ideal S32x1 .f32) (ix2 i j) := by
  unfold iblk
  rw [View.read_apply]
  refine congrArg (V m c main_v31) (funext fun a => Fin.ext ?_)
  match a with
  | ⟨0, _⟩ => show 0 * 32 + 1 * i.val = i.val; omega
  | ⟨1, _⟩ => show 0 * 1 + 1 * j.val = j.val; omega
theorem same9 (i : Fin 32) (j : Fin 1) : (iblk m c 9 t : Vec Ideal S32x1 .f32) (ix2 i j) = (V m c main_v41 : Vec Ideal S32x1 .f32) (ix2 i j) := by
  unfold iblk
  rw [View.read_apply]
  refine congrArg (V m c main_v41) (funext fun a => Fin.ext ?_)
  match a with
  | ⟨0, _⟩ => show 0 * 32 + 1 * i.val = i.val; omega
  | ⟨1, _⟩ => show 0 * 1 + 1 * j.val = j.val; omega
theorem same10 (i : Fin 256) (j : Fin 256) : (iblk m c 10 t : Vec Ideal S256x256 .bf16) (ix2 i j) = (V m c main_v62 : Vec Ideal S256x256 .bf16) (ix2 i j) := by
  unfold iblk
  rw [View.read_apply]
  refine congrArg (V m c main_v62) (funext fun a => Fin.ext ?_)
  match a with
  | ⟨0, _⟩ => show 0 * 256 + 1 * i.val = i.val; omega
  | ⟨1, _⟩ => show 0 * 256 + 1 * j.val = j.val; omega
theorem same11 (i : Fin 256) (j : Fin 256) : (iblk m c 11 t : Vec Ideal S256x256 .bf16) (ix2 i j) = (V m c main_v63 : Vec Ideal S256x256 .bf16) (ix2 i j) := by
  unfold iblk
  rw [View.read_apply]
  refine congrArg (V m c main_v63) (funext fun a => Fin.ext ?_)
  match a with
  | ⟨0, _⟩ => show 0 * 256 + 1 * i.val = i.val; omega
  | ⟨1, _⟩ => show 0 * 256 + 1 * j.val = j.val; omega
theorem same14 (i : Fin 1) (j : Fin 128) : (iblk m c 14 t : Vec Ideal S1x128 .f32) (ix2 i j) = (V m c main_v99 : Vec Ideal S1x128 .f32) (ix2 i j) := by
  unfold iblk
  rw [View.read_apply]
  refine congrArg (V m c main_v99) (funext fun a => Fin.ext ?_)
  match a with
  | ⟨0, _⟩ => show 0 * 1 + 1 * i.val = i.val; omega
  | ⟨1, _⟩ => show 0 * 128 + 1 * j.val = j.val; omega
theorem same15 (i : Fin 1) (j : Fin 128) : (iblk m c 15 t : Vec Ideal S1x128 .f32) (ix2 i j) = (V m c main_v105 : Vec Ideal S1x128 .f32) (ix2 i j) := by
  unfold iblk
  rw [View.read_apply]
  refine congrArg (V m c main_v105) (funext fun a => Fin.ext ?_)
  match a with
  | ⟨0, _⟩ => show 0 * 1 + 1 * i.val = i.val; omega
  | ⟨1, _⟩ => show 0 * 128 + 1 * j.val = j.val; omega

/-! ## The blocks of cosines and sines -/

/-- A row of the block has its position's angles. -/
theorem angles12 (R : Fin 1024) (d : Fin 128) : (iblk m c 12 t : Vec Ideal S1024x128 .f32) (ix2 R d)
    = (V m c main_v90 : Vec Ideal S8192x128 .f32) (ix2 (pos (arow t R)) d) := by
  obtain ⟨-, -, e0, e1, e2, e3⟩ := inputs t
  have hR := R.isLt
  unfold iblk
  rw [View.read_apply]
  refine congrArg (V m c main_v90) (funext fun a => Fin.ext ?_)
  match a with
  | ⟨0, _⟩ => show win0_12.index t 0 * 1024 + 1 * R.val = (win0_16.index t 0 * 1024 + R.val) % 8192; omega
  | ⟨1, _⟩ => show win0_12.index t 1 * 128 + 1 * d.val = d.val; omega
theorem angles13 (R : Fin 1024) (d : Fin 128) : (iblk m c 13 t : Vec Ideal S1024x128 .f32) (ix2 R d)
    = (V m c main_v93 : Vec Ideal S8192x128 .f32) (ix2 (pos (arow t R)) d) := by
  obtain ⟨-, -, e0, e1, e2, e3⟩ := inputs t
  have hR := R.isLt
  unfold iblk
  rw [View.read_apply]
  refine congrArg (V m c main_v93) (funext fun a => Fin.ext ?_)
  match a with
  | ⟨0, _⟩ => show win0_13.index t 0 * 1024 + 1 * R.val = (win0_16.index t 0 * 1024 + R.val) % 8192; omega
  | ⟨1, _⟩ => show win0_13.index t 1 * 128 + 1 * d.val = d.val; omega

end Cert.InBlk

end
-- ==== Proof.InTile.lean ====
/- What a point of the input projection kernel computes from its blocks, as entries of the results. -/
module

public import proofs.«01_k».proof.Proof.InBlk
public import proofs.«01_k».proof.Proof.InGate

@[expose] public section

set_option maxRecDepth 16384

noncomputable section

namespace Cert.InTile

open Cert.InProjIdeal Cert.InProjIdeal.Gen Cert.InRes Cert.InBlk
open Idealize.ShloMosaic Idealize.ShloMosaic.TcCoe Idealize.SL.Sem
open Cert.InHostCat (row)
open Cert.InHostHead (home)
open Cert.InPay (rms c128 rope qscale)

section
variable (m : (ℓ : Loc nD τ sig) → Buf (Elt Ideal) ℓ) (c : Dev nD)

/-- What the launch was given. -/
abbrev a0 : Vec Ideal S65536x1024 .f32 := m ((c : Thread nD τ).loc main_arg0)
abbrev a1 : Vec Ideal S1024 .f32 := m ((c : Thread nD τ).loc main_arg1)
abbrev a2 : Vec Ideal S1024x3088 .f32 := m ((c : Thread nD τ).loc main_arg2)
abbrev a3 : Vec Ideal S4 .f32 := m ((c : Thread nD τ).loc main_arg3)
abbrev a4 : Vec Ideal S4 .f32 := m ((c : Thread nD τ).loc main_arg4)
abbrev a5 : Vec Ideal S4 .f32 := m ((c : Thread nD τ).loc main_arg5)
abbrev a6 : Vec Ideal S4 .f32 := m ((c : Thread nD τ).loc main_arg6)
abbrev a7 : Vec Ideal S128 .f32 := m ((c : Thread nD τ).loc main_arg7)
abbrev a8 : Vec Ideal S128 .f32 := m ((c : Thread nD τ).loc main_arg8)
abbrev a9 : Vec Ideal S8192x32 .f32 := m ((c : Thread nD τ).loc main_arg9)
abbrev a10 : Vec Ideal S8192x32 .f32 := m ((c : Thread nD τ).loc main_arg10)

variable (t : Fin cfg0.N)

/-- A row of the block is normed as the array's row, and projected to a column of the first matrices. -/
theorem hidden (R k : Fin 1024) : InValue.hid (iblk m c 0 t) (iblk m c 1 t) R k = normed (a0 m c) (a1 m c) (arow t R) k := by
  unfold InValue.hid normed
  have e : ∀ k : Fin 1024, (iblk m c 1 t : Vec Ideal S1x1024 .f32) (ix2 0 k) = m ((c : Thread nD τ).loc main_arg1) (ix1 k) :=
    fun k => (same1 m c t 0 k).trans (InHost.v64 m c k)
  simp only [iblk0 m c t, e]

theorem tile16 (R : Fin 1024) (j : Fin 1536) : ∑ k, InValue.hid (iblk m c 0 t) (iblk m c 1 t) R k * (iblk m c 2 t : Vec Ideal S1024x1536 .bf16) (ix2 k j)
    = proj (a0 m c) (a1 m c) (a2 m c) (arow t R) (col 0 (by decide) j) :=
  Finset.sum_congr rfl fun k _ => congrArg₂ (· * ·) (hidden m c t R k) ((same2 m c t k j).trans (InHost.v65 m c k j))
theorem tile17 (R : Fin 1024) (j : Fin 512) : ∑ k, InValue.hid (iblk m c 0 t) (iblk m c 1 t) R k * (iblk m c 3 t : Vec Ideal S1024x512 .bf16) (ix2 k j)
    = proj (a0 m c) (a1 m c) (a2 m c) (arow t R) (col 1536 (by decide) j) :=
  Finset.sum_congr rfl fun k _ => congrArg₂ (· * ·) (hidden m c t R k) ((same3 m c t k j).trans (InHost.v66 m c k j))
theorem tile21 (x7 : Vec Ideal S256x1024 .bf16) (h7 : x7 = iblk m c 7 t) (j : Fin 256) (R : Fin 1024) :
    ∑ k, x7 (ix2 j k) * InValue.hid (iblk m c 0 t) (iblk m c 1 t) R k = proj (a0 m c) (a1 m c) (a2 m c) (arow t R) (col 2832 (by decide) j) :=
  Finset.sum_congr rfl fun k _ => (mul_comm _ _).trans
    (congrArg₂ (· * ·) (hidden m c t R k) ((congrFun h7 _).trans ((same7 m c t j k).trans (InHost.v85 m c j k))))

/-! ## Gates -/

theorem raw0 (h : Fin 4) (R : Fin 1024) : InGate.raw (iblk m c 0 t) (iblk m c 1 t) (iblk m c 4 t) (row h 0) R
    = proj (a0 m c) (a1 m c) (a2 m c) (arow t R) (col 2048 (by decide) h) :=
  Finset.sum_congr rfl fun k _ => (mul_comm _ _).trans (congrArg₂ (· * ·) (hidden m c t R k) ((same4 m c t (row h 0) k).trans (InHostCat.v67_0 m c h k)))
theorem raw1 (h : Fin 4) (R : Fin 1024) : InGate.raw (iblk m c 0 t) (iblk m c 1 t) (iblk m c 4 t) (row h 1) R
    = proj (a0 m c) (a1 m c) (a2 m c) (arow t R) (col 2052 (by decide) h) :=
  Finset.sum_congr rfl fun k _ => (mul_comm _ _).trans (congrArg₂ (· * ·) (hidden m c t R k) ((same4 m c t (row h 1) k).trans (InHostCat.v67_1 m c h k)))
theorem raw2 (h : Fin 4) (R : Fin 1024) : InGate.raw (iblk m c 0 t) (iblk m c 1 t) (iblk m c 4 t) (row h 2) R
    = proj (a0 m c) (a1 m c) (a2 m c) (arow t R) (col 2056 (by decide) h) :=
  Finset.sum_congr rfl fun k _ => (mul_comm _ _).trans (congrArg₂ (· * ·) (hidden m c t R k) ((same4 m c t (row h 2) k).trans (InHostCat.v67_2 m c h k)))
theorem raw3 (h : Fin 4) (R : Fin 1024) : InGate.raw (iblk m c 0 t) (iblk m c 1 t) (iblk m c 4 t) (row h 3) R
    = proj (a0 m c) (a1 m c) (a2 m c) (arow t R) (col 2060 (by decide) h) :=
  Finset.sum_congr rfl fun k _ => (mul_comm _ _).trans (congrArg₂ (· * ·) (hidden m c t R k) ((same4 m c t (row h 3) k).trans (InHostCat.v67_3 m c h k)))
theorem dk2 (h : Fin 4) (R : Fin 1024) : InGate.dk (iblk m c 0 t) (iblk m c 1 t) (iblk m c 4 t) (iblk m c 8 t) (iblk m c 9 t) (row h 2) R
    = dec (a0 m c) (a1 m c) (a2 m c) (a3 m c) (a5 m c) 2056 (by decide) h (arow t R) := by
  unfold InGate.dk dec
  rw [raw2 m c t h R]
  exact congrArg₂ (fun x y => InSum.decay x (_ + y)) ((same8 m c t (row h 2) 0).trans (InHostCat.v31_2 m c h)) ((same9 m c t (row h 2) 0).trans (InHostCat.v41_2 m c h))
theorem dk3 (h : Fin 4) (R : Fin 1024) : InGate.dk (iblk m c 0 t) (iblk m c 1 t) (iblk m c 4 t) (iblk m c 8 t) (iblk m c 9 t) (row h 3) R
    = dec (a0 m c) (a1 m c) (a2 m c) (a4 m c) (a6 m c) 2060 (by decide) h (arow t R) := by
  unfold InGate.dk dec
  rw [raw3 m c t h R]
  exact congrArg₂ (fun x y => InSum.decay x (_ + y)) ((same8 m c t (row h 3) 0).trans (InHostCat.v31_3 m c h)) ((same9 m c t (row h 3) 0).trans (InHostCat.v41_3 m c h))
theorem sum2 (h : Fin 4) (R : Fin 1024) :
    ∑ u, InGate.dk (iblk m c 0 t) (iblk m c 1 t) (iblk m c 4 t) (iblk m c 8 t) (iblk m c 9 t) (row h 2) (InGate.run R u)
        * (iblk m c 10 t : Vec Ideal S256x256 .bf16) (ix2 u (InGate.pl R.val))
      = ∑ j : Fin 128, if j.val ≤ (arow t R).val % 128 then dec (a0 m c) (a1 m c) (a2 m c) (a3 m c) (a5 m c) 2056 (by decide) h (chunk (arow t R) j) else 0 := by
  have hR := R.isLt
  have e : ∀ u : Fin 256, (iblk m c 10 t : Vec Ideal S256x256 .bf16) (ix2 u (InGate.pl R.val)) = _ :=
    fun u => (same10 m c t u (InGate.pl R.val)).trans (InHost.v62 m c u (InGate.pl R.val))
  refine InTurn.cum _ _ _ (InGate.pl R.val) (fun u j huj => ?_) (fun u hu => ?_)
  · have huj' : u.val = R.val % 256 / 128 * 128 + j.val := huj
    have hj := j.isLt
    have ha : arow t (InGate.run R u) = chunk (arow t R) j := Fin.ext (by
      show win0_16.index t 0 * 1024 + (R.val / 256 * 256 + u.val) = (win0_16.index t 0 * 1024 + R.val) / 128 * 128 + j.val
      omega)
    rw [e, dk2 m c t h, ha]
    by_cases hp : j.val ≤ (arow t R).val % 128
    · rw [if_pos hp, if_pos, mul_one]
      have hp' : j.val ≤ (win0_16.index t 0 * 1024 + R.val) % 128 := hp
      show u.val / 128 = R.val % 256 / 128 ∧ u.val ≤ R.val % 256
      omega
    · rw [if_neg hp, if_neg, mul_zero]
      have hp' : ¬ j.val ≤ (win0_16.index t 0 * 1024 + R.val) % 128 := hp
      show ¬ (u.val / 128 = R.val % 256 / 128 ∧ u.val ≤ R.val % 256)
      omega
  · rw [e, if_neg fun h => hu h.1]
theorem sum3 (h : Fin 4) (R : Fin 1024) :
    ∑ u, InGate.dk (iblk m c 0 t) (iblk m c 1 t) (iblk m c 4 t) (iblk m c 8 t) (iblk m c 9 t) (row h 3) (InGate.run R u)
        * (iblk m c 11 t : Vec Ideal S256x256 .bf16) (ix2 u (InGate.pl R.val))
      = ∑ j : Fin 128, if (arow t R).val % 128 ≤ j.val then dec (a0 m c) (a1 m c) (a2 m c) (a4 m c) (a6 m c) 2060 (by decide) h (chunk (arow t R) j) else 0 := by
  have hR := R.isLt
  have e : ∀ u : Fin 256, (iblk m c 11 t : Vec Ideal S256x256 .bf16) (ix2 u (InGate.pl R.val)) = _ :=
    fun u => (same11 m c t u (InGate.pl R.val)).trans (InHost.v63 m c u (InGate.pl R.val))
  refine InTurn.cum _ _ _ (InGate.pl R.val) (fun u j huj => ?_) (fun u hu => ?_)
  · have huj' : u.val = R.val % 256 / 128 * 128 + j.val := huj
    have hj := j.isLt
    have ha : arow t (InGate.run R u) = chunk (arow t R) j := Fin.ext (by
      show win0_16.index t 0 * 1024 + (R.val / 256 * 256 + u.val) = (win0_16.index t 0 * 1024 + R.val) / 128 * 128 + j.val
      omega)
    rw [e, dk3 m c t h, ha]
    by_cases hp : (arow t R).val % 128 ≤ j.val
    · rw [if_pos hp, if_pos, mul_one]
      have hp' : (win0_16.index t 0 * 1024 + R.val) % 128 ≤ j.val := hp
      show u.val / 128 = R.val % 256 / 128 ∧ R.val % 256 ≤ u.val
      omega
    · rw [if_neg hp, if_neg, mul_zero]
      have hp' : ¬ (win0_16.index t 0 * 1024 + R.val) % 128 ≤ j.val := hp
      show ¬ (u.val / 128 = R.val % 256 / 128 ∧ R.val % 256 ≤ u.val)
      omega
  · rw [e, if_neg fun h => hu h.1]

/-- A choice by kind, branch by branch. -/
theorem pick (n k : ℕ) (hn : n = k) (a x y b0 b1 x' y' : EReal) (h0 : k = 0 → a = b0) (h1 : k = 1 → a = b1) (h2 : k = 2 → x = x') (h3 : k = 3 → y = y') :
    (if n < 2 then a else if n = 2 then x else if n = 3 then y else 0)
      = if k = 0 then b0 else if k = 1 then b1 else if k = 2 then x' else if k = 3 then y' else 0 := by
  subst hn
  split_ifs <;> first | omega | rfl | (first | exact h0 ‹_› | exact h1 ‹_› | exact h2 ‹_› | exact h3 ‹_›)

/-- A gate of the block is the array's. -/
theorem tile18 (h : Fin 4) (k : Fin 8) (R : Fin 1024) :
    InGate.gate (iblk m c 0 t) (iblk m c 1 t) (iblk m c 4 t) (iblk m c 8 t) (iblk m c 9 t) (iblk m c 10 t) (iblk m c 11 t) (ix2 (row h k) R)
      = gateAt (a0 m c) (a1 m c) (a2 m c) (a3 m c) (a4 m c) (a5 m c) (a6 m c) h k (arow t R) := by
  have hm : (row h k).val % 8 = k.val := by
    show (8 * h.val + k.val) % 8 = k.val
    have := k.isLt
    omega
  unfold InGate.gate gateAt
  refine pick ((row h k).val % 8) k.val hm _ _ _ _ _ _ _ (fun e => ?_) (fun e => ?_) (fun e => ?_) (fun e => ?_)
  · obtain rfl : k = 0 := Fin.ext e
    exact congrArg Ideal.logistic (raw0 m c t h R)
  · obtain rfl : k = 1 := Fin.ext e
    exact congrArg Ideal.logistic (raw1 m c t h R)
  · obtain rfl : k = 2 := Fin.ext e
    exact sum2 m c t h R
  · obtain rfl : k = 3 := Fin.ext e
    exact sum3 m c t h R

/-! ## Heads -/

/-- The seats' cosines and sines. -/
theorem turned_seat (y w : Fin 128 → EReal) (R : Fin 1024) (p : Fin 4) (e : Fin 32) :
    rope (fun d => y (home d)) (fun d => w (home d)) (fun d => (iblk m c 12 t : Vec Ideal S1024x128 .f32) (ix2 R d))
        (fun d => (iblk m c 13 t : Vec Ideal S1024x128 .f32) (ix2 R d)) (seat p e)
      = turned (rms c128 y w) (cosOf (a9 m c) (pos (arow t R))) (sinOf (a9 m c) (pos (arow t R))) (cosOf (a10 m c) (pos (arow t R)))
          (sinOf (a10 m c) (pos (arow t R))) p e :=
  InTurn.turn y w _ _ _ _ _ _ p e
    ((angles12 m c t R _).trans (InHostCat.v90_0 m c _ e)) ((angles12 m c t R _).trans (InHostCat.v90_1 m c _ e))
    ((angles12 m c t R _).trans (InHostCat.v90_2 m c _ e)) ((angles12 m c t R _).trans (InHostCat.v90_3 m c _ e))
    ((angles13 m c t R _).trans (InHostCat.v93_0 m c _ e)) ((angles13 m c t R _).trans (InHostCat.v93_1 m c _ e))
    ((angles13 m c t R _).trans (InHostCat.v93_2 m c _ e)) ((angles13 m c t R _).trans (InHostCat.v93_3 m c _ e))

/-- A head's columns and weights. -/
theorem cols5 (R : Fin 1024) (h : Fin 4) (d : Fin 128) (j : Fin 512) (hj : j.val = 128 * h.val + d.val) :
    ∑ k, InValue.hid (iblk m c 0 t) (iblk m c 1 t) R k * (iblk m c 5 t : Vec Ideal S1024x512 .bf16) (ix2 k j)
      = proj (a0 m c) (a1 m c) (a2 m c) (arow t R) (hcol (n := 4) 2064 (by decide) h (home d)) :=
  Finset.sum_congr rfl fun k _ => congrArg₂ (· * ·) (hidden m c t R k) ((same5 m c t k j).trans (InHostHead.v75 m c k h d j hj))
theorem cols6 (R : Fin 1024) (h : Fin 2) (d : Fin 128) (j : Fin 256) (hj : j.val = 128 * h.val + d.val) :
    ∑ k, InValue.hid (iblk m c 0 t) (iblk m c 1 t) R k * (iblk m c 6 t : Vec Ideal S1024x256 .bf16) (ix2 k j)
      = proj (a0 m c) (a1 m c) (a2 m c) (arow t R) (hcol (n := 2) 2576 (by decide) h (home d)) :=
  Finset.sum_congr rfl fun k _ => congrArg₂ (· * ·) (hidden m c t R k) ((same6 m c t k j).trans (InHostHead.v83 m c k h d j hj))
theorem weights14 : (fun d : Fin 128 => (iblk m c 14 t : Vec Ideal S1x128 .f32) (ix2 0 d)) = fun d => a7 m c (ix1 (home d)) :=
  funext fun d => (same14 m c t 0 d).trans (InHostHead.v99 m c d)
theorem weights15 : (fun d : Fin 128 => (iblk m c 15 t : Vec Ideal S1x128 .f32) (ix2 0 d)) = fun d => a8 m c (ix1 (home d)) :=
  funext fun d => (same15 m c t 0 d).trans (InHostHead.v105 m c d)

theorem seat_place (n : ℕ) : InValue.place n = seat (quarter n) (place n) := Fin.ext (by
  show n % 128 = 32 * (n % 128 / 32) + n % 32
  omega)

/-- A query and a key of the block are the array's. -/
theorem tile19 (R : Fin 1024) (j : Fin 512) :
    InValue.query (iblk m c 0 t) (iblk m c 1 t) (iblk m c 5 t) (iblk m c 12 t) (iblk m c 13 t) (iblk m c 14 t) (ix2 R j)
      = queries (a0 m c) (a1 m c) (a2 m c) (a7 m c) (a9 m c) (a10 m c) (ix2 (arow t R) j) := by
  have hj := j.isLt
  refine (congrArg (· * qscale) ?_).trans (InTurn.scaled _)
  show rope (fun d => ∑ k, InValue.hid (iblk m c 0 t) (iblk m c 1 t) R k * (iblk m c 5 t : Vec Ideal S1024x512 .bf16) (ix2 k (InValue.col512 j d)))
    (fun d => (iblk m c 14 t : Vec Ideal S1x128 .f32) (ix2 0 d)) _ _ (InValue.place j.val) = _
  rw [weights14, seat_place, funext fun d => cols5 m c t R ⟨j.val / 128, by omega⟩ d (InValue.col512 j d) (by
    show j.val / 128 * 128 + d.val = 128 * (j.val / 128) + d.val; omega)]
  exact turned_seat m c t (fun d => proj (a0 m c) (a1 m c) (a2 m c) (arow t R) (hcol (n := 4) 2064 (by decide) ⟨j.val / 128, by omega⟩ d))
    (fun d => a7 m c (ix1 d)) R _ _
theorem tile20 (R : Fin 1024) (j : Fin 256) :
    InValue.key (iblk m c 0 t) (iblk m c 1 t) (iblk m c 6 t) (iblk m c 12 t) (iblk m c 13 t) (iblk m c 15 t) (ix2 R j)
      = keys (a0 m c) (a1 m c) (a2 m c) (a8 m c) (a9 m c) (a10 m c) (ix2 (arow t R) j) := by
  have hj := j.isLt
  show rope (fun d => ∑ k, InValue.hid (iblk m c 0 t) (iblk m c 1 t) R k * (iblk m c 6 t : Vec Ideal S1024x256 .bf16) (ix2 k (InValue.col256 j d)))
    (fun d => (iblk m c 15 t : Vec Ideal S1x128 .f32) (ix2 0 d)) _ _ (InValue.place j.val) = _
  rw [weights15, seat_place, funext fun d => cols6 m c t R ⟨j.val / 128, by omega⟩ d (InValue.col256 j d) (by
    show j.val / 128 * 128 + d.val = 128 * (j.val / 128) + d.val; omega)]
  exact turned_seat m c t (fun d => proj (a0 m c) (a1 m c) (a2 m c) (arow t R) (hcol (n := 2) 2576 (by decide) ⟨j.val / 128, by omega⟩ d))
    (fun d => a8 m c (ix1 d)) R _ _

/-- The masks are zeros and ones. -/
theorem mask10 (u v : Fin 256) : (iblk m c 10 t : Vec Ideal S256x256 .bf16) (ix2 u v) = (0 : EReal) ∨ (iblk m c 10 t : Vec Ideal S256x256 .bf16) (ix2 u v) = (1 : EReal) := by
  rw [same10 m c t u v, InHost.v62 m c u v]
  split_ifs
  · exact Or.inr rfl
  · exact Or.inl rfl
theorem mask11 (u v : Fin 256) : (iblk m c 11 t : Vec Ideal S256x256 .bf16) (ix2 u v) = (0 : EReal) ∨ (iblk m c 11 t : Vec Ideal S256x256 .bf16) (ix2 u v) = (1 : EReal) := by
  rw [same11 m c t u v, InHost.v63 m c u v]
  split_ifs
  · exact Or.inr rfl
  · exact Or.inl rfl
end

end Cert.InTile

end
-- ==== Proof.InArr.lean ====
/- What the input projection kernel's result arrays hold over the extended reals, index by index. -/
module

public import proofs.«01_k».proof.Proof.InTile
public import proofs.«01_k».proof.Proof.Gen.InProjIdeal.Value

@[expose] public section

set_option maxRecDepth 16384

noncomputable section

namespace Cert.InArr

open Cert.InProjIdeal Cert.InProjIdeal.Gen Cert.InRes Cert.InBlk
open Idealize.ShloMosaic Idealize.ShloMosaic.TcCoe Idealize.SL.Sem
open Cert.InTile

variable (m : (ℓ : Loc nD τ sig) → Buf (Elt Ideal) ℓ) (c : Dev nD)

theorem ix2_eta {a b : ℕ} (y : (⟨2, ![a, b]⟩ : Shape).Idx) : y = ix2 (y 0) (y 1) := funext fun k => match k with
  | ⟨0, _⟩ => rfl
  | ⟨1, _⟩ => rfl

/-- The results on what the launch was given. -/
abbrev result16 : Vec Ideal S65536x1536 .bf16 := qkv (a0 m c) (a1 m c) (a2 m c)
abbrev result17 : Vec Ideal S65536x512 .bf16 := zed (a0 m c) (a1 m c) (a2 m c)
abbrev result18 : Vec Ideal S32x65536 .f32 := gates (a0 m c) (a1 m c) (a2 m c) (a3 m c) (a4 m c) (a5 m c) (a6 m c)
abbrev result19 : Vec Ideal S65536x512 .bf16 := queries (a0 m c) (a1 m c) (a2 m c) (a7 m c) (a9 m c) (a10 m c)
abbrev result20 : Vec Ideal S65536x256 .bf16 := keys (a0 m c) (a1 m c) (a2 m c) (a8 m c) (a9 m c) (a10 m c)
abbrev result21 : Vec Ideal S256x65536 .bf16 := vt (a0 m c) (a1 m c) (a2 m c)

/-- Window 16. -/
theorem flushed16 (t : Fin cfg0.N) : (dats m 0 c).flushed 16 t = ((cfg0.win 16).blk t).view.read (Elt Ideal) (result16 m c) := by
  rw [Value.flushed16]
  funext (y : S1024x1536.Idx)
  have P := places t
  rw [View.read_apply]
  have e : ((cfg0.win 16).blk t).view.emb y = (ix2 (arow t (y 0)) (y 1) : S65536x1536.Idx) := by
    refine funext fun a => Fin.ext ?_
    match a with
    | ⟨0, _⟩ => show win0_16.index t 0 * 1024 + 1 * (y 0).val = win0_16.index t 0 * 1024 + (y 0).val; omega
    | ⟨1, _⟩ => show win0_16.index t 1 * 1536 + 1 * (y 1).val = (y 1).val; omega
  rw [e]
  refine (InValue.block16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y).trans ?_
  exact tile16 m c t (y 0) (y 1)
theorem covered16 (i : S65536x1536.Idx) : ∃ t : Fin cfg0.N, (cfg0.win 16).flush t = true ∧ i ∈ ((cfg0.win 16).blk t).view.set := by
  have h0 : (i 0).val < 65536 := (i 0).isLt
  have h1 : (i 1).val < 1536 := (i 1).isLt
  obtain ⟨t, e0⟩ := onto ⟨(i 0).val / 1024, by omega⟩
  dsimp only at e0
  have P := places t
  refine ⟨t, flush0_16 t, ?_⟩
  have h := ((cfg0.win 16).blk t).view.emb_mem_set (ix2 (⟨(i 0).val % 1024, Nat.mod_lt _ (by decide)⟩ : Fin 1024) (⟨(i 1).val, h1⟩ : Fin 1536))
  refine (congrArg (· ∈ ((cfg0.win 16).blk t).view.set) (funext fun a => Fin.ext ?_)).mp h
  match a with
  | ⟨0, _⟩ => show win0_16.index t 0 * 1024 + 1 * ((i 0).val % 1024) = (i 0).val; omega
  | ⟨1, _⟩ => show win0_16.index t 1 * 1536 + 1 * (i 1).val = (i 1).val; omega
theorem final16 : (dats m 0 c).arrAt 16 cfg0.N = result16 m c :=
  (dats m 0 c).arrAt_eq_of_cover 16 _ (fun t _ => flushed16 m c t) covered16

/-- Window 17. -/
theorem flushed17 (t : Fin cfg0.N) : (dats m 0 c).flushed 17 t = ((cfg0.win 17).blk t).view.read (Elt Ideal) (result17 m c) := by
  rw [Value.flushed17]
  funext (y : S1024x512.Idx)
  have P := places t
  rw [View.read_apply]
  have e : ((cfg0.win 17).blk t).view.emb y = (ix2 (arow t (y 0)) (y 1) : S65536x512.Idx) := by
    refine funext fun a => Fin.ext ?_
    match a with
    | ⟨0, _⟩ => show win0_17.index t 0 * 1024 + 1 * (y 0).val = win0_16.index t 0 * 1024 + (y 0).val; omega
    | ⟨1, _⟩ => show win0_17.index t 1 * 512 + 1 * (y 1).val = (y 1).val; omega
  rw [e]
  refine (InValue.block17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y).trans ?_
  exact tile17 m c t (y 0) (y 1)
theorem covered17 (i : S65536x512.Idx) : ∃ t : Fin cfg0.N, (cfg0.win 17).flush t = true ∧ i ∈ ((cfg0.win 17).blk t).view.set := by
  have h0 : (i 0).val < 65536 := (i 0).isLt
  have h1 : (i 1).val < 512 := (i 1).isLt
  obtain ⟨t, e0⟩ := onto ⟨(i 0).val / 1024, by omega⟩
  dsimp only at e0
  have P := places t
  refine ⟨t, flush0_17 t, ?_⟩
  have h := ((cfg0.win 17).blk t).view.emb_mem_set (ix2 (⟨(i 0).val % 1024, Nat.mod_lt _ (by decide)⟩ : Fin 1024) (⟨(i 1).val, h1⟩ : Fin 512))
  refine (congrArg (· ∈ ((cfg0.win 17).blk t).view.set) (funext fun a => Fin.ext ?_)).mp h
  match a with
  | ⟨0, _⟩ => show win0_17.index t 0 * 1024 + 1 * ((i 0).val % 1024) = (i 0).val; omega
  | ⟨1, _⟩ => show win0_17.index t 1 * 512 + 1 * (i 1).val = (i 1).val; omega
theorem final17 : (dats m 0 c).arrAt 17 cfg0.N = result17 m c :=
  (dats m 0 c).arrAt_eq_of_cover 17 _ (fun t _ => flushed17 m c t) covered17

/-- Window 19. -/
theorem flushed19 (t : Fin cfg0.N) : (dats m 0 c).flushed 19 t = ((cfg0.win 19).blk t).view.read (Elt Ideal) (result19 m c) := by
  rw [Value.flushed19]
  funext (y : S1024x512.Idx)
  have P := places t
  rw [View.read_apply]
  have e : ((cfg0.win 19).blk t).view.emb y = (ix2 (arow t (y 0)) (y 1) : S65536x512.Idx) := by
    refine funext fun a => Fin.ext ?_
    match a with
    | ⟨0, _⟩ => show win0_19.index t 0 * 1024 + 1 * (y 0).val = win0_16.index t 0 * 1024 + (y 0).val; omega
    | ⟨1, _⟩ => show win0_19.index t 1 * 512 + 1 * (y 1).val = (y 1).val; omega
  rw [e]
  refine (InValue.block19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y).trans ?_
  refine Eq.trans ?_ (tile19 m c t (y 0) (y 1))
  exact congrArg _ (ix2_eta y)
theorem covered19 (i : S65536x512.Idx) : ∃ t : Fin cfg0.N, (cfg0.win 19).flush t = true ∧ i ∈ ((cfg0.win 19).blk t).view.set := by
  have h0 : (i 0).val < 65536 := (i 0).isLt
  have h1 : (i 1).val < 512 := (i 1).isLt
  obtain ⟨t, e0⟩ := onto ⟨(i 0).val / 1024, by omega⟩
  dsimp only at e0
  have P := places t
  refine ⟨t, flush0_19 t, ?_⟩
  have h := ((cfg0.win 19).blk t).view.emb_mem_set (ix2 (⟨(i 0).val % 1024, Nat.mod_lt _ (by decide)⟩ : Fin 1024) (⟨(i 1).val, h1⟩ : Fin 512))
  refine (congrArg (· ∈ ((cfg0.win 19).blk t).view.set) (funext fun a => Fin.ext ?_)).mp h
  match a with
  | ⟨0, _⟩ => show win0_19.index t 0 * 1024 + 1 * ((i 0).val % 1024) = (i 0).val; omega
  | ⟨1, _⟩ => show win0_19.index t 1 * 512 + 1 * (i 1).val = (i 1).val; omega
theorem final19 : (dats m 0 c).arrAt 19 cfg0.N = result19 m c :=
  (dats m 0 c).arrAt_eq_of_cover 19 _ (fun t _ => flushed19 m c t) covered19

/-- Window 20. -/
theorem flushed20 (t : Fin cfg0.N) : (dats m 0 c).flushed 20 t = ((cfg0.win 20).blk t).view.read (Elt Ideal) (result20 m c) := by
  rw [Value.flushed20]
  funext (y : S1024x256.Idx)
  have P := places t
  rw [View.read_apply]
  have e : ((cfg0.win 20).blk t).view.emb y = (ix2 (arow t (y 0)) (y 1) : S65536x256.Idx) := by
    refine funext fun a => Fin.ext ?_
    match a with
    | ⟨0, _⟩ => show win0_20.index t 0 * 1024 + 1 * (y 0).val = win0_16.index t 0 * 1024 + (y 0).val; omega
    | ⟨1, _⟩ => show win0_20.index t 1 * 256 + 1 * (y 1).val = (y 1).val; omega
  rw [e]
  refine (InValue.block20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y).trans ?_
  refine Eq.trans ?_ (tile20 m c t (y 0) (y 1))
  exact congrArg _ (ix2_eta y)
theorem covered20 (i : S65536x256.Idx) : ∃ t : Fin cfg0.N, (cfg0.win 20).flush t = true ∧ i ∈ ((cfg0.win 20).blk t).view.set := by
  have h0 : (i 0).val < 65536 := (i 0).isLt
  have h1 : (i 1).val < 256 := (i 1).isLt
  obtain ⟨t, e0⟩ := onto ⟨(i 0).val / 1024, by omega⟩
  dsimp only at e0
  have P := places t
  refine ⟨t, flush0_20 t, ?_⟩
  have h := ((cfg0.win 20).blk t).view.emb_mem_set (ix2 (⟨(i 0).val % 1024, Nat.mod_lt _ (by decide)⟩ : Fin 1024) (⟨(i 1).val, h1⟩ : Fin 256))
  refine (congrArg (· ∈ ((cfg0.win 20).blk t).view.set) (funext fun a => Fin.ext ?_)).mp h
  match a with
  | ⟨0, _⟩ => show win0_20.index t 0 * 1024 + 1 * ((i 0).val % 1024) = (i 0).val; omega
  | ⟨1, _⟩ => show win0_20.index t 1 * 256 + 1 * (i 1).val = (i 1).val; omega
theorem final20 : (dats m 0 c).arrAt 20 cfg0.N = result20 m c :=
  (dats m 0 c).arrAt_eq_of_cover 20 _ (fun t _ => flushed20 m c t) covered20

/-- Window 18. -/
theorem flushed18 (t : Fin cfg0.N) : (dats m 0 c).flushed 18 t = ((cfg0.win 18).blk t).view.read (Elt Ideal) (result18 m c) := by
  rw [Value.flushed18]
  funext (y : S32x1024.Idx)
  have P := places t
  rw [View.read_apply]
  have e : ((cfg0.win 18).blk t).view.emb y = (ix2 (y 0) (arow t (y 1)) : S32x65536.Idx) := by
    refine funext fun a => Fin.ext ?_
    match a with
    | ⟨0, _⟩ => show win0_18.index t 0 * 32 + 1 * (y 0).val = (y 0).val; omega
    | ⟨1, _⟩ => show win0_18.index t 1 * 1024 + 1 * (y 1).val = win0_16.index t 0 * 1024 + (y 1).val; omega
  rw [e]
  have y0 : (y 0).val < 32 := (y 0).isLt
  refine (InGate.block18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (mask10 m c t) (mask11 m c t) y).trans ?_
  refine Eq.trans ?_ (tile18 m c t ⟨(y 0).val / 8, by omega⟩ ⟨(y 0).val % 8, by omega⟩ (y 1))
  refine congrArg _ ((ix2_eta y).trans (congrArg (fun r : Fin 32 => (ix2 r (y 1) : S32x1024.Idx)) (Fin.ext ?_)))
  show (y 0).val = 8 * ((y 0).val / 8) + (y 0).val % 8
  omega
theorem covered18 (i : S32x65536.Idx) : ∃ t : Fin cfg0.N, (cfg0.win 18).flush t = true ∧ i ∈ ((cfg0.win 18).blk t).view.set := by
  have h0 : (i 0).val < 32 := (i 0).isLt
  have h1 : (i 1).val < 65536 := (i 1).isLt
  obtain ⟨t, e0⟩ := onto ⟨(i 1).val / 1024, by omega⟩
  dsimp only at e0
  have P := places t
  refine ⟨t, flush0_18 t, ?_⟩
  have h := ((cfg0.win 18).blk t).view.emb_mem_set (ix2 (⟨(i 0).val, h0⟩ : Fin 32) (⟨(i 1).val % 1024, Nat.mod_lt _ (by decide)⟩ : Fin 1024))
  refine (congrArg (· ∈ ((cfg0.win 18).blk t).view.set) (funext fun a => Fin.ext ?_)).mp h
  match a with
  | ⟨0, _⟩ => show win0_18.index t 0 * 32 + 1 * (i 0).val = (i 0).val; omega
  | ⟨1, _⟩ => show win0_18.index t 1 * 1024 + 1 * ((i 1).val % 1024) = (i 1).val; omega
theorem final18 : (dats m 0 c).arrAt 18 cfg0.N = result18 m c :=
  (dats m 0 c).arrAt_eq_of_cover 18 _ (fun t _ => flushed18 m c t) covered18

/-- Window 21. -/
theorem flushed21 (t : Fin cfg0.N) : (dats m 0 c).flushed 21 t = ((cfg0.win 21).blk t).view.read (Elt Ideal) (result21 m c) := by
  rw [Value.flushed21]
  funext (y : S256x1024.Idx)
  have P := places t
  rw [View.read_apply]
  have e : ((cfg0.win 21).blk t).view.emb y = (ix2 (y 0) (arow t (y 1)) : S256x65536.Idx) := by
    refine funext fun a => Fin.ext ?_
    match a with
    | ⟨0, _⟩ => show win0_21.index t 0 * 256 + 1 * (y 0).val = (y 0).val; omega
    | ⟨1, _⟩ => show win0_21.index t 1 * 1024 + 1 * (y 1).val = win0_16.index t 0 * 1024 + (y 1).val; omega
  rw [e]
  refine (InValue.block21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) y).trans ?_
  exact tile21 m c t _ rfl (y 0) (y 1)
theorem covered21 (i : S256x65536.Idx) : ∃ t : Fin cfg0.N, (cfg0.win 21).flush t = true ∧ i ∈ ((cfg0.win 21).blk t).view.set := by
  have h0 : (i 0).val < 256 := (i 0).isLt
  have h1 : (i 1).val < 65536 := (i 1).isLt
  obtain ⟨t, e0⟩ := onto ⟨(i 1).val / 1024, by omega⟩
  dsimp only at e0
  have P := places t
  refine ⟨t, flush0_21 t, ?_⟩
  have h := ((cfg0.win 21).blk t).view.emb_mem_set (ix2 (⟨(i 0).val, h0⟩ : Fin 256) (⟨(i 1).val % 1024, Nat.mod_lt _ (by decide)⟩ : Fin 1024))
  refine (congrArg (· ∈ ((cfg0.win 21).blk t).view.set) (funext fun a => Fin.ext ?_)).mp h
  match a with
  | ⟨0, _⟩ => show win0_21.index t 0 * 256 + 1 * (i 0).val = (i 0).val; omega
  | ⟨1, _⟩ => show win0_21.index t 1 * 1024 + 1 * ((i 1).val % 1024) = (i 1).val; omega
theorem final21 : (dats m 0 c).arrAt 21 cfg0.N = result21 m c :=
  (dats m 0 c).arrAt_eq_of_cover 21 _ (fun t _ => flushed21 m c t) covered21

end Cert.InArr

end
-- ==== Proof.InRefRows.lean ====
/- The input projection's reference over the extended reals: its normed rows against the columns of the projection. -/
module

public import proofs.«01_k».proof.Proof.InRes
public import proofs.«01_k».proof.Proof.Gen.InProjRefIdeal.Read

@[expose] public section

set_option maxRecDepth 16384

noncomputable section

namespace Cert.InRefRows

open Cert.InProjRefIdeal Cert.InProjRefIdeal.Gen Cert.InProjRefIdeal.Read Cert.InRes Cert.InPay
open Idealize.ShloMosaic

variable (x0 : Vec Ideal S65536x1024 .f32) (x1 : Vec Ideal S1024 .f32) (x2 : Vec Ideal S1024x3088 .f32)

/-- An index of two coordinates, or of one, from their values. -/
theorem ix2_of {A B : ℕ} (i : (⟨2, ![A, B]⟩ : Shape).Idx) (a : Fin A) (b : Fin B) (h0 : (i 0).val = a.val) (h1 : (i 1).val = b.val) :
    i = ix2 a b := funext fun e => Fin.ext (by
  match e with
  | ⟨0, _⟩ => exact h0
  | ⟨1, _⟩ => exact h1)
theorem ix1_of {A : ℕ} (i : (⟨1, ![A]⟩ : Shape).Idx) (a : Fin A) (h0 : (i 0).val = a.val) : i = ix1 a := funext fun e => Fin.ext (by
  match e with
  | ⟨0, _⟩ => exact h0)

theorem zero_bits : (FloatOps.ofBits .f32 0x00000000#32 : Ideal .f32) = (0 : EReal) := Ideal.ofBits_zero_f32

/-- A normed row. -/
theorem normed_apply (r : Fin 65536) (j : Fin 1024) : val_main_v12 (F := Ideal) x0 x1 (ix2 r j) = normed x0 x1 r j := by
  unfold normed rms c1024
  rw [val_main_v12_apply, val_main_v9_apply, val_main_v8_apply, val_main_v7_apply, val_main_v6_apply, val_main_v4_apply, val_main_v2_apply,
    val_main_v1_apply, val_main_v11_apply, val_main_v10_apply, val_main_v3_apply, val_main_v5_apply, val_main_cst_0_apply,
    val_main_cst_1_apply, val_main_cst_apply]
  rw [zero_bits, zero_add]
  have s : ∀ k, val_main_v0 (F := Ideal) x0 (idx_main_v1 (idx_main_v2 (idx_main_v8 (ix2 r j))) k) = x0 (ix2 r k) * x0 (ix2 r k) := by
    intro k
    rw [val_main_v0_apply, ix2_of (idx_main_v1 (idx_main_v2 (idx_main_v8 (ix2 r j))) k) r k rfl rfl]
    rfl
  rw [Finset.sum_congr rfl fun k _ => s k, ix1_of (idx_main_v10 (idx_main_v11 (ix2 r j))) j rfl]
  rfl

/-- A row against a column. -/
theorem proj_apply (I : S65536x3088.Idx) (r : Fin 65536) (c : Fin 3088) (h0 : (I 0).val = r.val) (h1 : (I 1).val = c.val) :
    val_main_v13 (F := Ideal) x0 x1 x2 I = proj x0 x1 x2 r c := by
  rw [ix2_of I r c h0 h1, val_main_v13_apply]
  unfold proj
  refine Finset.sum_congr rfl fun k _ => ?_
  rw [ix2_of (lidx_main_v13 (ix2 r c) k) r k rfl rfl, normed_apply, ix2_of (ridx_main_v13 (ix2 r c) k) k c rfl rfl]

theorem qkv_eq : val_main_v184 (F := Ideal) x0 x1 x2 = qkv x0 x1 x2 := by
  funext i
  rw [val_main_v184_apply, val_main_v14_apply]
  exact proj_apply x0 x1 x2 _ (i 0) (col (n := 1536) 0 (by decide) (i 1)) rfl (by show (i 1).val = 0 + (i 1).val; omega)

theorem zed_eq : val_main_v185 (F := Ideal) x0 x1 x2 = zed x0 x1 x2 := by
  funext i
  rw [val_main_v185_apply, val_main_v15_apply]
  exact proj_apply x0 x1 x2 _ (i 0) (col (n := 512) 1536 (by decide) (i 1)) rfl rfl

theorem vt_eq : val_main_v193 (F := Ideal) x0 x1 x2 = vt x0 x1 x2 := by
  funext i
  rw [val_main_v193_apply, val_main_v192_apply, val_main_v22_apply]
  exact proj_apply x0 x1 x2 _ (i 1) (col (n := 256) 2832 (by decide) (i 0)) rfl rfl

end Cert.InRefRows

end
-- ==== Proof.InRefGate.lean ====
/- The input projection's reference over the extended reals: its gates and the running sums of its log decays. -/
module

public import proofs.«01_k».proof.Proof.InRefRows
public import Idealize.ShloMosaic.Lib.StableHlo.Predicate

@[expose] public section

set_option maxRecDepth 16384

noncomputable section

namespace Cert.InRefGate

open Cert.InProjRefIdeal Cert.InProjRefIdeal.Gen Cert.InProjRefIdeal.Read Cert.InRes Cert.InPay Cert.InRefRows Cert.InSum
open Idealize.ShloMosaic

variable (x0 : Vec Ideal S65536x1024 .f32) (x1 : Vec Ideal S1024 .f32) (x2 : Vec Ideal S1024x3088 .f32) (x3 x4 x5 x6 : Vec Ideal S4 .f32)

theorem one_bits : (FloatOps.ofBits .f32 0x3F800000#32 : Ideal .f32) = (1 : EReal) := Ideal.ofBits_one_f32

/-- The smooth maximum as the reference writes it: a number is never unlike itself. -/
theorem soft (a : EReal) : Scalar.select (FloatOps.cmpf (F := Ideal) (φ := .f32) .une (a - 0) (a - 0)) (a + 0)
    (max a 0 + Ideal.log1p (Ideal.exp (-max (a - 0) (-(a - 0))))) = softplus a := by
  rw [sub_zero]
  have : FloatOps.cmpf (F := Ideal) (φ := .f32) .une a a = 0#1 := by
    show BitVec.ofBool _ = 0#1
    simp
  rw [this]
  rfl

section
variable (I : S65536x4.Idx) (i : Fin 65536) (h : Fin 4) (h0 : (I 0).val = i.val) (h1 : (I 1).val = h.val)
include h0 h1

theorem gate0 : val_main_v62 (F := Ideal) x0 x1 x2 I = Ideal.logistic (proj x0 x1 x2 i (col 2048 (by decide) h)) := by
  rw [val_main_v62_apply, val_main_v61_apply, val_main_v60_apply, val_main_v59_apply, val_main_v58_apply, val_main_v57_apply,
    val_main_v16_apply, val_main_cst_7_apply, val_main_cst_8_apply, one_bits,
    proj_apply x0 x1 x2 (idx_main_v16 I) i (col 2048 (by decide) h) h0 (by show 2048 + (I 1).val = 2048 + h.val; omega)]
  rfl
theorem gate1 : val_main_v68 (F := Ideal) x0 x1 x2 I = Ideal.logistic (proj x0 x1 x2 i (col 2052 (by decide) h)) := by
  rw [val_main_v68_apply, val_main_v67_apply, val_main_v66_apply, val_main_v65_apply, val_main_v64_apply, val_main_v63_apply,
    val_main_v17_apply, val_main_cst_9_apply, val_main_cst_10_apply, one_bits,
    proj_apply x0 x1 x2 (idx_main_v17 I) i (col 2052 (by decide) h) h0 (by show 2052 + (I 1).val = 2052 + h.val; omega)]
  rfl

/-- The log decays. -/
theorem decF : val_main_v31 (F := Ideal) x0 x1 x2 x3 x5 I = dec x0 x1 x2 x3 x5 2056 (by decide) h i := by
  rw [val_main_v31_apply, val_main_v30_apply, val_main_v29_apply, val_main_v24_apply, val_main_v23_apply, val_main_v28_apply,
    val_main_call0_v4_apply, val_main_call0_v6_apply, val_main_call0_v11_apply, val_main_call0_v1_apply, val_main_call0_v10_apply,
    val_main_call0_v9_apply, val_main_call0_v8_apply, val_main_call0_v7_apply, val_main_call0_v3_apply, val_main_call0_v0_apply,
    val_main_call0_v2_apply, val_main_call0_v5_apply, val_main_call0_cst_apply, zero_bits, val_main_v27_apply, val_main_v18_apply,
    val_main_v26_apply, val_main_v25_apply,
    proj_apply x0 x1 x2 (idx_main_v18 I) i (col 2056 (by decide) h) h0 (by show 2056 + (I 1).val = 2056 + h.val; omega),
    ix1_of (idx_main_v29 (idx_main_v30 I)) h h1, ix1_of (idx_main_v25 (idx_main_v26 I)) h h1]
  exact congrArg (-Ideal.exp (x3 (ix1 h)) * ·) (soft _)
theorem decB : val_main_v40 (F := Ideal) x0 x1 x2 x4 x6 I = dec x0 x1 x2 x4 x6 2060 (by decide) h i := by
  rw [val_main_v40_apply, val_main_v39_apply, val_main_v38_apply, val_main_v33_apply, val_main_v32_apply, val_main_v37_apply,
    val_main_call1_v4_apply, val_main_call1_v6_apply, val_main_call1_v11_apply, val_main_call1_v1_apply, val_main_call1_v10_apply,
    val_main_call1_v9_apply, val_main_call1_v8_apply, val_main_call1_v7_apply, val_main_call1_v3_apply, val_main_call1_v0_apply,
    val_main_call1_v2_apply, val_main_call1_v5_apply, val_main_call1_cst_apply, zero_bits, val_main_v36_apply, val_main_v19_apply,
    val_main_v35_apply, val_main_v34_apply,
    proj_apply x0 x1 x2 (idx_main_v19 I) i (col 2060 (by decide) h) h0 (by show 2060 + (I 1).val = 2060 + h.val; omega),
    ix1_of (idx_main_v38 (idx_main_v39 I)) h h1, ix1_of (idx_main_v34 (idx_main_v35 I)) h h1]
  exact congrArg (-Ideal.exp (x4 (ix1 h)) * ·) (soft _)
end

/-- The mask: row at or after column. -/
theorem mask (I : S128x128.Idx) : val_main_v46 (F := Ideal) I = BitVec.ofBool (decide ((I 1).val ≤ (I 0).val)) := by
  have a0 : (I 0).val < 128 := (I 0).isLt
  have a1 : (I 1).val < 128 := (I 1).isLt
  rw [val_main_v46_apply, val_main_v44_apply, val_main_v45_apply, val_main_v42_apply, val_main_v43_apply, val_main_v41_apply, val_main_v41_apply]
  show BitVec.ofBool ((BitVec.ofNat 32 (I 1).val).sle (BitVec.ofNat 32 (I 0).val)) = _
  refine congrArg BitVec.ofBool ?_
  rw [BitVec.sle, StableHlo.Predicate.toInt_ofNat_small _ (by omega), StableHlo.Predicate.toInt_ofNat_small _ (by omega)]
  exact decide_eq_decide.mpr (by omega)

/-- Choosing by a decided bit. -/
theorem choose (p : Prop) [Decidable p] (a b : EReal) : Scalar.select (α := EReal) (BitVec.ofBool (decide p)) a b = if p then a else b := by
  by_cases h : p
  · rw [decide_eq_true h, if_pos h]; rfl
  · rw [decide_eq_false h, if_neg h]; rfl

section
variable (I : S512x128x4.Idx) (i : Fin 65536) (h : Fin 4) (hi : (I 0).val * 128 + (I 1).val = i.val) (hh : (I 2).val = h.val)
include hi hh

/-- The running sums. -/
theorem sumF : val_main_v50 (F := Ideal) x0 x1 x2 x3 x5 I
    = ∑ j : Fin 128, if j.val ≤ i.val % 128 then dec x0 x1 x2 x3 x5 2056 (by decide) h (chunk i j) else 0 := by
  have a1 : (I 1).val < 128 := (I 1).isLt
  have a2 := h.isLt
  rw [val_main_v50_apply, val_main_cst_3_apply, zero_bits, zero_add]
  refine Finset.sum_congr rfl fun j _ => ?_
  have aj := j.isLt
  rw [val_main_v49_apply, val_main_call2_v1_apply, val_main_v47_apply, mask, val_main_call2_v2_apply, val_main_v48_apply, val_main_call2_v3_apply,
    val_main_call2_v0_apply, val_main_cst_2_apply, zero_bits,
    decF x0 x1 x2 x3 x5 (idx_main_v48 (idx_main_call2_v2 (idx_main_v50 I j))) (chunk i j) h
      (by show ((((I 0).val * 1 + 0) * 128 + j.val) * 4 + (I 2).val) / 4 = i.val / 128 * 128 + j.val; omega)
      (by show ((((I 0).val * 1 + 0) * 128 + j.val) * 4 + (I 2).val) % 4 = h.val; omega)]
  refine (choose _ _ _).trans ?_
  have : (j.val ≤ (I 1).val) = (j.val ≤ i.val % 128) := by rw [← hi]; congr 1; omega
  simp only [← this]
theorem sumB : val_main_v55 (F := Ideal) x0 x1 x2 x4 x6 I
    = ∑ j : Fin 128, if i.val % 128 ≤ j.val then dec x0 x1 x2 x4 x6 2060 (by decide) h (chunk i j) else 0 := by
  have a1 : (I 1).val < 128 := (I 1).isLt
  have a2 := h.isLt
  rw [val_main_v55_apply, val_main_cst_5_apply, zero_bits, zero_add]
  refine Finset.sum_congr rfl fun j _ => ?_
  have aj := j.isLt
  rw [val_main_v54_apply, val_main_call3_v1_apply, val_main_v52_apply, val_main_v51_apply, mask, val_main_call3_v2_apply, val_main_v53_apply,
    val_main_call3_v3_apply, val_main_call3_v0_apply, val_main_cst_4_apply, zero_bits,
    decB x0 x1 x2 x4 x6 (idx_main_v53 (idx_main_call3_v2 (idx_main_v55 I j))) (chunk i j) h
      (by show ((((I 0).val * 1 + 0) * 128 + j.val) * 4 + (I 2).val) / 4 = i.val / 128 * 128 + j.val; omega)
      (by show ((((I 0).val * 1 + 0) * 128 + j.val) * 4 + (I 2).val) % 4 = h.val; omega)]
  refine (choose _ _ _).trans ?_
  have : ((I 1).val ≤ j.val) = (i.val % 128 ≤ j.val) := by rw [← hi]; congr 1; omega
  simp only [← this]
end

/-- The index of a gate before the gates are stacked. -/
def at1 (i : Fin 65536) (h : Fin 4) : S65536x4x1.Idx := fun a => match a with
  | ⟨0, _⟩ => i
  | ⟨1, _⟩ => h
  | ⟨2, _⟩ => (0 : Fin 1)

/-- The stack of eight kinds, at one of them. -/
theorem stack (xs : List ((s : Shape) × (s.Idx → EReal))) (hc : Shape.Concatenates (xs.map (·.1)) S65536x4x8 2) (c : ℕ) (hk : c < xs.length)
    (x : S65536x4x1.Idx → EReal) (hx : xs[c] = ⟨S65536x4x1, x⟩)
    (hp : (((xs.take c).map (·.1)).map fun s => if h : s.rank = S65536x4x8.rank then s.size ((2 : Fin S65536x4x8.rank).cast h.symm) else 0).sum = c)
    (I : S65536x4x8.Idx) (i : Fin 65536) (h : Fin 4) (h0 : (I 0).val = i.val) (h1 : (I 1).val = h.val) (h2 : (I 2).val = c) :
    concatenate S65536x4x8 2 xs hc I = x (at1 i h) := by
  refine concatenate_apply_piece (t := S65536x4x8) 2 xs hc I c hk S65536x4x1 x hx rfl c hp (at1 i h) (fun b hb => ?_) ?_
  · match b, hb with
    | ⟨0, _⟩, _ => exact h0.symm
    | ⟨1, _⟩, _ => exact h1.symm
    | ⟨2, _⟩, hb => exact absurd rfl hb
  · exact h2.symm

/-- The stacked gates. -/
theorem gates_at (I : S65536x4x8.Idx) (i : Fin 65536) (h : Fin 4) (c : Fin 8) (h0 : (I 0).val = i.val) (h1 : (I 1).val = h.val)
    (h2 : (I 2).val = c.val) : val_main_v79 (F := Ideal) x0 x1 x2 x3 x4 x5 x6 I = gateAt x0 x1 x2 x3 x4 x5 x6 h c i := by
  have ai := i.isLt
  have ah := h.isLt
  have z : ∀ J, val_main_v56 (F := Ideal) J = (0 : EReal) := fun J => by rw [val_main_v56_apply, val_main_cst_6_apply]; exact zero_bits
  unfold val_main_v79 gateAt
  match c, h2 with
  | 0, h2 =>
    refine (stack _ _ 0 (by show 0 < 8; decide) (val_main_v71 (F := Ideal) x0 x1 x2) rfl rfl I i h h0 h1 h2).trans ?_
    rw [val_main_v71_apply]
    exact gate0 x0 x1 x2 _ i h rfl rfl
  | 1, h2 =>
    refine (stack _ _ 1 (by show 1 < 8; decide) (val_main_v72 (F := Ideal) x0 x1 x2) rfl rfl I i h h0 h1 h2).trans ?_
    rw [val_main_v72_apply]
    exact gate1 x0 x1 x2 _ i h rfl rfl
  | 2, h2 =>
    refine (stack _ _ 2 (by show 2 < 8; decide) (val_main_v73 (F := Ideal) x0 x1 x2 x3 x5) rfl rfl I i h h0 h1 h2).trans ?_
    rw [val_main_v73_apply, val_main_v69_apply]
    exact sumF x0 x1 x2 x3 x5 (idx_main_v69 (idx_main_v73 (at1 i h))) i h
      (by show (i.val * 4 + h.val) / 512 * 128 + (i.val * 4 + h.val) / 4 % 128 = i.val; omega) (by show (i.val * 4 + h.val) % 4 = h.val; omega)
  | 3, h2 =>
    refine (stack _ _ 3 (by show 3 < 8; decide) (val_main_v74 (F := Ideal) x0 x1 x2 x4 x6) rfl rfl I i h h0 h1 h2).trans ?_
    rw [val_main_v74_apply, val_main_v70_apply]
    exact sumB x0 x1 x2 x4 x6 (idx_main_v70 (idx_main_v74 (at1 i h))) i h
      (by show (i.val * 4 + h.val) / 512 * 128 + (i.val * 4 + h.val) / 4 % 128 = i.val; omega) (by show (i.val * 4 + h.val) % 4 = h.val; omega)
  | 4, h2 =>
    refine (stack _ _ 4 (by show 4 < 8; decide) (val_main_v75 (F := Ideal)) rfl rfl I i h h0 h1 h2).trans ?_
    rw [val_main_v75_apply]; exact z _
  | 5, h2 =>
    refine (stack _ _ 5 (by show 5 < 8; decide) (val_main_v76 (F := Ideal)) rfl rfl I i h h0 h1 h2).trans ?_
    rw [val_main_v76_apply]; exact z _
  | 6, h2 =>
    refine (stack _ _ 6 (by show 6 < 8; decide) (val_main_v77 (F := Ideal)) rfl rfl I i h h0 h1 h2).trans ?_
    rw [val_main_v77_apply]; exact z _
  | 7, h2 =>
    refine (stack _ _ 7 (by show 7 < 8; decide) (val_main_v78 (F := Ideal)) rfl rfl I i h h0 h1 h2).trans ?_
    rw [val_main_v78_apply]; exact z _

/-- The reference's gates. -/
theorem gates_eq : val_main_v187 (F := Ideal) x0 x1 x2 x3 x4 x5 x6 = gates x0 x1 x2 x3 x4 x5 x6 := by
  funext y
  have h0 : (y 0).val < 32 := (y 0).isLt
  have h1 : (y 1).val < 65536 := (y 1).isLt
  rw [val_main_v187_apply, val_main_v186_apply]
  exact gates_at x0 x1 x2 x3 x4 x5 x6 (idx_main_v186 (idx_main_v187 y)) (y 1) ⟨(y 0).val / 8, by omega⟩ ⟨(y 0).val % 8, by omega⟩
    (by show ((y 1).val * 32 + (y 0).val) / 32 = (y 1).val; omega)
    (by show ((y 1).val * 32 + (y 0).val) / 8 % 4 = (y 0).val / 8; omega)
    (by show ((y 1).val * 32 + (y 0).val) % 8 = (y 0).val % 8; omega)

end Cert.InRefGate

end
-- ==== Proof.InRefHead.lean ====
/- The input projection's reference over the extended reals: its queries, normed head by head and turned by their positions. -/
module

public import proofs.«01_k».proof.Proof.InRefRows

@[expose] public section

set_option maxRecDepth 16384

noncomputable section

namespace Cert.InRefHead

open Cert.InProjRefIdeal Cert.InProjRefIdeal.Gen Cert.InProjRefIdeal.Read Cert.InRes Cert.InPay Cert.InRefRows
open Idealize.ShloMosaic

variable (x0 : Vec Ideal S65536x1024 .f32) (x1 : Vec Ideal S1024 .f32) (x2 : Vec Ideal S1024x3088 .f32)
  (x7 x8 : Vec Ideal S128 .f32) (x9 x10 : Vec Ideal S8192x32 .f32)

section
variable (i : Fin 65536) (h : Fin 4)

/-- A query head's row before its norm. -/
theorem rowQ (I : S8x8192x4x128.Idx) (d : Fin 128) (hi : (I 0).val * 8192 + (I 1).val = i.val) (hh : (I 2).val = h.val) (hd : (I 3).val = d.val) :
    val_main_v80 (F := Ideal) x0 x1 x2 I = proj x0 x1 x2 i (hcol 2064 (by decide) h d) := by
  rw [val_main_v80_apply, val_main_v20_apply]
  have := h.isLt
  have := d.isLt
  refine proj_apply x0 x1 x2 _ i (hcol 2064 (by decide) h d) ?_ ?_
  · show ((((I 0).val * 8192 + (I 1).val) * 4 + (I 2).val) * 128 + (I 3).val) / 512 = i.val
    omega
  · show 2064 + ((((I 0).val * 8192 + (I 1).val) * 4 + (I 2).val) * 128 + (I 3).val) % 512 = 2064 + (128 * h.val + d.val)
    omega

/-- And after it. -/
theorem normQ (I : S8x8192x4x128.Idx) (d : Fin 128) (hi : (I 0).val * 8192 + (I 1).val = i.val) (hh : (I 2).val = h.val) (hd : (I 3).val = d.val) :
    val_main_v93 (F := Ideal) x0 x1 x2 x7 I
      = rms c128 (fun d => proj x0 x1 x2 i (hcol 2064 (by decide) h d)) (fun d => x7 (ix1 d)) d := by
  unfold rms c128
  rw [val_main_v93_apply, val_main_v90_apply, val_main_v89_apply, val_main_v88_apply, val_main_v87_apply, val_main_v85_apply,
    val_main_v83_apply, val_main_v82_apply, val_main_v92_apply, val_main_v91_apply, val_main_v84_apply, val_main_v86_apply,
    val_main_cst_12_apply, val_main_cst_13_apply, val_main_cst_11_apply]
  rw [zero_bits, zero_add, rowQ x0 x1 x2 i h I d hi hh hd]
  have s : ∀ k, val_main_v81 (F := Ideal) x0 x1 x2 (idx_main_v82 (idx_main_v83 (idx_main_v89 I)) k)
      = proj x0 x1 x2 i (hcol 2064 (by decide) h k) * proj x0 x1 x2 i (hcol 2064 (by decide) h k) := by
    intro k
    rw [val_main_v81_apply, rowQ x0 x1 x2 i h (idx_main_v82 (idx_main_v83 (idx_main_v89 I)) k) k hi hh rfl]
    rfl
  rw [Finset.sum_congr rfl fun k _ => s k, ix1_of (idx_main_v91 (idx_main_v92 I)) d hd]
  rfl

variable (J : S8x8192x4x32.Idx) (e : Fin 32) (hi : (J 0).val * 8192 + (J 1).val = i.val) (hh : (J 2).val = h.val) (he : (J 3).val = e.val)
include hi hh he

theorem pos_eq : (J 1).val = (pos i).val := by
  have : (J 1).val < 8192 := (J 1).isLt
  show (J 1).val = i.val % 8192
  omega

/-- The four quarters of a turned query head. -/
theorem quarterQ0 : val_main_v105 (F := Ideal) x0 x1 x2 x7 x9 J = head x0 x1 x2 x9 x10 x7 (n := 4) 2064 (by decide) i h 0 e := by
  rw [val_main_v105_apply, val_main_v102_apply, val_main_v104_apply, val_main_v99_apply, val_main_v100_apply, val_main_v94_apply,
    val_main_v94_apply, val_main_v101_apply, val_main_v103_apply, val_main_v96_apply, val_main_v98_apply, val_main_v95_apply, val_main_v97_apply,
    normQ x0 x1 x2 x7 i h (idx_main_v94 (idx_main_v99 J)) (seat 0 e) hi hh (by show (J 3).val = 32 * 0 + e.val; omega),
    normQ x0 x1 x2 x7 i h (idx_main_v94 (idx_main_v100 J)) (seat 1 e) hi hh (by show 32 + (J 3).val = 32 * 1 + e.val; omega),
    ix2_of (idx_main_v96 (idx_main_v101 J)) (pos i) e (pos_eq i h J e hi hh he) he,
    ix2_of (idx_main_v98 (idx_main_v103 J)) (pos i) e (pos_eq i h J e hi hh he) he]
  rfl
theorem quarterQ1 : val_main_v122 (F := Ideal) x0 x1 x2 x7 x10 J = head x0 x1 x2 x9 x10 x7 (n := 4) 2064 (by decide) i h 1 e := by
  rw [val_main_v122_apply, val_main_v119_apply, val_main_v121_apply, val_main_v116_apply, val_main_v117_apply, val_main_v111_apply,
    val_main_v111_apply, val_main_v118_apply, val_main_v120_apply, val_main_v113_apply, val_main_v115_apply, val_main_v112_apply,
    val_main_v114_apply,
    normQ x0 x1 x2 x7 i h (idx_main_v111 (idx_main_v116 J)) (seat 2 e) hi hh (by show 64 + (J 3).val = 32 * 2 + e.val; omega),
    normQ x0 x1 x2 x7 i h (idx_main_v111 (idx_main_v117 J)) (seat 3 e) hi hh (by show 64 + (32 + (J 3).val) = 32 * 3 + e.val; omega),
    ix2_of (idx_main_v113 (idx_main_v118 J)) (pos i) e (pos_eq i h J e hi hh he) he,
    ix2_of (idx_main_v115 (idx_main_v120 J)) (pos i) e (pos_eq i h J e hi hh he) he]
  rfl
theorem quarterQ2 : val_main_v110 (F := Ideal) x0 x1 x2 x7 x9 J = head x0 x1 x2 x9 x10 x7 (n := 4) 2064 (by decide) i h 2 e := by
  rw [val_main_v110_apply, val_main_v107_apply, val_main_v109_apply, val_main_v99_apply, val_main_v100_apply, val_main_v94_apply,
    val_main_v94_apply, val_main_v106_apply, val_main_v108_apply, val_main_v96_apply, val_main_v98_apply, val_main_v95_apply, val_main_v97_apply,
    normQ x0 x1 x2 x7 i h (idx_main_v94 (idx_main_v99 J)) (seat 0 e) hi hh (by show (J 3).val = 32 * 0 + e.val; omega),
    normQ x0 x1 x2 x7 i h (idx_main_v94 (idx_main_v100 J)) (seat 1 e) hi hh (by show 32 + (J 3).val = 32 * 1 + e.val; omega),
    ix2_of (idx_main_v96 (idx_main_v108 J)) (pos i) e (pos_eq i h J e hi hh he) he,
    ix2_of (idx_main_v98 (idx_main_v106 J)) (pos i) e (pos_eq i h J e hi hh he) he]
  rfl
theorem quarterQ3 : val_main_v127 (F := Ideal) x0 x1 x2 x7 x10 J = head x0 x1 x2 x9 x10 x7 (n := 4) 2064 (by decide) i h 3 e := by
  rw [val_main_v127_apply, val_main_v124_apply, val_main_v126_apply, val_main_v116_apply, val_main_v117_apply, val_main_v111_apply,
    val_main_v111_apply, val_main_v123_apply, val_main_v125_apply, val_main_v113_apply, val_main_v115_apply, val_main_v112_apply,
    val_main_v114_apply,
    normQ x0 x1 x2 x7 i h (idx_main_v111 (idx_main_v116 J)) (seat 2 e) hi hh (by show 64 + (J 3).val = 32 * 2 + e.val; omega),
    normQ x0 x1 x2 x7 i h (idx_main_v111 (idx_main_v117 J)) (seat 3 e) hi hh (by show 64 + (32 + (J 3).val) = 32 * 3 + e.val; omega),
    ix2_of (idx_main_v113 (idx_main_v125 J)) (pos i) e (pos_eq i h J e hi hh he) he,
    ix2_of (idx_main_v115 (idx_main_v123 J)) (pos i) e (pos_eq i h J e hi hh he) he]
  rfl
end

/-- The index of a quarter's place. -/
def atQ (I : S8x8192x4x128.Idx) (e : Fin 32) : S8x8192x4x32.Idx := fun a => match a with
  | ⟨0, _⟩ => ⟨(I 0).val, (I 0).isLt⟩
  | ⟨1, _⟩ => ⟨(I 1).val, (I 1).isLt⟩
  | ⟨2, _⟩ => ⟨(I 2).val, (I 2).isLt⟩
  | ⟨3, _⟩ => e

/-- The quarters side by side. -/
theorem catQ (I : S8x8192x4x128.Idx) (i : Fin 65536) (h : Fin 4) (p : Fin 4) (e : Fin 32) (hi : (I 0).val * 8192 + (I 1).val = i.val)
    (hh : (I 2).val = h.val) (hd : 32 * p.val + e.val = (I 3).val) :
    val_main_v128 (F := Ideal) x0 x1 x2 x7 x9 x10 I = head x0 x1 x2 x9 x10 x7 (n := 4) 2064 (by decide) i h p e := by
  unfold val_main_v128
  match p, hd with
  | 0, hd =>
    refine (concatenate_apply_piece (t := S8x8192x4x128) 3 _ _ I 0 ?_ S8x8192x4x32 (val_main_v105 (F := Ideal) x0 x1 x2 x7 x9) ?_ rfl 0 ?_ (atQ I e) (fun b hb => ?_) ?_).trans
      (quarterQ0 x0 x1 x2 x7 x9 x10 i h (atQ I e) e hi hh rfl)
    · show 0 < 4; decide
    · rfl
    · rfl
    · match b, hb with
      | ⟨0, _⟩, _ => rfl
      | ⟨1, _⟩, _ => rfl
      | ⟨2, _⟩, _ => rfl
      | ⟨3, _⟩, hb => exact absurd rfl hb
    · exact hd
  | 1, hd =>
    refine (concatenate_apply_piece (t := S8x8192x4x128) 3 _ _ I 1 ?_ S8x8192x4x32 (val_main_v122 (F := Ideal) x0 x1 x2 x7 x10) ?_ rfl 32 ?_ (atQ I e) (fun b hb => ?_) ?_).trans
      (quarterQ1 x0 x1 x2 x7 x9 x10 i h (atQ I e) e hi hh rfl)
    · show 1 < 4; decide
    · rfl
    · rfl
    · match b, hb with
      | ⟨0, _⟩, _ => rfl
      | ⟨1, _⟩, _ => rfl
      | ⟨2, _⟩, _ => rfl
      | ⟨3, _⟩, hb => exact absurd rfl hb
    · exact hd
  | 2, hd =>
    refine (concatenate_apply_piece (t := S8x8192x4x128) 3 _ _ I 2 ?_ S8x8192x4x32 (val_main_v110 (F := Ideal) x0 x1 x2 x7 x9) ?_ rfl 64 ?_ (atQ I e) (fun b hb => ?_) ?_).trans
      (quarterQ2 x0 x1 x2 x7 x9 x10 i h (atQ I e) e hi hh rfl)
    · show 2 < 4; decide
    · rfl
    · rfl
    · match b, hb with
      | ⟨0, _⟩, _ => rfl
      | ⟨1, _⟩, _ => rfl
      | ⟨2, _⟩, _ => rfl
      | ⟨3, _⟩, hb => exact absurd rfl hb
    · exact hd
  | 3, hd =>
    refine (concatenate_apply_piece (t := S8x8192x4x128) 3 _ _ I 3 ?_ S8x8192x4x32 (val_main_v127 (F := Ideal) x0 x1 x2 x7 x10) ?_ rfl 96 ?_ (atQ I e) (fun b hb => ?_) ?_).trans
      (quarterQ3 x0 x1 x2 x7 x9 x10 i h (atQ I e) e hi hh rfl)
    · show 3 < 4; decide
    · rfl
    · rfl
    · match b, hb with
      | ⟨0, _⟩, _ => rfl
      | ⟨1, _⟩, _ => rfl
      | ⟨2, _⟩, _ => rfl
      | ⟨3, _⟩, hb => exact absurd rfl hb
    · exact hd

/-- The reference's queries. -/
theorem queries_eq : val_main_v189 (F := Ideal) x0 x1 x2 x7 x9 x10 = queries x0 x1 x2 x7 x9 x10 := by
  funext y
  have h0 : (y 0).val < 65536 := (y 0).isLt
  have h1 : (y 1).val < 512 := (y 1).isLt
  rw [val_main_v189_apply, val_main_v188_apply, val_main_v134_apply, val_main_v131_apply, val_main_v130_apply, val_main_v133_apply,
    val_main_v129_apply, val_main_v132_apply, val_main_cst_14_apply, val_main_cst_15_apply,
    catQ x0 x1 x2 x7 x9 x10 _ (y 0) ⟨(y 1).val / 128, by omega⟩ (quarter (y 1).val) (place (y 1).val)
      (by show ((y 0).val * 512 + (y 1).val) / 4194304 * 8192 + ((y 0).val * 512 + (y 1).val) / 512 % 8192 = (y 0).val; omega)
      (by show ((y 0).val * 512 + (y 1).val) / 128 % 4 = (y 1).val / 128; omega)
      (by show 32 * ((y 1).val % 128 / 32) + (y 1).val % 32 = ((y 0).val * 512 + (y 1).val) % 128; omega)]
  rfl

end Cert.InRefHead

end
-- ==== Proof.InRefKey.lean ====
/- The input projection's reference over the extended reals: its keys, as its queries without the scale. -/
module

public import proofs.«01_k».proof.Proof.InRefRows

@[expose] public section

set_option maxRecDepth 16384

noncomputable section

namespace Cert.InRefKey

open Cert.InProjRefIdeal Cert.InProjRefIdeal.Gen Cert.InProjRefIdeal.Read Cert.InRes Cert.InPay Cert.InRefRows
open Idealize.ShloMosaic

variable (x0 : Vec Ideal S65536x1024 .f32) (x1 : Vec Ideal S1024 .f32) (x2 : Vec Ideal S1024x3088 .f32)
  (x8 : Vec Ideal S128 .f32) (x9 x10 : Vec Ideal S8192x32 .f32)

section
variable (i : Fin 65536) (h : Fin 2)

/-- A key head's row before its norm. -/
theorem rowK (I : S8x8192x2x128.Idx) (d : Fin 128) (hi : (I 0).val * 8192 + (I 1).val = i.val) (hh : (I 2).val = h.val) (hd : (I 3).val = d.val) :
    val_main_v135 (F := Ideal) x0 x1 x2 I = proj x0 x1 x2 i (hcol 2576 (by decide) h d) := by
  rw [val_main_v135_apply, val_main_v21_apply]
  have := h.isLt
  have := d.isLt
  refine proj_apply x0 x1 x2 _ i (hcol 2576 (by decide) h d) ?_ ?_
  · show ((((I 0).val * 8192 + (I 1).val) * 2 + (I 2).val) * 128 + (I 3).val) / 256 = i.val
    omega
  · show 2576 + ((((I 0).val * 8192 + (I 1).val) * 2 + (I 2).val) * 128 + (I 3).val) % 256 = 2576 + (128 * h.val + d.val)
    omega

/-- And after it. -/
theorem normK (I : S8x8192x2x128.Idx) (d : Fin 128) (hi : (I 0).val * 8192 + (I 1).val = i.val) (hh : (I 2).val = h.val) (hd : (I 3).val = d.val) :
    val_main_v148 (F := Ideal) x0 x1 x2 x8 I
      = rms c128 (fun d => proj x0 x1 x2 i (hcol 2576 (by decide) h d)) (fun d => x8 (ix1 d)) d := by
  unfold rms c128
  rw [val_main_v148_apply, val_main_v145_apply, val_main_v144_apply, val_main_v143_apply, val_main_v142_apply, val_main_v140_apply,
    val_main_v138_apply, val_main_v137_apply, val_main_v147_apply, val_main_v146_apply, val_main_v139_apply, val_main_v141_apply,
    val_main_cst_17_apply, val_main_cst_18_apply, val_main_cst_16_apply]
  rw [zero_bits, zero_add, rowK x0 x1 x2 i h I d hi hh hd]
  have s : ∀ k, val_main_v136 (F := Ideal) x0 x1 x2 (idx_main_v137 (idx_main_v138 (idx_main_v144 I)) k)
      = proj x0 x1 x2 i (hcol 2576 (by decide) h k) * proj x0 x1 x2 i (hcol 2576 (by decide) h k) := by
    intro k
    rw [val_main_v136_apply, rowK x0 x1 x2 i h (idx_main_v137 (idx_main_v138 (idx_main_v144 I)) k) k hi hh rfl]
    rfl
  rw [Finset.sum_congr rfl fun k _ => s k, ix1_of (idx_main_v146 (idx_main_v147 I)) d hd]
  rfl

variable (J : S8x8192x2x32.Idx) (e : Fin 32) (hi : (J 0).val * 8192 + (J 1).val = i.val) (hh : (J 2).val = h.val) (he : (J 3).val = e.val)
include hi hh he

theorem pos_eq : (J 1).val = (pos i).val := by
  have : (J 1).val < 8192 := (J 1).isLt
  show (J 1).val = i.val % 8192
  omega

/-- The four quarters of a turned key head. -/
theorem quarterK0 : val_main_v160 (F := Ideal) x0 x1 x2 x8 x9 J = head x0 x1 x2 x9 x10 x8 (n := 2) 2576 (by decide) i h 0 e := by
  rw [val_main_v160_apply, val_main_v157_apply, val_main_v159_apply, val_main_v154_apply, val_main_v155_apply, val_main_v149_apply,
    val_main_v149_apply, val_main_v156_apply, val_main_v158_apply, val_main_v151_apply, val_main_v153_apply, val_main_v150_apply, val_main_v152_apply,
    normK x0 x1 x2 x8 i h (idx_main_v149 (idx_main_v154 J)) (seat 0 e) hi hh (by show (J 3).val = 32 * 0 + e.val; omega),
    normK x0 x1 x2 x8 i h (idx_main_v149 (idx_main_v155 J)) (seat 1 e) hi hh (by show 32 + (J 3).val = 32 * 1 + e.val; omega),
    ix2_of (idx_main_v151 (idx_main_v156 J)) (pos i) e (pos_eq i h J e hi hh he) he,
    ix2_of (idx_main_v153 (idx_main_v158 J)) (pos i) e (pos_eq i h J e hi hh he) he]
  rfl
theorem quarterK1 : val_main_v177 (F := Ideal) x0 x1 x2 x8 x10 J = head x0 x1 x2 x9 x10 x8 (n := 2) 2576 (by decide) i h 1 e := by
  rw [val_main_v177_apply, val_main_v174_apply, val_main_v176_apply, val_main_v171_apply, val_main_v172_apply, val_main_v166_apply,
    val_main_v166_apply, val_main_v173_apply, val_main_v175_apply, val_main_v168_apply, val_main_v170_apply, val_main_v167_apply,
    val_main_v169_apply,
    normK x0 x1 x2 x8 i h (idx_main_v166 (idx_main_v171 J)) (seat 2 e) hi hh (by show 64 + (J 3).val = 32 * 2 + e.val; omega),
    normK x0 x1 x2 x8 i h (idx_main_v166 (idx_main_v172 J)) (seat 3 e) hi hh (by show 64 + (32 + (J 3).val) = 32 * 3 + e.val; omega),
    ix2_of (idx_main_v168 (idx_main_v173 J)) (pos i) e (pos_eq i h J e hi hh he) he,
    ix2_of (idx_main_v170 (idx_main_v175 J)) (pos i) e (pos_eq i h J e hi hh he) he]
  rfl
theorem quarterK2 : val_main_v165 (F := Ideal) x0 x1 x2 x8 x9 J = head x0 x1 x2 x9 x10 x8 (n := 2) 2576 (by decide) i h 2 e := by
  rw [val_main_v165_apply, val_main_v162_apply, val_main_v164_apply, val_main_v154_apply, val_main_v155_apply, val_main_v149_apply,
    val_main_v149_apply, val_main_v161_apply, val_main_v163_apply, val_main_v151_apply, val_main_v153_apply, val_main_v150_apply, val_main_v152_apply,
    normK x0 x1 x2 x8 i h (idx_main_v149 (idx_main_v154 J)) (seat 0 e) hi hh (by show (J 3).val = 32 * 0 + e.val; omega),
    normK x0 x1 x2 x8 i h (idx_main_v149 (idx_main_v155 J)) (seat 1 e) hi hh (by show 32 + (J 3).val = 32 * 1 + e.val; omega),
    ix2_of (idx_main_v151 (idx_main_v163 J)) (pos i) e (pos_eq i h J e hi hh he) he,
    ix2_of (idx_main_v153 (idx_main_v161 J)) (pos i) e (pos_eq i h J e hi hh he) he]
  rfl
theorem quarterK3 : val_main_v182 (F := Ideal) x0 x1 x2 x8 x10 J = head x0 x1 x2 x9 x10 x8 (n := 2) 2576 (by decide) i h 3 e := by
  rw [val_main_v182_apply, val_main_v179_apply, val_main_v181_apply, val_main_v171_apply, val_main_v172_apply, val_main_v166_apply,
    val_main_v166_apply, val_main_v178_apply, val_main_v180_apply, val_main_v168_apply, val_main_v170_apply, val_main_v167_apply,
    val_main_v169_apply,
    normK x0 x1 x2 x8 i h (idx_main_v166 (idx_main_v171 J)) (seat 2 e) hi hh (by show 64 + (J 3).val = 32 * 2 + e.val; omega),
    normK x0 x1 x2 x8 i h (idx_main_v166 (idx_main_v172 J)) (seat 3 e) hi hh (by show 64 + (32 + (J 3).val) = 32 * 3 + e.val; omega),
    ix2_of (idx_main_v168 (idx_main_v180 J)) (pos i) e (pos_eq i h J e hi hh he) he,
    ix2_of (idx_main_v170 (idx_main_v178 J)) (pos i) e (pos_eq i h J e hi hh he) he]
  rfl
end

/-- The index of a quarter's place. -/
def atK (I : S8x8192x2x128.Idx) (e : Fin 32) : S8x8192x2x32.Idx := fun a => match a with
  | ⟨0, _⟩ => ⟨(I 0).val, (I 0).isLt⟩
  | ⟨1, _⟩ => ⟨(I 1).val, (I 1).isLt⟩
  | ⟨2, _⟩ => ⟨(I 2).val, (I 2).isLt⟩
  | ⟨3, _⟩ => e

/-- The quarters side by side. -/
theorem catK (I : S8x8192x2x128.Idx) (i : Fin 65536) (h : Fin 2) (p : Fin 4) (e : Fin 32) (hi : (I 0).val * 8192 + (I 1).val = i.val)
    (hh : (I 2).val = h.val) (hd : 32 * p.val + e.val = (I 3).val) :
    val_main_v183 (F := Ideal) x0 x1 x2 x8 x9 x10 I = head x0 x1 x2 x9 x10 x8 (n := 2) 2576 (by decide) i h p e := by
  unfold val_main_v183
  match p, hd with
  | 0, hd =>
    refine (concatenate_apply_piece (t := S8x8192x2x128) 3 _ _ I 0 ?_ S8x8192x2x32 (val_main_v160 (F := Ideal) x0 x1 x2 x8 x9) ?_ rfl 0 ?_ (atK I e) (fun b hb => ?_) ?_).trans
      (quarterK0 x0 x1 x2 x8 x9 x10 i h (atK I e) e hi hh rfl)
    · show 0 < 4; decide
    · rfl
    · rfl
    · match b, hb with
      | ⟨0, _⟩, _ => rfl
      | ⟨1, _⟩, _ => rfl
      | ⟨2, _⟩, _ => rfl
      | ⟨3, _⟩, hb => exact absurd rfl hb
    · exact hd
  | 1, hd =>
    refine (concatenate_apply_piece (t := S8x8192x2x128) 3 _ _ I 1 ?_ S8x8192x2x32 (val_main_v177 (F := Ideal) x0 x1 x2 x8 x10) ?_ rfl 32 ?_ (atK I e) (fun b hb => ?_) ?_).trans
      (quarterK1 x0 x1 x2 x8 x9 x10 i h (atK I e) e hi hh rfl)
    · show 1 < 4; decide
    · rfl
    · rfl
    · match b, hb with
      | ⟨0, _⟩, _ => rfl
      | ⟨1, _⟩, _ => rfl
      | ⟨2, _⟩, _ => rfl
      | ⟨3, _⟩, hb => exact absurd rfl hb
    · exact hd
  | 2, hd =>
    refine (concatenate_apply_piece (t := S8x8192x2x128) 3 _ _ I 2 ?_ S8x8192x2x32 (val_main_v165 (F := Ideal) x0 x1 x2 x8 x9) ?_ rfl 64 ?_ (atK I e) (fun b hb => ?_) ?_).trans
      (quarterK2 x0 x1 x2 x8 x9 x10 i h (atK I e) e hi hh rfl)
    · show 2 < 4; decide
    · rfl
    · rfl
    · match b, hb with
      | ⟨0, _⟩, _ => rfl
      | ⟨1, _⟩, _ => rfl
      | ⟨2, _⟩, _ => rfl
      | ⟨3, _⟩, hb => exact absurd rfl hb
    · exact hd
  | 3, hd =>
    refine (concatenate_apply_piece (t := S8x8192x2x128) 3 _ _ I 3 ?_ S8x8192x2x32 (val_main_v182 (F := Ideal) x0 x1 x2 x8 x10) ?_ rfl 96 ?_ (atK I e) (fun b hb => ?_) ?_).trans
      (quarterK3 x0 x1 x2 x8 x9 x10 i h (atK I e) e hi hh rfl)
    · show 3 < 4; decide
    · rfl
    · rfl
    · match b, hb with
      | ⟨0, _⟩, _ => rfl
      | ⟨1, _⟩, _ => rfl
      | ⟨2, _⟩, _ => rfl
      | ⟨3, _⟩, hb => exact absurd rfl hb
    · exact hd

/-- The reference's keys. -/
theorem keys_eq : val_main_v191 (F := Ideal) x0 x1 x2 x8 x9 x10 = keys x0 x1 x2 x8 x9 x10 := by
  funext y
  have h0 : (y 0).val < 65536 := (y 0).isLt
  have h1 : (y 1).val < 256 := (y 1).isLt
  rw [val_main_v191_apply, val_main_v190_apply,
    catK x0 x1 x2 x8 x9 x10 _ (y 0) ⟨(y 1).val / 128, by omega⟩ (quarter (y 1).val) (place (y 1).val)
      (by show ((y 0).val * 256 + (y 1).val) / 2097152 * 8192 + ((y 0).val * 256 + (y 1).val) / 256 % 8192 = (y 0).val; omega)
      (by show ((y 0).val * 256 + (y 1).val) / 128 % 2 = (y 1).val / 128; omega)
      (by show 32 * ((y 1).val % 128 / 32) + (y 1).val % 32 = ((y 0).val * 256 + (y 1).val) % 128; omega)]
  rfl

end Cert.InRefKey

end
-- ==== Proof.InPair.lean ====
/- The input projection claims: the reference's frame, that naming the scale keeps the kernel, and that kernel and reference leave the same arrays. -/
module

public import proofs.«01_k».proof.Defs
public import proofs.«01_k».proof.Proof.InArr
public import proofs.«01_k».proof.Proof.InRefRows
public import proofs.«01_k».proof.Proof.InRefGate
public import proofs.«01_k».proof.Proof.InRefHead
public import proofs.«01_k».proof.Proof.InRefKey
public import proofs.«01_k».proof.Proof.Gen.InProjRefIdeal.Run
public import Idealize.ShloMosaic.Lib.Quiescent

@[expose] public section

noncomputable section

namespace Cert.InPair

open Idealize.ShloMosaic Idealize.ShloMosaic.TcCoe Idealize.SL.Sem

/-- The reference's frame. -/
theorem ref_frame : Cert.quiescent_InProjRefIdeal := fun m g _ =>
  (θ_run _ _ _).mono (fun r h => ⟨fun c => (h c).2.2.2.2.2.2, Idealize.ShloMosaic.sem_eq_zero_of_no_sems (by decide) r.2⟩)
    (Cert.InProjRefIdeal.Value.run m g)

/-- The one constant that has a name is its value's. -/
theorem preserves : Cert.preserves_InProj_InProjIdeal :=
  IdealRules.named_const.statement Cert.InProjIdeal.κ "q_scale" .f32 0x3E0293EE#32 (((Real.sqrt 128)⁻¹ * (Real.log 2)⁻¹ : ℝ) : EReal) rfl

/-- Kernel and reference end with the same six arrays. -/
theorem algebraic : Cert.algebraic_InProjIdeal_InProjRefIdeal := by
  intro m g m' g' hpre hagree
  refine ⟨fun c => Cert.InArr.result16 m c, fun c => Cert.InArr.result17 m c, fun c => Cert.InArr.result18 m c, fun c => Cert.InArr.result19 m c,
    fun c => Cert.InArr.result20 m c, fun c => Cert.InArr.result21 m c, ?_, ?_⟩
  · refine (θ_run _ _ _).mono (fun r h c => ?_) (Cert.InProjIdeal.Value.run_blocks m g)
    obtain ⟨h0, h1, h2, h3, h4, h5, hk⟩ := h c
    exact ⟨h0.trans (Cert.InArr.final16 m c), h1.trans (Cert.InArr.final17 m c), h2.trans (Cert.InArr.final18 m c), h3.trans (Cert.InArr.final19 m c),
      h4.trans (Cert.InArr.final20 m c), h5.trans (Cert.InArr.final21 m c), hk⟩
  · refine (θ_run _ _ _).mono (fun r h c => ?_) (Cert.InProjRefIdeal.Value.run m' g')
    obtain ⟨h0, h1, h2, h3, h4, h5, hk⟩ := h c
    obtain ⟨e0, e1, e2, e3, e4, e5, e6, e7, e8, e9, e10⟩ := hagree c
    refine ⟨h0.trans ?_, h1.trans ?_, h2.trans ?_, h3.trans ?_, h4.trans ?_, h5.trans ?_, hk⟩
    · rw [Cert.InProjRefIdeal.Read.val_main_v184_eq, Cert.InRefRows.qkv_eq]
      show Cert.InRes.qkv (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) = _
      rw [e0, e1, e2]
    · rw [Cert.InProjRefIdeal.Read.val_main_v185_eq, Cert.InRefRows.zed_eq]
      show Cert.InRes.zed (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) = _
      rw [e0, e1, e2]
    · rw [Cert.InProjRefIdeal.Read.val_main_v187_eq, Cert.InRefGate.gates_eq]
      show Cert.InRes.gates (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg3)) (m' ((c.tc : Thread Cert.InProjRefIdeal.nD Cert.InProjRefIdeal.τ).loc Cert.InProjRefIdeal.main_arg4)) (m' ((c.tc : Thread Cert.InProjRefIdeal.nD Cert.InProjRefIdeal.τ).loc Cert.InProjRefIdeal.main_arg5)) (m' ((c.tc : Thread Cert.InProjRefIdeal.nD Cert.InProjRefIdeal.τ).loc Cert.InProjRefIdeal.main_arg6)) = _
      rw [e0, e1, e2, e3, e4, e5, e6]
    · rw [Cert.InProjRefIdeal.Read.val_main_v189_eq, Cert.InRefHead.queries_eq]
      show Cert.InRes.queries (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg7)) (m' ((c.tc : Thread Cert.InProjRefIdeal.nD Cert.InProjRefIdeal.τ).loc Cert.InProjRefIdeal.main_arg9)) (m' ((c.tc : Thread Cert.InProjRefIdeal.nD Cert.InProjRefIdeal.τ).loc Cert.InProjRefIdeal.main_arg10)) = _
      rw [e0, e1, e2, e7, e9, e10]
    · rw [Cert.InProjRefIdeal.Read.val_main_v191_eq, Cert.InRefKey.keys_eq]
      show Cert.InRes.keys (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) (m' ((c.tc : Thread Cert.InProjRefIdeal.nD Cert.InProjRefIdeal.τ).loc Cert.InProjRefIdeal.main_arg8)) (m' ((c.tc : Thread Cert.InProjRefIdeal.nD Cert.InProjRefIdeal.τ).loc Cert.InProjRefIdeal.main_arg9)) (m' ((c.tc : Thread Cert.InProjRefIdeal.nD Cert.InProjRefIdeal.τ).loc Cert.InProjRefIdeal.main_arg10)) = _
      rw [e0, e1, e2, e8, e9, e10]
    · rw [Cert.InProjRefIdeal.Read.val_main_v193_eq, Cert.InRefRows.vt_eq]
      show Cert.InRes.vt (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1)) (m' ((c.tc : Thread Cert.InProjRefIdeal.nD Cert.InProjRefIdeal.τ).loc Cert.InProjRefIdeal.main_arg2)) = _
      rw [e0, e1, e2]

end Cert.InPair

end
-- ==== Proof.SampleHost.lean ====
/- What the output projection and feed-forward kernel's host part, at the sample's shapes, hands its pallas call, at an index over the extended reals: the
   two halves of the output projection, the norms' weights as rows, and the feed-forward's weights. -/
module

public import proofs.«01_k».proof.Proof.MlpHost
public import proofs.«01_k».proof.Proof.Gen.SampleIdeal.Value
public import Idealize.ShloMosaic.Lib.Pointwise

@[expose] public section

set_option maxRecDepth 16384

noncomputable section

namespace Cert.SampleHost

open Cert.SampleIdeal Cert.SampleIdeal.Gen
open Idealize.ShloMosaic Idealize.ShloMosaic.TcCoe Idealize.SL.Sem Idealize.ShloMosaic.StableHlo

variable (m : (ℓ : Loc nD τ sig) → Buf (Elt Ideal) ℓ)

/-- The first half of the output projection: its first 512 rows. -/
theorem v1 (c : Dev nD) (k : Fin 512) (j : Fin 1024) (i : S1024x1024.Idx) (h0 : (i 0).val = k.val) (h1 : (i 1).val = j.val) :
    (V m c main_v1 : Vec Ideal S512x1024 .bf16) (ix2 k j) = m ((c : Thread nD τ).loc main_arg3) i := by
  unfold V
  after_results_simp
  refine congrArg (m ((c : Thread nD τ).loc main_arg3)) (funext fun a => Fin.ext ?_)
  match a with
  | ⟨0, _⟩ => show 0 + k.val = (i 0).val; omega
  | ⟨1, _⟩ => show 0 + j.val = (i 1).val; omega

/-- The second half: its last 512 rows. -/
theorem v3 (c : Dev nD) (k : Fin 512) (j : Fin 1024) (i : S1024x1024.Idx) (h0 : (i 0).val = 512 + k.val) (h1 : (i 1).val = j.val) :
    (V m c main_v3 : Vec Ideal S512x1024 .bf16) (ix2 k j) = m ((c : Thread nD τ).loc main_arg3) i := by
  unfold V
  after_results_simp
  refine congrArg (m ((c : Thread nD τ).loc main_arg3)) (funext fun a => Fin.ext ?_)
  match a with
  | ⟨0, _⟩ => show 512 + k.val = (i 0).val; omega
  | ⟨1, _⟩ => show 0 + j.val = (i 1).val; omega

theorem v4 (c : Dev nD) (j : Fin 1024) : (V m c main_v4 : Vec Ideal S1x1024 .f32) (ix2 0 j) = m ((c : Thread nD τ).loc main_arg4) (ix1 j) := by
  unfold V
  after_results_simp
  exact MlpHost.row _ j

theorem v5 (c : Dev nD) (j : Fin 1024) : (V m c main_v5 : Vec Ideal S1x1024 .f32) (ix2 0 j) = m ((c : Thread nD τ).loc main_arg5) (ix1 j) := by
  unfold V
  after_results_simp
  exact MlpHost.row _ j

theorem v8 (c : Dev nD) (j : Fin 1024) : (V m c main_v8 : Vec Ideal S1x1024 .f32) (ix2 0 j) = m ((c : Thread nD τ).loc main_arg8) (ix1 j) := by
  unfold V
  after_results_simp
  exact MlpHost.row _ j

theorem v6 (c : Dev nD) : (V m c main_v6 : Vec Ideal S1024x4096 .bf16) = m ((c : Thread nD τ).loc main_arg6) := by
  unfold V
  after_results_simp
  rfl

theorem v7 (c : Dev nD) : (V m c main_v7 : Vec Ideal S4096x1024 .bf16) = m ((c : Thread nD τ).loc main_arg7) := by
  unfold V
  after_results_simp
  rfl

end Cert.SampleHost

end
-- ==== Proof.SampleArr.lean ====
/- What the output projection and feed-forward kernel's result array holds at the sample's shapes over the extended reals, index by index: row `r` is the
   layer's row of the input's row `r` and the two head groups' rows `r`. -/
module

public import proofs.«01_k».proof.Proof.MlpValue
public import proofs.«01_k».proof.Proof.SampleHost

@[expose] public section

set_option maxRecDepth 16384

noncomputable section

namespace Cert.SampleArr

open Cert.SampleIdeal Cert.SampleIdeal.Gen Cert.MlpPay Cert.MlpValue
open Idealize.ShloMosaic Idealize.ShloMosaic.TcCoe Idealize.SL.Sem
open Idealize.ShloMosaic.Pipeline (Dat)

section
variable (x : Vec Ideal S16384x1024 .f32) (a b : Vec Ideal S16384x512 .bf16) (wo : Vec Ideal S1024x1024 .f32) (n1 n2 : Vec Ideal S1024 .f32)
  (up : Vec Ideal S1024x4096 .f32) (down : Vec Ideal S4096x1024 .f32) (n3 : Vec Ideal S1024 .f32)

/-- A row after the first residual. -/
def first (r : Fin 16384) : Fin 1024 → EReal :=
  mid (fun j => x (ix2 r j)) (fun k => a (ix2 r k)) (fun k => b (ix2 r k)) (fun k j => wo (ix2 (Fin.castAdd 512 k : Fin 1024) j))
    (fun k j => wo (ix2 (Fin.natAdd 512 k : Fin 1024) j)) (fun j => n1 (ix1 j))

/-- The layer's result. -/
def mlp : Vec Ideal S16384x1024 .f32 := fun i =>
  second (first x a b wo n1 (i 0)) (fun j => n2 (ix1 j)) (fun k f => up (ix2 k f)) (fun f j => down (ix2 f j)) (fun j => n3 (ix1 j)) (i 1)
end

variable (m : (ℓ : Loc nD τ sig) → Buf (Elt Ideal) ℓ)

/-- The body is the one of the prompt's call: blocks have the same shapes. -/
theorem out_same : @Cert.SampleIdeal.Gen.out0_10 Ideal _ = @Cert.MlpIdeal.Gen.out0_10 Ideal _ := rfl

/-! ## The blocks' places -/

theorem idx_lt : ∀ t : Fin cfg0.N, win0_10.index t 0 < 32 ∧ win0_10.index t 1 = 0 :=
  (by decide +kernel : ∀ t : Fin grid0.N, win0_10.index t 0 < 32 ∧ win0_10.index t 1 = 0)
theorem idx_onto : ∀ b : Fin 32, ∃ t : Fin cfg0.N, win0_10.index t 0 = b.val :=
  (by decide +kernel : ∀ b : Fin 32, ∃ t : Fin grid0.N, win0_10.index t 0 = b.val)

section
variable (c : Dev nD) (t : Fin cfg0.N)

/-- The array row a block's row is. -/
def arow (r : Fin 512) : Fin 16384 := ⟨win0_10.index t 0 * 512 + r.val, by have := idx_lt t; have := r.isLt; omega⟩

theorem iblk0 (r : Fin 512) (j : Fin 1024) : (iblk m c 0 t : Vec Ideal S512x1024 .f32) (ix2 r j)
    = m ((c : Thread nD τ).loc main_arg0) (ix2 (arow t r) j) := by
  unfold iblk
  rw [View.read_apply]
  refine (congrFun (V_main_arg0 m c) _).trans (congrArg _ (funext fun a => Fin.ext ?_))
  match a with
  | ⟨0, _⟩ => show win0_10.index t 0 * 512 + 1 * r.val = win0_10.index t 0 * 512 + r.val; omega
  | ⟨1, _⟩ => show 0 * 1024 + 1 * j.val = j.val; omega

theorem iblk1 (r k : Fin 512) : (iblk m c 1 t : Vec Ideal S512x512 .bf16) (ix2 r k)
    = m ((c : Thread nD τ).loc main_arg1) (ix2 (arow t r) k) := by
  unfold iblk
  rw [View.read_apply]
  refine (congrFun (V_main_arg1 m c) _).trans (congrArg _ (funext fun a => Fin.ext ?_))
  match a with
  | ⟨0, _⟩ => show win0_10.index t 0 * 512 + 1 * r.val = win0_10.index t 0 * 512 + r.val; omega
  | ⟨1, _⟩ => show 0 * 512 + 1 * k.val = k.val; omega

theorem iblk2 (r k : Fin 512) : (iblk m c 2 t : Vec Ideal S512x512 .bf16) (ix2 r k)
    = m ((c : Thread nD τ).loc main_arg2) (ix2 (arow t r) k) := by
  unfold iblk
  rw [View.read_apply]
  refine (congrFun (V_main_arg2 m c) _).trans (congrArg _ (funext fun a => Fin.ext ?_))
  match a with
  | ⟨0, _⟩ => show win0_10.index t 0 * 512 + 1 * r.val = win0_10.index t 0 * 512 + r.val; omega
  | ⟨1, _⟩ => show 0 * 512 + 1 * k.val = k.val; omega

theorem iblk3 (k : Fin 512) (j : Fin 1024) : (iblk m c 3 t : Vec Ideal S512x1024 .bf16) (ix2 k j)
    = m ((c : Thread nD τ).loc main_arg3) (ix2 (Fin.castAdd 512 k : Fin 1024) j) := by
  refine Eq.trans ?_ (SampleHost.v1 m c k j _ rfl rfl)
  unfold iblk
  rw [View.read_apply]
  refine congrArg (V m c main_v1) (funext fun a => Fin.ext ?_)
  match a with
  | ⟨0, _⟩ => show 0 * 512 + 1 * k.val = k.val; omega
  | ⟨1, _⟩ => show 0 * 1024 + 1 * j.val = j.val; omega

theorem iblk4 (k : Fin 512) (j : Fin 1024) : (iblk m c 4 t : Vec Ideal S512x1024 .bf16) (ix2 k j)
    = m ((c : Thread nD τ).loc main_arg3) (ix2 (Fin.natAdd 512 k : Fin 1024) j) := by
  refine Eq.trans ?_ (SampleHost.v3 m c k j _ rfl rfl)
  unfold iblk
  rw [View.read_apply]
  refine congrArg (V m c main_v3) (funext fun a => Fin.ext ?_)
  match a with
  | ⟨0, _⟩ => show 0 * 512 + 1 * k.val = k.val; omega
  | ⟨1, _⟩ => show 0 * 1024 + 1 * j.val = j.val; omega

theorem iblk5 (j : Fin 1024) : (iblk m c 5 t : Vec Ideal S1x1024 .f32) (ix2 0 j) = m ((c : Thread nD τ).loc main_arg4) (ix1 j) := by
  refine Eq.trans ?_ (SampleHost.v4 m c j)
  unfold iblk
  rw [View.read_apply]
  refine congrArg (V m c main_v4) (funext fun a => Fin.ext ?_)
  match a with
  | ⟨0, _⟩ => rfl
  | ⟨1, _⟩ => show 0 * 1024 + 1 * j.val = j.val; omega

theorem iblk6 (j : Fin 1024) : (iblk m c 6 t : Vec Ideal S1x1024 .f32) (ix2 0 j) = m ((c : Thread nD τ).loc main_arg5) (ix1 j) := by
  refine Eq.trans ?_ (SampleHost.v5 m c j)
  unfold iblk
  rw [View.read_apply]
  refine congrArg (V m c main_v5) (funext fun a => Fin.ext ?_)
  match a with
  | ⟨0, _⟩ => rfl
  | ⟨1, _⟩ => show 0 * 1024 + 1 * j.val = j.val; omega

theorem iblk7 (k : Fin 1024) (f : Fin 4096) : (iblk m c 7 t : Vec Ideal S1024x4096 .bf16) (ix2 k f)
    = m ((c : Thread nD τ).loc main_arg6) (ix2 k f) := by
  refine Eq.trans ?_ (congrFun (SampleHost.v6 m c) _)
  unfold iblk
  rw [View.read_apply]
  refine congrArg (V m c main_v6) (funext fun a => Fin.ext ?_)
  match a with
  | ⟨0, _⟩ => show 0 * 1024 + 1 * k.val = k.val; omega
  | ⟨1, _⟩ => show 0 * 4096 + 1 * f.val = f.val; omega

theorem iblk8 (f : Fin 4096) (j : Fin 1024) : (iblk m c 8 t : Vec Ideal S4096x1024 .bf16) (ix2 f j)
    = m ((c : Thread nD τ).loc main_arg7) (ix2 f j) := by
  refine Eq.trans ?_ (congrFun (SampleHost.v7 m c) _)
  unfold iblk
  rw [View.read_apply]
  refine congrArg (V m c main_v7) (funext fun a => Fin.ext ?_)
  match a with
  | ⟨0, _⟩ => show 0 * 4096 + 1 * f.val = f.val; omega
  | ⟨1, _⟩ => show 0 * 1024 + 1 * j.val = j.val; omega

theorem iblk9 (j : Fin 1024) : (iblk m c 9 t : Vec Ideal S1x1024 .f32) (ix2 0 j) = m ((c : Thread nD τ).loc main_arg8) (ix1 j) := by
  refine Eq.trans ?_ (SampleHost.v8 m c j)
  unfold iblk
  rw [View.read_apply]
  refine congrArg (V m c main_v8) (funext fun a => Fin.ext ?_)
  match a with
  | ⟨0, _⟩ => rfl
  | ⟨1, _⟩ => show 0 * 1024 + 1 * j.val = j.val; omega
end

variable (c : Dev nD)

/-- The layer's result on what the launch was given. -/
abbrev result : Vec Ideal S16384x1024 .f32 :=
  mlp (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What a point writes back is its block of the layer's result. -/
theorem flushed_eq (t : Fin cfg0.N) : (dats m 0 c).flushed 10 t = ((cfg0.win 10).blk t).view.read (Elt Ideal) (result m c) := by
  rw [Value.flushed10]
  funext (y : S512x1024.Idx)
  obtain ⟨l0, l1⟩ := idx_lt t
  have y0 : (y 0).val < 512 := (y 0).isLt
  have y1 : (y 1).val < 1024 := (y 1).isLt
  rw [View.read_apply]
  have e : ((cfg0.win 10).blk t).view.emb y = (ix2 (arow t (y 0)) (y 1) : S16384x1024.Idx) := by
    refine funext fun a => Fin.ext ?_
    match a with
    | ⟨0, _⟩ => show win0_10.index t 0 * 512 + 1 * (y 0).val = win0_10.index t 0 * 512 + (y 0).val; omega
    | ⟨1, _⟩ => show win0_10.index t 1 * 1024 + 1 * (y 1).val = (y 1).val; omega
  rw [e]
  have ey : y = (ix2 (y 0) (y 1) : S512x1024.Idx) := by
    refine funext fun a => ?_
    match a with
    | ⟨0, _⟩ => rfl
    | ⟨1, _⟩ => rfl
  refine (congrArg (out0_10 (iblk m c 0 t) (iblk m c 1 t) (iblk m c 2 t) (iblk m c 3 t) (iblk m c 4 t) (iblk m c 5 t) (iblk m c 6 t)
    (iblk m c 7 t) (iblk m c 8 t) (iblk m c 9 t)) ey).trans ?_
  refine (congrFun (congrFun (congrFun (congrFun (congrFun (congrFun (congrFun (congrFun (congrFun (congrFun (congrFun out_same _) _) _) _) _) _) _) _) _) _) _).trans ?_
  refine (block_apply _ _ _ _ _ _ _ _ _ _ (⟨(y 0).val, y0⟩ : Fin 512) (⟨(y 1).val, y1⟩ : Fin 1024)).trans ?_
  unfold brow
  simp only [iblk0 m c t, iblk1 m c t, iblk2 m c t, iblk3 m c t, iblk4 m c t, iblk5 m c t, iblk6 m c t, iblk7 m c t, iblk8 m c t, iblk9 m c t]
  rfl

/-- Every index of the result is in some point's block. -/
theorem covered (i : S16384x1024.Idx) : ∃ t : Fin cfg0.N, (cfg0.win 10).flush t = true ∧ i ∈ ((cfg0.win 10).blk t).view.set := by
  have h0 : (i 0).val < 16384 := (i 0).isLt
  have h1 : (i 1).val < 1024 := (i 1).isLt
  obtain ⟨t, e0⟩ := idx_onto ⟨(i 0).val / 512, by omega⟩
  dsimp only at e0
  obtain ⟨l0, l1⟩ := idx_lt t
  refine ⟨t, flush0_10 t, ?_⟩
  have h := ((cfg0.win 10).blk t).view.emb_mem_set (ix2 (⟨(i 0).val % 512, Nat.mod_lt _ (by decide)⟩ : Fin 512) (⟨(i 1).val, h1⟩ : Fin 1024))
  refine (congrArg (· ∈ ((cfg0.win 10).blk t).view.set) (funext fun a => Fin.ext ?_)).mp h
  match a with
  | ⟨0, _⟩ => show win0_10.index t 0 * 512 + 1 * ((i 0).val % 512) = (i 0).val; omega
  | ⟨1, _⟩ => show win0_10.index t 1 * 1024 + 1 * (i 1).val = (i 1).val; omega

/-- So the result array ends holding the layer's result. -/
theorem final : (dats m 0 c).arrAt 10 cfg0.N = result m c :=
  (dats m 0 c).arrAt_eq_of_cover 10 _ (fun t _ => flushed_eq m c t) covered

end Cert.SampleArr

end
-- ==== Proof.SampleRefValue.lean ====
/- What the output projection and feed-forward reference computes at the sample's shapes over the extended reals, index by index: the same rows as the
   kernel's. -/
module

public import proofs.«01_k».proof.Proof.MlpRefValue
public import proofs.«01_k».proof.Proof.SampleArr
public import proofs.«01_k».proof.Proof.Gen.SampleRefIdeal.Read

@[expose] public section

set_option maxRecDepth 16384

noncomputable section

namespace Cert.SampleRefValue

open Cert.SampleRefIdeal Cert.SampleRefIdeal.Gen Cert.SampleRefIdeal.Read Cert.SampleArr Cert.MlpValue Cert.MlpPay
open Idealize.ShloMosaic
open Cert.MlpRefValue (ix2_of ix1_of)

variable (x0 : Vec Ideal S16384x1024 .f32) (x1 x2 : Vec Ideal S16384x512 .bf16) (x3 : Vec Ideal S1024x1024 .f32) (x4 x5 : Vec Ideal S1024 .f32)
  (x6 : Vec Ideal S1024x4096 .f32) (x7 : Vec Ideal S4096x1024 .f32) (x8 : Vec Ideal S1024 .f32)

/-- The joined heads: the first group's columns … -/
theorem cat_left (r : Fin 16384) (k : Fin 512) : val_main_v0 (F := Ideal) x1 x2 (ix2 r (Fin.castAdd 512 k : Fin 1024)) = x1 (ix2 r k) := by
  unfold val_main_v0
  refine concatenate_pair_apply_left (t := S16384x1024) (1 : Fin 2) x1 x2 _ _ rfl (ix2 r k) ?_
  intro b
  match b with
  | ⟨0, _⟩ => rfl
  | ⟨1, _⟩ => rfl

/-- … then the second group's. -/
theorem cat_right (r : Fin 16384) (k : Fin 512) : val_main_v0 (F := Ideal) x1 x2 (ix2 r (Fin.natAdd 512 k : Fin 1024)) = x2 (ix2 r k) := by
  unfold val_main_v0
  refine concatenate_pair_apply_right (t := S16384x1024) (1 : Fin 2) x1 x2 _ _ rfl rfl (ix2 r k) ?_ ?_
  · intro b hb
    match b, hb with
    | ⟨0, _⟩, _ => rfl
    | ⟨1, _⟩, hb => exact absurd rfl hb
  · exact Nat.add_comm _ _

/-- The output projection. -/
theorem mix_apply (r : Fin 16384) (j : Fin 1024) : val_main_v2 (F := Ideal) x1 x2 x3 (ix2 r j)
    = halves (fun k => x1 (ix2 r k)) (fun k => x2 (ix2 r k)) (fun k j => x3 (ix2 (Fin.castAdd 512 k : Fin 1024) j))
        (fun k j => x3 (ix2 (Fin.natAdd 512 k : Fin 1024) j)) j := by
  rw [val_main_v2_apply]
  have e : ∀ k : Fin 1024, val_main_v1 (F := Ideal) x1 x2 (lidx_main_v2 (ix2 r j) k) * x3 (ridx_main_v2 (ix2 r j) k)
      = val_main_v0 (F := Ideal) x1 x2 (ix2 r k) * x3 (ix2 k j) := by
    intro k
    rw [val_main_v1_apply]
    exact congrArg₂ (· * ·) (congrArg (val_main_v0 (F := Ideal) x1 x2) (ix2_of _ r k rfl rfl)) (congrArg x3 (ix2_of _ k j rfl rfl))
  rw [Finset.sum_congr rfl fun k _ => e k]
  refine (Fin.sum_univ_add (a := 512) (b := 512) (fun k : Fin (512 + 512) => val_main_v0 (F := Ideal) x1 x2 (ix2 r (k : Fin 1024)) * x3 (ix2 (k : Fin 1024) j))).trans ?_
  unfold halves
  exact congrArg₂ (· + ·) (Finset.sum_congr rfl fun k _ => congrArg (· * _) (cat_left x1 x2 r k))
    (Finset.sum_congr rfl fun k _ => congrArg (· * _) (cat_right x1 x2 r k))

/-- A row after the first residual. -/
theorem first_apply (r : Fin 16384) (j : Fin 1024) : val_main_v16 (F := Ideal) x0 x1 x2 x3 x4 (ix2 r j) = first x0 x1 x2 x3 x4 r j := by
  unfold first mid MlpPay.norm factor
  rw [val_main_v16_apply, val_main_v15_apply, val_main_v12_apply, val_main_v11_apply, val_main_v10_apply, val_main_v9_apply, val_main_v7_apply,
    val_main_v5_apply, val_main_v4_apply, val_main_v14_apply, val_main_v13_apply, mix_apply, val_main_v6_apply, val_main_v8_apply,
    val_main_cst_0_apply, val_main_cst_1_apply, val_main_cst_apply]
  rw [show (FloatOps.ofBits .f32 0x00000000#32 : Ideal .f32) = (0 : EReal) from Ideal.ofBits_zero_f32, zero_add]
  have s : ∀ k, val_main_v3 (F := Ideal) x1 x2 x3 (idx_main_v4 (idx_main_v5 (idx_main_v11 (ix2 r j))) k)
      = halves (fun k => x1 (ix2 r k)) (fun k => x2 (ix2 r k)) (fun k j => x3 (ix2 (Fin.castAdd 512 k : Fin 1024) j))
          (fun k j => x3 (ix2 (Fin.natAdd 512 k : Fin 1024) j)) k
        * halves (fun k => x1 (ix2 r k)) (fun k => x2 (ix2 r k)) (fun k j => x3 (ix2 (Fin.castAdd 512 k : Fin 1024) j))
          (fun k j => x3 (ix2 (Fin.natAdd 512 k : Fin 1024) j)) k := by
    intro k
    rw [val_main_v3_apply, ix2_of (idx_main_v4 (idx_main_v5 (idx_main_v11 (ix2 r j))) k) r k rfl rfl, mix_apply]
    rfl
  rw [Finset.sum_congr rfl fun k _ => s k, ix1_of (idx_main_v13 (idx_main_v14 (ix2 r j))) j rfl]
  rfl

/-- A row fed to the hidden layer. -/
theorem normed_apply (r : Fin 16384) (j : Fin 1024) : val_main_v29 (F := Ideal) x0 x1 x2 x3 x4 x5 (ix2 r j)
    = MlpPay.norm (first x0 x1 x2 x3 x4 r) (fun j => x5 (ix1 j)) j := by
  unfold MlpPay.norm factor
  rw [val_main_v29_apply, val_main_v26_apply, val_main_v25_apply, val_main_v24_apply, val_main_v23_apply, val_main_v21_apply,
    val_main_v19_apply, val_main_v18_apply, val_main_v28_apply, val_main_v27_apply, first_apply, val_main_v20_apply, val_main_v22_apply,
    val_main_cst_3_apply, val_main_cst_4_apply, val_main_cst_2_apply]
  rw [show (FloatOps.ofBits .f32 0x00000000#32 : Ideal .f32) = (0 : EReal) from Ideal.ofBits_zero_f32, zero_add]
  have s : ∀ k, val_main_v17 (F := Ideal) x0 x1 x2 x3 x4 (idx_main_v18 (idx_main_v19 (idx_main_v25 (ix2 r j))) k)
      = first x0 x1 x2 x3 x4 r k * first x0 x1 x2 x3 x4 r k := by
    intro k
    rw [val_main_v17_apply, ix2_of (idx_main_v18 (idx_main_v19 (idx_main_v25 (ix2 r j))) k) r k rfl rfl, first_apply]
    rfl
  rw [Finset.sum_congr rfl fun k _ => s k, ix1_of (idx_main_v27 (idx_main_v28 (ix2 r j))) j rfl]
  rfl

/-- A hidden unit of a row. -/
theorem unit_apply (r : Fin 16384) (f : Fin 4096) : val_main_v32 (F := Ideal) x0 x1 x2 x3 x4 x5 x6 (ix2 r f)
    = MlpPay.unit (MlpPay.norm (first x0 x1 x2 x3 x4 r) (fun j => x5 (ix1 j))) (fun k => x6 (ix2 k f)) := by
  unfold MlpPay.unit
  rw [val_main_v32_apply, val_main_v31_apply, val_main_v30_apply, val_main_call0_v0_apply, val_main_call0_cst_apply]
  rw [show (FloatOps.ofBits .f32 0x00000000#32 : Ideal .f32) = (0 : EReal) from Ideal.ofBits_zero_f32]
  have s : ∀ k, val_main_v29 (F := Ideal) x0 x1 x2 x3 x4 x5 (lidx_main_v30 (ix2 r f) k) * x6 (ridx_main_v30 (ix2 r f) k)
      = MlpPay.norm (first x0 x1 x2 x3 x4 r) (fun j => x5 (ix1 j)) k * x6 (ix2 k f) := by
    intro k
    rw [ix2_of (lidx_main_v30 (ix2 r f) k) r k rfl rfl, normed_apply, ix2_of (ridx_main_v30 (ix2 r f) k) k f rfl rfl]
  rw [Finset.sum_congr rfl fun k _ => s k]
  rfl

/-- The feed-forward of a row. -/
theorem ffn_apply (r : Fin 16384) (j : Fin 1024) : val_main_v33 (F := Ideal) x0 x1 x2 x3 x4 x5 x6 x7 (ix2 r j)
    = ffn (MlpPay.norm (first x0 x1 x2 x3 x4 r) (fun j => x5 (ix1 j))) (fun k f => x6 (ix2 k f)) (fun f j => x7 (ix2 f j)) j := by
  rw [val_main_v33_apply]
  unfold ffn
  refine Finset.sum_congr rfl fun f _ => ?_
  rw [ix2_of (lidx_main_v33 (ix2 r j) f) r f rfl rfl, unit_apply, ix2_of (ridx_main_v33 (ix2 r j) f) f j rfl rfl]

/-- The reference's result is the layer's. -/
theorem result_eq : val_main_v47 (F := Ideal) x0 x1 x2 x3 x4 x5 x6 x7 x8 = mlp x0 x1 x2 x3 x4 x5 x6 x7 x8 := by
  funext i
  obtain ⟨r, j, rfl⟩ : ∃ (r : Fin 16384) (j : Fin 1024), i = ix2 r j := ⟨i 0, i 1, ix2_of i _ _ rfl rfl⟩
  show _ = second (first x0 x1 x2 x3 x4 r) _ _ _ _ j
  unfold second
  rw [val_main_v47_apply, first_apply, val_main_v46_apply, val_main_v43_apply, val_main_v42_apply, val_main_v41_apply, val_main_v40_apply,
    val_main_v38_apply, val_main_v36_apply, val_main_v35_apply, val_main_v45_apply, val_main_v44_apply, ffn_apply, val_main_v37_apply,
    val_main_v39_apply, val_main_cst_6_apply, val_main_cst_7_apply, val_main_cst_5_apply]
  rw [show (FloatOps.ofBits .f32 0x00000000#32 : Ideal .f32) = (0 : EReal) from Ideal.ofBits_zero_f32, zero_add]
  generalize hF : ffn (MlpPay.norm (first x0 x1 x2 x3 x4 r) fun j => x5 (ix1 j)) (fun k f => x6 (ix2 k f)) (fun f j => x7 (ix2 f j)) = F
  have s : ∀ k, val_main_v34 (F := Ideal) x0 x1 x2 x3 x4 x5 x6 x7 (idx_main_v35 (idx_main_v36 (idx_main_v42 (ix2 r j))) k) = F k * F k := by
    intro k
    rw [val_main_v34_apply, ix2_of (idx_main_v35 (idx_main_v36 (idx_main_v42 (ix2 r j))) k) r k rfl rfl, ffn_apply, hF]
    rfl
  rw [Finset.sum_congr rfl fun k _ => s k, ix1_of (idx_main_v44 (idx_main_v45 (ix2 r j))) j rfl]
  rfl

end Cert.SampleRefValue

end
-- ==== Proof.SamplePair.lean ====
/- The output projection and feed-forward claims at the sample's shapes: the reference's frame, and that kernel and reference leave the same array. -/
module

public import proofs.«01_k».proof.Defs
public import proofs.«01_k».proof.Proof.SampleRefValue
public import proofs.«01_k».proof.Proof.Gen.SampleRefIdeal.Run
public import Idealize.ShloMosaic.Lib.Quiescent

@[expose] public section

noncomputable section

namespace Cert.SamplePair

open Idealize.ShloMosaic Idealize.ShloMosaic.TcCoe Idealize.SL.Sem

/-- The reference's frame. -/
theorem ref_frame : Cert.quiescent_SampleRefIdeal := fun m g _ =>
  (θ_run _ _ _).mono (fun r h => ⟨fun c => (h c).2, Idealize.ShloMosaic.sem_eq_zero_of_no_sems (by decide) r.2⟩)
    (Cert.SampleRefIdeal.Value.run m g)

/-- Kernel and reference end with the same array. -/
theorem algebraic : Cert.algebraic_SampleIdeal_SampleRefIdeal := by
  intro m g m' g' hpre hagree
  refine ⟨fun c => Cert.SampleArr.result m c, ?_, ?_⟩
  · exact (θ_run _ _ _).mono (fun r h c => ⟨(h c).1.trans (Cert.SampleArr.final m c), (h c).2⟩) (Cert.SampleIdeal.Value.run_blocks m g)
  · refine (θ_run _ _ _).mono (fun r h c => ⟨(h c).1.trans ?_, (h c).2⟩) (Cert.SampleRefIdeal.Value.run m' g')
    obtain ⟨e0, e1, e2, e3, e4, e5, e6, e7, e8⟩ := hagree c
    rw [Cert.SampleRefIdeal.Read.val_main_v47_eq, Cert.SampleRefValue.result_eq, e0, e1, e2, e3, e4, e5, e6, e7, e8]

end Cert.SamplePair

end
-- ==== Proof.SampleBits.lean ====
/- The output projection and feed-forward kernel's frame as printed, at the sample's shapes: the same program as the one read over the extended reals, at
   machine words. -/
module

public import proofs.«01_k».proof.Defs
public import proofs.«01_k».proof.Proof.Gen.Sample
public import proofs.«01_k».proof.Proof.Gen.SampleIdeal.Value

@[expose] public section

set_option maxRecDepth 16384

noncomputable section

namespace Cert.SampleBits

open Idealize.ShloMosaic Idealize.ShloMosaic.TcCoe Idealize.ShloMosaic.Tactic Idealize.SL.Sem

/-- The frame claim of the program read at any floats, at machine words. -/
def Framed : Prop :=
  ∀ (m : (ℓ : Loc Cert.SampleIdeal.nD Cert.SampleIdeal.τ Cert.SampleIdeal.sig) → Buf (Elt Bits) ℓ) (g : Dev Cert.SampleIdeal.nD → PrngReg), True →
    θ_run (Cert.SampleIdeal.defs (F := Bits)) (onTc (τ := Cert.SampleIdeal.τ) (Cert.SampleIdeal.main (F := Bits))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ r.2.sem = fun _ => 0)

theorem framed : Framed := fun m g _ => Cert.SampleIdeal.Gen.frame m g

/-- The two printed programs are one and the same. -/
theorem same : Framed = Cert.quiescent_Sample := by sl_kernel_rfl

/-- The printed kernel's frame. -/
theorem frame : Cert.quiescent_Sample := same ▸ framed

end Cert.SampleBits

end
-- ==== Proof.lean ====
module

public import proofs.«01_k».proof.Defs
public import proofs.«01_k».proof.Proof.Gen.Attn
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnRefIdeal
public import proofs.«01_k».proof.Proof.Gen.Pre_finite_queries_and_keys
public import proofs.«01_k».proof.Proof.Gen.AttnRefIdeal.Run
public import proofs.«01_k».proof.Proof.AttnLaunch
public import proofs.«01_k».proof.Proof.AttnPair
public import proofs.«01_k».proof.Proof.AttnBits
public import proofs.«01_k».proof.Proof.Gen.AttnRefIdeal.Read
public import proofs.«01_k».proof.Proof.Gen.Mlp
public import proofs.«01_k».proof.Proof.Gen.MlpIdeal
public import proofs.«01_k».proof.Proof.Gen.MlpIdeal.Value
public import proofs.«01_k».proof.Proof.Gen.MlpRefIdeal
public import proofs.«01_k».proof.Proof.Gen.MlpRefIdeal.Run
public import proofs.«01_k».proof.Proof.Gen.MlpRefIdeal.Read
public import proofs.«01_k».proof.Proof.MlpPair
public import proofs.«01_k».proof.Proof.MlpBits
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.InPair
public import proofs.«01_k».proof.Proof.Gen.Sample
public import proofs.«01_k».proof.Proof.Gen.SampleIdeal
public import proofs.«01_k».proof.Proof.Gen.SampleIdeal.Value
public import proofs.«01_k».proof.Proof.Gen.SampleRefIdeal
public import proofs.«01_k».proof.Proof.Gen.SampleRefIdeal.Run
public import proofs.«01_k».proof.Proof.Gen.SampleRefIdeal.Read
public import proofs.«01_k».proof.Proof.SamplePair
public import proofs.«01_k».proof.Proof.SampleBits
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts,
  Cert.Mlp.Gen.facts, Cert.MlpIdeal.Gen.facts, Cert.MlpRefIdeal.Gen.facts,
  Cert.InProj.Gen.facts, Cert.InProjIdeal.Gen.facts, Cert.InProjRefIdeal.Gen.facts,
  Cert.Sample.Gen.facts, Cert.SampleIdeal.Gen.facts, Cert.SampleRefIdeal.Gen.facts, Cert.Pre_finite_queries_and_keys.Gen.facts,
  Cert.AttnBits.frame,
  fun m g _ => Cert.AttnLaunch.frame m g,
  fun m g _ => Cert.AttnLaunch.frame m g,
  fun m g _ => Cert.AttnPair.ref_frame m g,
  fun m g _ => Cert.AttnPair.ref_frame m g,
  Cert.MlpBits.frame,
  fun m g _ => Cert.MlpIdeal.Gen.frame m g,
  Cert.MlpPair.ref_frame,
  fun m g _ => Cert.InProj.Gen.frame m g,
  fun m g _ => Cert.InProjIdeal.Gen.frame m g,
  Cert.InPair.ref_frame,
  Cert.SampleBits.frame,
  fun m g _ => Cert.SampleIdeal.Gen.frame m g,
  Cert.SamplePair.ref_frame,
  trivial,
  Cert.AttnPair.algebraic,
  trivial,
  Cert.MlpPair.algebraic,
  Cert.InPair.preserves,
  Cert.InPair.algebraic,
  trivial,
  Cert.SamplePair.algebraic⟩

end Cert.Proof

end
